-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v27)) (v1 : (c : Dev Cert.Kernel6Ideal.nD) → Buf (Elt Ideal) ((c.tc : Thread Cert.Kernel6Ideal.nD Cert.Kernel6Ideal.τ).loc Cert.Kernel6Ideal.main_v28)) (v2 : (c : Dev Cert.Kernel6Ideal.nD) → Buf (Elt Ideal) ((c.tc : Thread Cert.Kernel6Ideal.nD Cert.Kernel6Ideal.τ).loc Cert.Kernel6Ideal.main_v29)) (v3 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27) = v0 c
          ∧ r.2.mem ((c.tc : Thread Cert.Kernel6Ideal.nD Cert.Kernel6Ideal.τ).loc Cert.Kernel6Ideal.main_v28) = v1 c
          ∧ r.2.mem ((c.tc : Thread Cert.Kernel6Ideal.nD Cert.Kernel6Ideal.τ).loc Cert.Kernel6Ideal.main_v29) = v2 c
          ∧ r.2.mem ((c.tc : Thread Cert.Kernel6Ideal.nD Cert.Kernel6Ideal.τ).loc Cert.Kernel6Ideal.main_v30) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v61) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v63) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x2048x384 : Shape := ⟨3, ![16, 2048, 384]⟩
abbrev S2048x32 : Shape := ⟨2, ![2048, 32]⟩
abbrev S16x2048x256 : Shape := ⟨3, ![16, 2048, 256]⟩
abbrev S16x2048x64 : Shape := ⟨3, ![16, 2048, 64]⟩
abbrev S16x2048x2048 : Shape := ⟨3, ![16, 2048, 2048]⟩
abbrev S384x16x192 : Shape := ⟨3, ![384, 16, 192]⟩
abbrev S256x16x128 : Shape := ⟨3, ![256, 16, 128]⟩
abbrev S_ : Shape := ⟨0, ![]⟩

class Facts : Prop where
  bitsLt_bf16_f32 : FTy.bits .bf16 < FTy.bits .f32
  reducesTo_S16x2048x384_S_d0_1_2 : S16x2048x384.ReducesTo [0, 1, 2] S_
  h_S_ : 0 < S_.numel
  reducesTo_S2048x32_S_d0_1 : S2048x32.ReducesTo [0, 1] S_
  reducesTo_S16x2048x256_S_d0_1_2 : S16x2048x256.ReducesTo [0, 1, 2] S_
  reducesTo_S16x2048x64_S_d0_1_2 : S16x2048x64.ReducesTo [0, 1, 2] S_
  reducesTo_S384x16x192_S_d0_1_2 : S384x16x192.ReducesTo [0, 1, 2] S_
  reducesTo_S256x16x128_S_d0_1_2 : S256x16x128.ReducesTo [0, 1, 2] S_

variable [Facts]

def fn_part1 {F : FTy → Type} [FloatOps F] (main_arg4 : FVec F S16x2048x64 .f32) (main_arg6 : FVec F S384x16x192 .f32) (main_arg7 : FVec F S256x16x128 .f32) (main_v15 : IVec S_ 1) : IVec S_ 1 :=
  let main_v16 : FVec F S16x2048x64 .f32 := Host.absf main_arg4
  let main_cst_7 : FVec F S_ .f32 := constant S_ .f32 0xFF800000#32
  let main_v17 : FVec F S_ .f32 := (fun x v => Host.reduce FloatOps.maximumf x v reducesTo_S16x2048x64_S_d0_1_2 h_S_) main_v16 main_cst_7
  let main_cst_8 : FVec F S_ .f32 := constant S_ .f32 0x7F800000#32
  let main_v18 : IVec S_ 1 := cmpf .olt main_v17 main_cst_8
  let main_v19 : IVec S_ 1 := andi main_v15 main_v18
  let main_v20 : FVec F S384x16x192 .f32 := Host.absf main_arg6
  let main_cst_9 : FVec F S_ .f32 := constant S_ .f32 0xFF800000#32
  let main_v21 : FVec F S_ .f32 := (fun x v => Host.reduce FloatOps.maximumf x v reducesTo_S384x16x192_S_d0_1_2 h_S_) main_v20 main_cst_9
  let main_cst_10 : FVec F S_ .f32 := constant S_ .f32 0x7F800000#32
  let main_v22 : IVec S_ 1 := cmpf .olt main_v21 main_cst_10
  let main_v23 : IVec S_ 1 := andi main_v19 main_v22
  let main_v24 : FVec F S256x16x128 .f32 := Host.absf main_arg7
  let main_cst_11 : FVec F S_ .f32 := constant S_ .f32 0xFF800000#32
  let main_v25 : FVec F S_ .f32 := (fun x v => Host.reduce FloatOps.maximumf x v reducesTo_S256x16x128_S_d0_1_2 h_S_) main_v24 main_cst_11
  let main_cst_12 : FVec F S_ .f32 := constant S_ .f32 0x7F800000#32
  let main_v26 : IVec S_ 1 := cmpf .olt main_v25 main_cst_12
  let main_v27 : IVec S_ 1 := andi main_v23 main_v26
  main_v27

def fn {F : FTy → Type} [FloatOps F] (main_arg0 : FVec F S16x2048x384 .bf16) (main_arg1 : FVec F S2048x32 .f32) (main_arg2 : FVec F S2048x32 .f32) (main_arg3 : FVec F S16x2048x256 .f32) (main_arg4 : FVec F S16x2048x64 .f32) (main_arg5 : FVec F S16x2048x2048 .bf16) (main_arg6 : FVec F S384x16x192 .f32) (main_arg7 : FVec F S256x16x128 .f32) (main_arg8 : FVec F S256x16x128 .f32) : IVec S_ 1 :=
  let main_v0 : FVec F S16x2048x384 .f32 := (extf .f32 · bitsLt_bf16_f32) main_arg0
  let main_v1 : FVec F S16x2048x384 .f32 := Host.absf main_v0
  let main_cst : FVec F S_ .f32 := constant S_ .f32 0xFF800000#32
  let main_v2 : FVec F S_ .f32 := (fun x v => Host.reduce FloatOps.maximumf x v reducesTo_S16x2048x384_S_d0_1_2 h_S_) main_v1 main_cst
  let main_cst_0 : FVec F S_ .f32 := constant S_ .f32 0x7F800000#32
  let main_v3 : IVec S_ 1 := cmpf .olt main_v2 main_cst_0
  let main_v4 : FVec F S2048x32 .f32 := Host.absf main_arg1
  let main_cst_1 : FVec F S_ .f32 := constant S_ .f32 0xFF800000#32
  let main_v5 : FVec F S_ .f32 := (fun x v => Host.reduce FloatOps.maximumf x v reducesTo_S2048x32_S_d0_1 h_S_) main_v4 main_cst_1
  let main_cst_2 : FVec F S_ .f32 := constant S_ .f32 0x7F800000#32
  let main_v6 : IVec S_ 1 := cmpf .olt main_v5 main_cst_2
  let main_v7 : IVec S_ 1 := andi main_v3 main_v6
  let main_v8 : FVec F S2048x32 .f32 := Host.absf main_arg2
  let main_cst_3 : FVec F S_ .f32 := constant S_ .f32 0xFF800000#32
  let main_v9 : FVec F S_ .f32 := (fun x v => Host.reduce FloatOps.maximumf x v reducesTo_S2048x32_S_d0_1 h_S_) main_v8 main_cst_3
  let main_cst_4 : FVec F S_ .f32 := constant S_ .f32 0x7F800000#32
  let main_v10 : IVec S_ 1 := cmpf .olt main_v9 main_cst_4
  let main_v11 : IVec S_ 1 := andi main_v7 main_v10
  let main_v12 : FVec F S16x2048x256 .f32 := Host.absf main_arg3
  let main_cst_5 : FVec F S_ .f32 := constant S_ .f32 0xFF800000#32
  let main_v13 : FVec F S_ .f32 := (fun x v => Host.reduce FloatOps.maximumf x v reducesTo_S16x2048x256_S_d0_1_2 h_S_) main_v12 main_cst_5
  let main_cst_6 : FVec F S_ .f32 := constant S_ .f32 0x7F800000#32
  let main_v14 : IVec S_ 1 := cmpf .olt main_v13 main_cst_6
  let main_v15 : IVec S_ 1 := andi main_v11 main_v14
  fn_part1 (F := F) main_arg4 main_arg6 main_arg7 main_v15
-- ==== Kernel.lean ====
abbrev S16x2048x384 : Shape := ⟨3, ![16, 2048, 384]⟩
abbrev S2048x32 : Shape := ⟨2, ![2048, 32]⟩
abbrev S16x2048x256 : Shape := ⟨3, ![16, 2048, 256]⟩
abbrev S16x2048x64 : Shape := ⟨3, ![16, 2048, 64]⟩
abbrev S16x2048x2048 : Shape := ⟨3, ![16, 2048, 2048]⟩
abbrev S384x16x192 : Shape := ⟨3, ![384, 16, 192]⟩
abbrev S256x16x128 : Shape := ⟨3, ![256, 16, 128]⟩
abbrev S384x16x128 : Shape := ⟨3, ![384, 16, 128]⟩
abbrev S384x2048 : Shape := ⟨2, ![384, 2048]⟩
abbrev S384x16x32 : Shape := ⟨3, ![384, 16, 32]⟩
abbrev S384x512 : Shape := ⟨2, ![384, 512]⟩
abbrev S16x128x256 : Shape := ⟨3, ![16, 128, 256]⟩
abbrev S16x256x128 : Shape := ⟨3, ![16, 256, 128]⟩
abbrev S16x2048x32 : Shape := ⟨3, ![16, 2048, 32]⟩
abbrev S1x16x1x2048x1x32 : Shape := ⟨6, ![1, 16, 1, 2048, 1, 32]⟩
abbrev S1x16x1x2048x4x32 : Shape := ⟨6, ![1, 16, 1, 2048, 4, 32]⟩
abbrev S16x2048x128 : Shape := ⟨3, ![16, 2048, 128]⟩
abbrev S16x2048x512 : Shape := ⟨3, ![16, 2048, 512]⟩
abbrev S1x2048x1x32 : Shape := ⟨4, ![1, 2048, 1, 32]⟩
abbrev S1x2048x16x32 : Shape := ⟨4, ![1, 2048, 16, 32]⟩
abbrev S2048x512 : Shape := ⟨2, ![2048, 512]⟩
abbrev S1x128x384 : Shape := ⟨3, ![1, 128, 384]⟩
abbrev S128x512 : Shape := ⟨2, ![128, 512]⟩
abbrev S1x512x512 : Shape := ⟨3, ![1, 512, 512]⟩
abbrev S1x128x2048 : Shape := ⟨3, ![1, 128, 2048]⟩
abbrev S2048x1 : Shape := ⟨2, ![2048, 1]⟩
abbrev S2048x256 : Shape := ⟨2, ![2048, 256]⟩
abbrev S128x384 : Shape := ⟨2, ![128, 384]⟩
abbrev S128x2048 : Shape := ⟨2, ![128, 2048]⟩
abbrev S1x128 : Shape := ⟨2, ![1, 128]⟩
abbrev S128x128 : Shape := ⟨2, ![128, 128]⟩
abbrev S1x128x256 : Shape := ⟨3, ![1, 128, 256]⟩
abbrev S128x256 : Shape := ⟨2, ![128, 256]⟩
abbrev S512x512 : Shape := ⟨2, ![512, 512]⟩
abbrev S512x256 : Shape := ⟨2, ![512, 256]⟩
abbrev S256x1 : Shape := ⟨2, ![256, 1]⟩
abbrev S1x512 : Shape := ⟨2, ![1, 512]⟩
abbrev S256x512 : Shape := ⟨2, ![256, 512]⟩
abbrev S256 : Shape := ⟨1, ![256]⟩
abbrev S256x256 : Shape := ⟨2, ![256, 256]⟩
abbrev S1x256x128 : Shape := ⟨3, ![1, 256, 128]⟩
abbrev S256x128 : Shape := ⟨2, ![256, 128]⟩
abbrev S1x128x128 : Shape := ⟨3, ![1, 128, 128]⟩

abbrev nBuf : Space → Nat
  | .hbm => 39
  | .vmem => 21
  | .smem => 0
  | _ => 0

abbrev bufTy : (tb : Table) → Fin (tcTables nBuf tb) → BufTy
  | .hbm, ⟨0, _⟩ => ⟨S16x2048x384, .bf16⟩
  | .hbm, ⟨1, _⟩ => ⟨S2048x32, .f32⟩
  | .hbm, ⟨2, _⟩ => ⟨S2048x32, .f32⟩
  | .hbm, ⟨3, _⟩ => ⟨S16x2048x256, .f32⟩
  | .hbm, ⟨4, _⟩ => ⟨S16x2048x64, .f32⟩
  | .hbm, ⟨5, _⟩ => ⟨S16x2048x2048, .bf16⟩
  | .hbm, ⟨6, _⟩ => ⟨S384x16x192, .f32⟩
  | .hbm, ⟨7, _⟩ => ⟨S256x16x128, .f32⟩
  | .hbm, ⟨8, _⟩ => ⟨S256x16x128, .f32⟩
  | .hbm, ⟨9, _⟩ => ⟨S384x16x128, .f32⟩
  | .hbm, ⟨10, _⟩ => ⟨S384x2048, .f32⟩
  | .hbm, ⟨11, _⟩ => ⟨S384x2048, .bf16⟩
  | .hbm, ⟨12, _⟩ => ⟨S384x16x32, .f32⟩
  | .hbm, ⟨13, _⟩ => ⟨S384x512, .f32⟩
  | .hbm, ⟨14, _⟩ => ⟨S384x512, .bf16⟩
  | .hbm, ⟨15, _⟩ => ⟨S384x16x32, .f32⟩
  | .hbm, ⟨16, _⟩ => ⟨S384x512, .f32⟩
  | .hbm, ⟨17, _⟩ => ⟨S384x512, .bf16⟩
  | .hbm, ⟨18, _⟩ => ⟨S16x128x256, .f32⟩
  | .hbm, ⟨19, _⟩ => ⟨S16x128x256, .bf16⟩
  | .hbm, ⟨20, _⟩ => ⟨S16x256x128, .f32⟩
  | .hbm, ⟨21, _⟩ => ⟨S16x256x128, .bf16⟩
  | .hbm, ⟨22, _⟩ => ⟨S16x2048x32, .f32⟩
  | .hbm, ⟨23, _⟩ => ⟨S1x16x1x2048x1x32, .f32⟩
  | .hbm, ⟨24, _⟩ => ⟨S1x16x1x2048x4x32, .f32⟩
  | .hbm, ⟨25, _⟩ => ⟨S16x2048x128, .f32⟩
  | .hbm, ⟨26, _⟩ => ⟨S16x2048x32, .f32⟩
  | .hbm, ⟨27, _⟩ => ⟨S1x16x1x2048x1x32, .f32⟩
  | .hbm, ⟨28, _⟩ => ⟨S1x16x1x2048x4x32, .f32⟩
  | .hbm, ⟨29, _⟩ => ⟨S16x2048x128, .f32⟩
  | .hbm, ⟨30, _⟩ => ⟨S16x2048x512, .f32⟩
  | .hbm, ⟨31, _⟩ => ⟨S16x2048x512, .bf16⟩
  | .hbm, ⟨32, _⟩ => ⟨S1x2048x1x32, .f32⟩
  | .hbm, ⟨33, _⟩ => ⟨S1x2048x16x32, .f32⟩
  | .hbm, ⟨34, _⟩ => ⟨S2048x512, .f32⟩
  | .hbm, ⟨35, _⟩ => ⟨S1x2048x1x32, .f32⟩
  | .hbm, ⟨36, _⟩ => ⟨S1x2048x16x32, .f32⟩
  | .hbm, ⟨37, _⟩ => ⟨S2048x512, .f32⟩
  | .hbm, ⟨38, _⟩ => ⟨S16x2048x2048, .bf16⟩
  | .local _ .vmem, ⟨0, _⟩ => ⟨S1x128x384, .bf16⟩
  | .local _ .vmem, ⟨1, _⟩ => ⟨S1x128x384, .bf16⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x512x512, .bf16⟩
  | .local _ .vmem, ⟨7, _⟩ => ⟨S1x512x512, .bf16⟩
  | .local _ .vmem, ⟨8, _⟩ => ⟨S1x128x2048, .bf16⟩
  | .local _ .vmem, ⟨9, _⟩ => ⟨S1x128x2048, .bf16⟩
  | .local _ .vmem, ⟨10, _⟩ => ⟨S384x2048, .bf16⟩
  | .local _ .vmem, ⟨11, _⟩ => ⟨S384x512, .bf16⟩
  | .local _ .vmem, ⟨12, _⟩ => ⟨S384x512, .bf16⟩
  | .local _ .vmem, ⟨13, _⟩ => ⟨S16x128x256, .bf16⟩
  | .local _ .vmem, ⟨14, _⟩ => ⟨S16x256x128, .bf16⟩
  | .local _ .vmem, ⟨15, _⟩ => ⟨S1x128x2048, .bf16⟩
  | .local _ .vmem, ⟨16, _⟩ => ⟨S1x128x2048, .bf16⟩
  | .local _ .vmem, ⟨17, _⟩ => ⟨S2048x512, .bf16⟩
  | .local _ .vmem, ⟨18, _⟩ => ⟨S2048x1, .f32⟩
  | .local _ .vmem, ⟨19, _⟩ => ⟨S2048x1, .f32⟩
  | .local _ .vmem, ⟨20, _⟩ => ⟨S2048x256, .f32⟩
  | _, _ => ⟨S16x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![16, 16, 4], ![false, false, false]⟩

def k0_cond4 (i : grid0.Coords) : BitVec 1 :=
  let arg2 : BitVec 32 := BitVec.ofNat 32 (i 2).val
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let v37 : BitVec 1 := Scalar.cmpi .eq arg2 v19
  let v38 : BitVec 32 := Scalar.extui v37
  let c0_i32_14 : BitVec 32 := 0#32
  let v39 : BitVec 1 := Scalar.cmpi .ne v38 c0_i32_14
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c128_i32_0 : BitVec 32 := 128#32
  let v1 : BitVec 32 := Scalar.addi v0 c128_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S384x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S16x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S16x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S16x2048x384 : Shape := ⟨3, ![16, 2048, 384]⟩
abbrev S2048x32 : Shape := ⟨2, ![2048, 32]⟩
abbrev S16x2048x256 : Shape := ⟨3, ![16, 2048, 256]⟩
abbrev S16x2048x64 : Shape := ⟨3, ![16, 2048, 64]⟩
abbrev S16x2048x2048 : Shape := ⟨3, ![16, 2048, 2048]⟩
abbrev S384x16x192 : Shape := ⟨3, ![384, 16, 192]⟩
abbrev S256x16x128 : Shape := ⟨3, ![256, 16, 128]⟩
abbrev S16x2048x16x192 : Shape := ⟨4, ![16, 2048, 16, 192]⟩
abbrev S16x2048x16x128 : Shape := ⟨4, ![16, 2048, 16, 128]⟩
abbrev S16x256x16x2048 : Shape := ⟨4, ![16, 256, 16, 2048]⟩
abbrev S16x2048x16x256 : Shape := ⟨4, ![16, 2048, 16, 256]⟩
abbrev S16x2048x16x32 : Shape := ⟨4, ![16, 2048, 16, 32]⟩
abbrev S2048x1x32 : Shape := ⟨3, ![2048, 1, 32]⟩
abbrev S1x2048x1x32 : Shape := ⟨4, ![1, 2048, 1, 32]⟩
abbrev S16x2048x16x64 : Shape := ⟨4, ![16, 2048, 16, 64]⟩
abbrev S2048 : Shape := ⟨1, ![2048]⟩
abbrev S16x2048x2048x16 : Shape := ⟨4, ![16, 2048, 2048, 16]⟩
abbrev S16x16x2048x2048 : Shape := ⟨4, ![16, 16, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x16x2048 : Shape := ⟨3, ![16, 16, 2048]⟩
abbrev S16x16x2048x1 : Shape := ⟨4, ![16, 16, 2048, 1]⟩
abbrev S16x128x16x2048 : Shape := ⟨4, ![16, 128, 16, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x384, .bf16⟩
  | .hbm, ⟨1, _⟩ => ⟨S2048x32, .f32⟩
  | .hbm, ⟨2, _⟩ => ⟨S2048x32, .f32⟩
  | .hbm, ⟨3, _⟩ => ⟨S16x2048x256, .f32⟩
  | .hbm, ⟨4, _⟩ => ⟨S16x2048x64, .f32⟩
  | .hbm, ⟨5, _⟩ => ⟨S16x2048x2048, .bf16⟩
  | .hbm, ⟨6, _⟩ => ⟨S384x16x192, .f32⟩
  | .hbm, ⟨7, _⟩ => ⟨S256x16x128, .f32⟩
  | .hbm, ⟨8, _⟩ => ⟨S256x16x128, .f32⟩
  | .hbm, ⟨9, _⟩ => ⟨S16x2048x384, .f32⟩
  | .hbm, ⟨10, _⟩ => ⟨S16x2048x16x192, .f32⟩
  | .hbm, ⟨11, _⟩ => ⟨S16x2048x16x128, .f32⟩
  | .hbm, ⟨12, _⟩ => ⟨S16x256x16x2048, .f32⟩
  | .hbm, ⟨13, _⟩ => ⟨S16x2048x16x256, .f32⟩
  | .hbm, ⟨14, _⟩ => ⟨S16x2048x16x32, .f32⟩
  | .hbm, ⟨15, _⟩ => ⟨S16x2048x16x32, .f32⟩
  | .hbm, ⟨16, _⟩ => ⟨S2048x1x32, .f32⟩
  | .hbm, ⟨17, _⟩ => ⟨S2048x1x32, .f32⟩
  | .hbm, ⟨18, _⟩ => ⟨S1x2048x1x32, .f32⟩
  | .hbm, ⟨19, _⟩ => ⟨S16x2048x16x32, .f32⟩
  | .hbm, ⟨20, _⟩ => ⟨S16x2048x16x32, .f32⟩
  | .hbm, ⟨21, _⟩ => ⟨S1x2048x1x32, .f32⟩
  | .hbm, ⟨22, _⟩ => ⟨S16x2048x16x32, .f32⟩
  | .hbm, ⟨23, _⟩ => ⟨S16x2048x16x32, .f32⟩
  | .hbm, ⟨24, _⟩ => ⟨S16x2048x16x32, .f32⟩
  | .hbm, ⟨25, _⟩ => ⟨S1x2048x1x32, .f32⟩
  | .hbm, ⟨26, _⟩ => ⟨S16x2048x16x32, .f32⟩
  | .hbm, ⟨27, _⟩ => ⟨S16x2048x16x32, .f32⟩
  | .hbm, ⟨28, _⟩ => ⟨S1x2048x1x32, .f32⟩
  | .hbm, ⟨29, _⟩ => ⟨S16x2048x16x32, .f32⟩
  | .hbm, ⟨30, _⟩ => ⟨S16x2048x16x32, .f32⟩
  | .hbm, ⟨31, _⟩ => ⟨S16x2048x16x32, .f32⟩
  | .hbm, ⟨32, _⟩ => ⟨S16x2048x16x64, .f32⟩
  | .hbm, ⟨33, _⟩ => ⟨S2048, .i32⟩
  | .hbm, ⟨34, _⟩ => ⟨S16x2048x2048x16, .f32⟩
  | .hbm, ⟨35, _⟩ => ⟨S16x16x2048x2048, .f32⟩
  | .hbm, ⟨36, _⟩ => ⟨S16x2048x2048x16, .f32⟩
  | .hbm, ⟨37, _⟩ => ⟨S16x16x2048x2048, .f32⟩
  | .hbm, ⟨38, _⟩ => ⟨S16x16x2048x2048, .f32⟩
  | .hbm, ⟨39, _⟩ => ⟨S1x2048, .i32⟩
  | .hbm, ⟨40, _⟩ => ⟨S2048x1, .i32⟩
  | .hbm, ⟨41, _⟩ => ⟨S2048x2048, .i32⟩
  | .hbm, ⟨42, _⟩ => ⟨S2048x2048, .i32⟩
  | .hbm, ⟨43, _⟩ => ⟨S2048x2048, .i1⟩
  | .hbm, ⟨44, _⟩ => ⟨S_, .f32⟩
  | .hbm, ⟨45, _⟩ => ⟨S16x16x2048x2048, .f32⟩
  | .hbm, ⟨46, _⟩ => ⟨S16x16x2048x2048, .f32⟩
  | .hbm, ⟨47, _⟩ => ⟨S_, .f32⟩
  | .hbm, ⟨48, _⟩ => ⟨S_, .f32⟩
  | .hbm, ⟨49, _⟩ => ⟨S16x16x2048x2048, .i1⟩
  | .hbm, ⟨50, _⟩ => ⟨S16x16x2048x2048, .f32⟩
  | .hbm, ⟨51, _⟩ => ⟨S16x16x2048x2048, .f32⟩
  | .hbm, ⟨52, _⟩ => ⟨S_, .f32⟩
  | .hbm, ⟨53, _⟩ => ⟨S16x16x2048, .f32⟩
  | .hbm, ⟨54, _⟩ => ⟨S_, .f32⟩
  | .hbm, ⟨55, _⟩ => ⟨S16x16x2048, .f32⟩
  | .hbm, ⟨56, _⟩ => ⟨S16x16x2048, .f32⟩
  | .hbm, ⟨57, _⟩ => ⟨S16x16x2048x1, .f32⟩
  | .hbm, ⟨58, _⟩ => ⟨S16x16x2048x2048, .f32⟩
  | .hbm, ⟨59, _⟩ => ⟨S16x16x2048x2048, .f32⟩
  | .hbm, ⟨60, _⟩ => ⟨S16x16x2048x2048, .f32⟩
  | .hbm, ⟨61, _⟩ => ⟨S_, .f32⟩
  | .hbm, ⟨62, _⟩ => ⟨S16x16x2048, .f32⟩
  | .hbm, ⟨63, _⟩ => ⟨S16x16x2048x1, .f32⟩
  | .hbm, ⟨64, _⟩ => ⟨S16x16x2048x2048, .f32⟩
  | .hbm, ⟨65, _⟩ => ⟨S16x16x2048x2048, .f32⟩
  | .hbm, ⟨66, _⟩ => ⟨S16x256x16x2048, .f32⟩
  | .hbm, ⟨67, _⟩ => ⟨S16x2048x16x256, .f32⟩
  | .hbm, ⟨68, _⟩ => ⟨S16x128x16x2048, .f32⟩
  | .hbm, ⟨69, _⟩ => ⟨S16x2048x16x128, .f32⟩
  | .hbm, ⟨70, _⟩ => ⟨S16x2048x2048, .f32⟩
  | .hbm, ⟨71, _⟩ => ⟨S16x2048x2048, .f32⟩
  | .hbm, ⟨72, _⟩ => ⟨S16x2048x2048, .f32⟩
  | .hbm, ⟨73, _⟩ => ⟨S16x2048x2048, .bf16⟩
  | _, _ => ⟨S16x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x6144 : Shape := ⟨2, ![1024, 6144]⟩
abbrev S6144 : Shape := ⟨1, ![6144]⟩
abbrev S32768x1024 : Shape := ⟨2, ![32768, 1024]⟩
abbrev S1x6144 : Shape := ⟨2, ![1, 6144]⟩
abbrev S1x1024 : Shape := ⟨2, ![1, 1024]⟩
abbrev S32768x2048 : Shape := ⟨2, ![32768, 2048]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S16x2048x2048 : Shape := ⟨3, ![16, 2048, 2048]⟩
abbrev S16x30x2048 : Shape := ⟨3, ![16, 30, 2048]⟩

abbrev nBuf : Space → Nat
  | .hbm => 13
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S32768x1024, .f32⟩
  | .hbm, ⟨5, _⟩ => ⟨S1x6144, .f32⟩
  | .hbm, ⟨6, _⟩ => ⟨S1x1024, .f32⟩
  | .hbm, ⟨7, _⟩ => ⟨S1024x6144, .bf16⟩
  | .hbm, ⟨8, _⟩ => ⟨S32768x2048, .f32⟩
  | .hbm, ⟨9, _⟩ => ⟨S32768x2048, .bf16⟩
  | .hbm, ⟨10, _⟩ => ⟨S16x2048x2048, .f32⟩
  | .hbm, ⟨11, _⟩ => ⟨S16x2048x2048, .bf16⟩
  | .hbm, ⟨12, _⟩ => ⟨S16x30x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x2048x1024 : Shape := ⟨3, ![16, 2048, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6144 : Shape := ⟨3, ![16, 2048, 6144]⟩
abbrev S1x1x6144 : Shape := ⟨3, ![1, 1, 6144]⟩
abbrev S16x2048x2048 : Shape := ⟨3, ![16, 2048, 2048]⟩
abbrev S16x30x2048 : Shape := ⟨3, ![16, 30, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x6144, .f32⟩
  | .hbm, ⟨21, _⟩ => ⟨S1x1x6144, .f32⟩
  | .hbm, ⟨22, _⟩ => ⟨S16x2048x6144, .f32⟩
  | .hbm, ⟨23, _⟩ => ⟨S16x2048x6144, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .f32⟩
  | .hbm, ⟨41, _⟩ => ⟨S_, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .bf16⟩
  | .hbm, ⟨46, _⟩ => ⟨S16x30x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S32768x2048 : Shape := ⟨2, ![32768, 2048]⟩
abbrev S2048x1024 : Shape := ⟨2, ![2048, 1024]⟩
abbrev S1024 : Shape := ⟨1, ![1024]⟩
abbrev S32768x1024 : Shape := ⟨2, ![32768, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S1024, .f32⟩
  | .hbm, ⟨3, _⟩ => ⟨S32768x1024, .f32⟩
  | .hbm, ⟨4, _⟩ => ⟨S2048x1024, .bf16⟩
  | .hbm, ⟨5, _⟩ => ⟨S1x1024, .f32⟩
  | .hbm, ⟨6, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x2048 : Shape := ⟨2, ![32768, 2048]⟩
abbrev S2048x1024 : Shape := ⟨2, ![2048, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S1024, .f32⟩
  | .hbm, ⟨3, _⟩ => ⟨S32768x1024, .f32⟩
  | .hbm, ⟨4, _⟩ => ⟨S32768x2048, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x2048 : Shape := ⟨2, ![32768, 2048]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S32768x2048, .f32⟩
  | .hbm, ⟨6, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x1024 : Shape := ⟨2, ![32768, 1024]⟩
abbrev S1024 : Shape := ⟨1, ![1024]⟩
abbrev S1024x4096 : Shape := ⟨2, ![1024, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4096, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel5.lean ====
abbrev S32768x2048 : Shape := ⟨2, ![32768, 2048]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S16x2048x1024 : Shape := ⟨3, ![16, 2048, 1024]⟩
abbrev S2048x16x1024 : Shape := ⟨3, ![2048, 16, 1024]⟩
abbrev S32768x1024 : Shape := ⟨2, ![32768, 1024]⟩
abbrev S1x2048 : Shape := ⟨2, ![1, 2048]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S16x2048x1024, .f32⟩
  | .hbm, ⟨7, _⟩ => ⟨S2048x16x1024, .f32⟩
  | .hbm, ⟨8, _⟩ => ⟨S32768x1024, .f32⟩
  | .hbm, ⟨9, _⟩ => ⟨S2048x2048, .bf16⟩
  | .hbm, ⟨10, _⟩ => ⟨S1x2048, .f32⟩
  | .hbm, ⟨11, _⟩ => ⟨S2048x1024, .bf16⟩
  | .hbm, ⟨12, _⟩ => ⟨S1x1024, .f32⟩
  | .hbm, ⟨13, _⟩ => ⟨S32768x1024, .f32⟩
  | .hbm, ⟨14, _⟩ => ⟨S2048x16x1024, .f32⟩
  | .hbm, ⟨15, _⟩ => ⟨S16x2048x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x2048 : Shape := ⟨2, ![32768, 2048]⟩
abbrev S2048x2048 : Shape := ⟨2, ![2048, 2048]⟩
abbrev S2048 : Shape := ⟨1, ![2048]⟩
abbrev S2048x1024 : Shape := ⟨2, ![2048, 1024]⟩
abbrev S1024 : Shape := ⟨1, ![1024]⟩
abbrev S16x2048x1024 : Shape := ⟨3, ![16, 2048, 1024]⟩
abbrev S2048x16x2048 : Shape := ⟨3, ![2048, 16, 2048]⟩
abbrev S16x2048x2048 : Shape := ⟨3, ![16, 2048, 2048]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S16x2048x1024, .f32⟩
  | .hbm, ⟨7, _⟩ => ⟨S2048x16x2048, .bf16⟩
  | .hbm, ⟨8, _⟩ => ⟨S16x2048x2048, .bf16⟩
  | .hbm, ⟨9, _⟩ => ⟨S16x2048x2048, .f32⟩
  | .hbm, ⟨10, _⟩ => ⟨S2048x16x2048, .bf16⟩
  | .hbm, ⟨11, _⟩ => ⟨S16x2048x2048, .bf16⟩
  | .hbm, ⟨12, _⟩ => ⟨S16x2048x2048, .f32⟩
  | .hbm, ⟨13, _⟩ => ⟨S16x2048x2048, .f32⟩
  | .hbm, ⟨14, _⟩ => ⟨S1x1x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S16x2048x1024 : Shape := ⟨3, ![16, 2048, 1024]⟩
abbrev S1024 : Shape := ⟨1, ![1024]⟩
abbrev S1024x2752 : Shape := ⟨2, ![1024, 2752]⟩
abbrev S384 : Shape := ⟨1, ![384]⟩
abbrev S256 : Shape := ⟨1, ![256]⟩
abbrev S2048x32 : Shape := ⟨2, ![2048, 32]⟩
abbrev S1024x640 : Shape := ⟨2, ![1024, 640]⟩
abbrev S1024x32 : Shape := ⟨2, ![1024, 32]⟩
abbrev S1x1024x1x32 : Shape := ⟨4, ![1, 1024, 1, 32]⟩
abbrev S1x1024x4x32 : Shape := ⟨4, ![1, 1024, 4, 32]⟩
abbrev S1024x128 : Shape := ⟨2, ![1024, 128]⟩
abbrev S1024x896 : Shape := ⟨2, ![1024, 896]⟩
abbrev S1024x2048 : Shape := ⟨2, ![1024, 2048]⟩
abbrev S32768x1024 : Shape := ⟨2, ![32768, 1024]⟩
abbrev S1x1024 : Shape := ⟨2, ![1, 1024]⟩
abbrev S1x384 : Shape := ⟨2, ![1, 384]⟩
abbrev S1x256 : Shape := ⟨2, ![1, 256]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S32768x384 : Shape := ⟨2, ![32768, 384]⟩
abbrev S32768x256 : Shape := ⟨2, ![32768, 256]⟩
abbrev S32768x128 : Shape := ⟨2, ![32768, 128]⟩
abbrev S32768x512 : Shape := ⟨2, ![32768, 512]⟩
abbrev S32768x2048 : Shape := ⟨2, ![32768, 2048]⟩
abbrev S256x1024 : Shape := ⟨2, ![256, 1024]⟩
abbrev S256x128 : Shape := ⟨2, ![256, 128]⟩
abbrev S256x384 : Shape := ⟨2, ![256, 384]⟩
abbrev S256x256 : Shape := ⟨2, ![256, 256]⟩
abbrev S256x512 : Shape := ⟨2, ![256, 512]⟩
abbrev S256x2048 : Shape := ⟨2, ![256, 2048]⟩
abbrev S256x1 : Shape := ⟨2, ![256, 1]⟩
abbrev S256x896 : Shape := ⟨2, ![256, 896]⟩
abbrev S32768x32 : Shape := ⟨2, ![32768, 32]⟩
abbrev S32768x64 : Shape := ⟨2, ![32768, 64]⟩
abbrev S16x2048x384 : Shape := ⟨3, ![16, 2048, 384]⟩
abbrev S16x2048x256 : Shape := ⟨3, ![16, 2048, 256]⟩
abbrev S16x2048x64 : Shape := ⟨3, ![16, 2048, 64]⟩
abbrev S16x2048x2048 : Shape := ⟨3, ![16, 2048, 2048]⟩

abbrev nBuf : Space → Nat
  | .hbm => 43
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2752, .f32⟩
  | .hbm, ⟨3, _⟩ => ⟨S384, .f32⟩
  | .hbm, ⟨4, _⟩ => ⟨S256, .f32⟩
  | .hbm, ⟨5, _⟩ => ⟨S2048x32, .f32⟩
  | .hbm, ⟨6, _⟩ => ⟨S2048x32, .f32⟩
  | .hbm, ⟨7, _⟩ => ⟨S1024x640, .f32⟩
  | .hbm, ⟨8, _⟩ => ⟨S1024x32, .f32⟩
  | .hbm, ⟨9, _⟩ => ⟨S1x1024x1x32, .f32⟩
  | .hbm, ⟨10, _⟩ => ⟨S1x1024x4x32, .f32⟩
  | .hbm, ⟨11, _⟩ => ⟨S1024x128, .f32⟩
  | .hbm, ⟨12, _⟩ => ⟨S1024x32, .f32⟩
  | .hbm, ⟨13, _⟩ => ⟨S1x1024x1x32, .f32⟩
  | .hbm, ⟨14, _⟩ => ⟨S1x1024x4x32, .f32⟩
  | .hbm, ⟨15, _⟩ => ⟨S1024x128, .f32⟩
  | .hbm, ⟨16, _⟩ => ⟨S1024x896, .f32⟩
  | .hbm, ⟨17, _⟩ => ⟨S1024x896, .bf16⟩
  | .hbm, ⟨18, _⟩ => ⟨S1024x2048, .f32⟩
  | .hbm, ⟨19, _⟩ => ⟨S1024x2048, .bf16⟩
  | .hbm, ⟨20, _⟩ => ⟨S32768x1024, .f32⟩
  | .hbm, ⟨21, _⟩ => ⟨S1x1024, .f32⟩
  | .hbm, ⟨22, _⟩ => ⟨S1x384, .f32⟩
  | .hbm, ⟨23, _⟩ => ⟨S1x256, .f32⟩
  | .hbm, ⟨24, _⟩ => ⟨S1x2048x1x32, .f32⟩
  | .hbm, ⟨25, _⟩ => ⟨S1x2048x4x32, .f32⟩
  | .hbm, ⟨26, _⟩ => ⟨S2048x128, .f32⟩
  | .hbm, ⟨27, _⟩ => ⟨S1x2048x1x32, .f32⟩
  | .hbm, ⟨28, _⟩ => ⟨S1x2048x4x32, .f32⟩
  | .hbm, ⟨29, _⟩ => ⟨S2048x128, .f32⟩
  | .hbm, ⟨30, _⟩ => ⟨S32768x384, .bf16⟩
  | .hbm, ⟨31, _⟩ => ⟨S32768x256, .f32⟩
  | .hbm, ⟨32, _⟩ => ⟨S32768x128, .f32⟩
  | .hbm, ⟨33, _⟩ => ⟨S32768x128, .f32⟩
  | .hbm, ⟨34, _⟩ => ⟨S32768x512, .bf16⟩
  | .hbm, ⟨35, _⟩ => ⟨S32768x2048, .bf16⟩
  | .hbm, ⟨36, _⟩ => ⟨S32768x32, .f32⟩
  | .hbm, ⟨37, _⟩ => ⟨S32768x32, .f32⟩
  | .hbm, ⟨38, _⟩ => ⟨S32768x64, .f32⟩
  | .hbm, ⟨39, _⟩ => ⟨S16x2048x384, .bf16⟩
  | .hbm, ⟨40, _⟩ => ⟨S16x2048x256, .f32⟩
  | .hbm, ⟨41, _⟩ => ⟨S16x2048x64, .f32⟩
  | .hbm, ⟨42, _⟩ => ⟨S16x2048x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x896, .bf16⟩
  | .local _ .vmem, ⟨4, _⟩ => ⟨S1024x2048, .bf16⟩
  | .local _ .vmem, ⟨5, _⟩ => ⟨S1x384, .f32⟩
  | .local _ .vmem, ⟨6, _⟩ => ⟨S1x256, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x384, .bf16⟩
  | .local _ .vmem, ⟨12, _⟩ => ⟨S256x384, .bf16⟩
  | .local _ .vmem, ⟨13, _⟩ => ⟨S256x256, .f32⟩
  | .local _ .vmem, ⟨14, _⟩ => ⟨S256x256, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x512, .bf16⟩
  | .local _ .vmem, ⟨20, _⟩ => ⟨S256x512, .bf16⟩
  | .local _ .vmem, ⟨21, _⟩ => ⟨S256x2048, .bf16⟩
  | .local _ .vmem, ⟨22, _⟩ => ⟨S256x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S16x2048x1024 : Shape := ⟨3, ![16, 2048, 1024]⟩
abbrev S1024 : Shape := ⟨1, ![1024]⟩
abbrev S1024x2752 : Shape := ⟨2, ![1024, 2752]⟩
abbrev S384 : Shape := ⟨1, ![384]⟩
abbrev S256 : Shape := ⟨1, ![256]⟩
abbrev S2048x32 : Shape := ⟨2, ![2048, 32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2752 : Shape := ⟨3, ![16, 2048, 2752]⟩
abbrev S16x2048x384 : Shape := ⟨3, ![16, 2048, 384]⟩
abbrev S16x2048x256 : Shape := ⟨3, ![16, 2048, 256]⟩
abbrev S16x2048x64 : Shape := ⟨3, ![16, 2048, 64]⟩
abbrev S16x2048x2048 : Shape := ⟨3, ![16, 2048, 2048]⟩
abbrev S16x2048x32 : Shape := ⟨3, ![16, 2048, 32]⟩
abbrev S1x2048x32 : Shape := ⟨3, ![1, 2048, 32]⟩
abbrev S1x1x384 : Shape := ⟨3, ![1, 1, 384]⟩
abbrev S1x1x256 : Shape := ⟨3, ![1, 1, 256]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2752, .f32⟩
  | .hbm, ⟨3, _⟩ => ⟨S384, .f32⟩
  | .hbm, ⟨4, _⟩ => ⟨S256, .f32⟩
  | .hbm, ⟨5, _⟩ => ⟨S2048x32, .f32⟩
  | .hbm, ⟨6, _⟩ => ⟨S2048x32, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x2752, .f32⟩
  | .hbm, ⟨24, _⟩ => ⟨S16x2048x384, .f32⟩
  | .hbm, ⟨25, _⟩ => ⟨S16x2048x256, .f32⟩
  | .hbm, ⟨26, _⟩ => ⟨S16x2048x64, .f32⟩
  | .hbm, ⟨27, _⟩ => ⟨S16x2048x2048, .f32⟩
  | .hbm, ⟨28, _⟩ => ⟨S16x2048x32, .f32⟩
  | .hbm, ⟨29, _⟩ => ⟨S16x2048x32, .f32⟩
  | .hbm, ⟨30, _⟩ => ⟨S1x2048x32, .f32⟩
  | .hbm, ⟨31, _⟩ => ⟨S16x2048x32, .f32⟩
  | .hbm, ⟨32, _⟩ => ⟨S16x2048x32, .f32⟩
  | .hbm, ⟨33, _⟩ => ⟨S1x2048x32, .f32⟩
  | .hbm, ⟨34, _⟩ => ⟨S16x2048x32, .f32⟩
  | .hbm, ⟨35, _⟩ => ⟨S16x2048x32, .f32⟩
  | .hbm, ⟨36, _⟩ => ⟨S16x2048x32, .f32⟩
  | .hbm, ⟨37, _⟩ => ⟨S1x2048x32, .f32⟩
  | .hbm, ⟨38, _⟩ => ⟨S16x2048x32, .f32⟩
  | .hbm, ⟨39, _⟩ => ⟨S16x2048x32, .f32⟩
  | .hbm, ⟨40, _⟩ => ⟨S1x2048x32, .f32⟩
  | .hbm, ⟨41, _⟩ => ⟨S16x2048x32, .f32⟩
  | .hbm, ⟨42, _⟩ => ⟨S16x2048x32, .f32⟩
  | .hbm, ⟨43, _⟩ => ⟨S16x2048x32, .f32⟩
  | .hbm, ⟨44, _⟩ => ⟨S16x2048x64, .f32⟩
  | .hbm, ⟨45, _⟩ => ⟨S16x2048x384, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x384, .f32⟩
  | .hbm, ⟨57, _⟩ => ⟨S16x2048x384, .f32⟩
  | .hbm, ⟨58, _⟩ => ⟨S1x1x384, .f32⟩
  | .hbm, ⟨59, _⟩ => ⟨S16x2048x384, .f32⟩
  | .hbm, ⟨60, _⟩ => ⟨S16x2048x384, .f32⟩
  | .hbm, ⟨61, _⟩ => ⟨S16x2048x384, .bf16⟩
  | .hbm, ⟨62, _⟩ => ⟨S16x2048x256, .f32⟩
  | .hbm, ⟨63, _⟩ => ⟨S_, .f32⟩
  | .hbm, ⟨64, _⟩ => ⟨S16x2048, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x1, .f32⟩
  | .hbm, ⟨73, _⟩ => ⟨S16x2048x256, .f32⟩
  | .hbm, ⟨74, _⟩ => ⟨S16x2048x256, .f32⟩
  | .hbm, ⟨75, _⟩ => ⟨S1x1x256, .f32⟩
  | .hbm, ⟨76, _⟩ => ⟨S16x2048x256, .f32⟩
  | .hbm, ⟨77, _⟩ => ⟨S16x2048x256, .f32⟩
  | .hbm, ⟨78, _⟩ => ⟨S16x2048x2048, .f32⟩
  | .hbm, ⟨79, _⟩ => ⟨S16x2048x2048, .f32⟩
  | .hbm, ⟨80, _⟩ => ⟨S_, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048x2048, .f32⟩
  | .hbm, ⟨85, _⟩ => ⟨S16x2048x2048, .f32⟩
  | .hbm, ⟨86, _⟩ => ⟨S16x2048x2048, .f32⟩
  | .hbm, ⟨87, _⟩ => ⟨S16x2048x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.Segments.lean ====
/-
  The body of the attention call as four segments.

  At grid point (b, i, j) the body does up to four things, each under a condition on the point:
    · the FIRST segment (j = 0) projects the queries of the tile into the query scratch and resets the running maximum,
      sum and accumulator;
    · the MASKED segment (the key block crosses the diagonal) folds a key block in, dropping the keys that come later;
    · the PLAIN segment (the key block lies wholly before the query tile) folds a key block in;
    · the LAST segment (the block on the diagonal) divides, projects and gates, and stores the output tile.
  Each segment is named here with the statements of its branch, so that it can be run on its own; `body_eq` says that the
  body is the four in a row, each under its condition, and `cond…_iff` gives each condition as arithmetic of the point.
-/
module

public import proofs.«01_k».proof.Proof.Gen.KernelIdeal.Frame
public import proofs.«01_k».proof.Proof.Gen.KernelIdeal.Skeleton

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-! ## The conditions -/

/-- The key block is the first one. -/
abbrev condInit (i : grid0.Coords) : Prop :=
  (Scalar.cmpi .ne (Scalar.extui (Scalar.cmpi .eq (BitVec.ofNat 32 (i 2).val) 0#32)) 0#32) = 1#1
/-- The key block crosses the diagonal of the query tile. -/
abbrev condMask (i : grid0.Coords) : Prop :=
  (Scalar.cmpi .ne (Scalar.extui (Scalar.andi (Scalar.cmpi .sle (BitVec.ofNat 32 (i 2).val) (Scalar.select (Scalar.andi (Scalar.cmpi .ne (Scalar.subi (Scalar.extui (Scalar.cmpi .sgt (Scalar.subi (Scalar.addi (Scalar.muli (BitVec.ofNat 32 (i 1).val) 128#32) 128#32) 1#32) 0#32)) (Scalar.extui (Scalar.cmpi .slt (Scalar.subi (Scalar.addi (Scalar.muli (BitVec.ofNat 32 (i 1).val) 128#32) 128#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 128#32) 128#32) 1#32) 512#32) 0#32)) (Scalar.subi (Scalar.divsi (Scalar.subi (Scalar.addi (Scalar.muli (BitVec.ofNat 32 (i 1).val) 128#32) 128#32) 1#32) 512#32) 1#32) (Scalar.divsi (Scalar.subi (Scalar.addi (Scalar.muli (BitVec.ofNat 32 (i 1).val) 128#32) 128#32) 1#32) 512#32))) (Scalar.cmpi .sgt (Scalar.subi (Scalar.addi (Scalar.muli (BitVec.ofNat 32 (i 2).val) 512#32) 512#32) 1#32) (Scalar.muli (BitVec.ofNat 32 (i 1).val) 128#32)))) 0#32) = 1#1
/-- The key block lies wholly before the query tile. -/
abbrev condPlain (i : grid0.Coords) : Prop :=
  (Scalar.cmpi .ne (Scalar.extui (Scalar.andi (Scalar.cmpi .sle (BitVec.ofNat 32 (i 2).val) (Scalar.select (Scalar.andi (Scalar.cmpi .ne (Scalar.subi (Scalar.extui (Scalar.cmpi .sgt (Scalar.subi (Scalar.addi (Scalar.muli (BitVec.ofNat 32 (i 1).val) 128#32) 128#32) 1#32) 0#32)) (Scalar.extui (Scalar.cmpi .slt (Scalar.subi (Scalar.addi (Scalar.muli (BitVec.ofNat 32 (i 1).val) 128#32) 128#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 128#32) 128#32) 1#32) 512#32) 0#32)) (Scalar.subi (Scalar.divsi (Scalar.subi (Scalar.addi (Scalar.muli (BitVec.ofNat 32 (i 1).val) 128#32) 128#32) 1#32) 512#32) 1#32) (Scalar.divsi (Scalar.subi (Scalar.addi (Scalar.muli (BitVec.ofNat 32 (i 1).val) 128#32) 128#32) 1#32) 512#32))) (Scalar.xori (Scalar.cmpi .sgt (Scalar.subi (Scalar.addi (Scalar.muli (BitVec.ofNat 32 (i 2).val) 512#32) 512#32) 1#32) (Scalar.muli (BitVec.ofNat 32 (i 1).val) 128#32)) 1#1))) 0#32) = 1#1
/-- The index of the last key block a query tile looks at, as the body computes it. -/
abbrev lastBlock (i : grid0.Coords) : BitVec 32 := Scalar.select (Scalar.andi (Scalar.cmpi .ne (Scalar.subi (Scalar.extui (Scalar.cmpi .sgt (Scalar.subi (Scalar.addi (Scalar.muli (BitVec.ofNat 32 (i 1).val) 128#32) 128#32) 1#32) 0#32)) (Scalar.extui (Scalar.cmpi .slt (Scalar.subi (Scalar.addi (Scalar.muli (BitVec.ofNat 32 (i 1).val) 128#32) 128#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 128#32) 128#32) 1#32) 512#32) 0#32)) (Scalar.subi (Scalar.divsi (Scalar.subi (Scalar.addi (Scalar.muli (BitVec.ofNat 32 (i 1).val) 128#32) 128#32) 1#32) 512#32) 1#32) (Scalar.divsi (Scalar.subi (Scalar.addi (Scalar.muli (BitVec.ofNat 32 (i 1).val) 128#32) 128#32) 1#32) 512#32)
/-- The word the plain condition is read from. -/
abbrev plainWord (i : grid0.Coords) : BitVec 32 := (Scalar.extui (Scalar.andi (Scalar.cmpi .sle (BitVec.ofNat 32 (i 2).val) (Scalar.select (Scalar.andi (Scalar.cmpi .ne (Scalar.subi (Scalar.extui (Scalar.cmpi .sgt (Scalar.subi (Scalar.addi (Scalar.muli (BitVec.ofNat 32 (i 1).val) 128#32) 128#32) 1#32) 0#32)) (Scalar.extui (Scalar.cmpi .slt (Scalar.subi (Scalar.addi (Scalar.muli (BitVec.ofNat 32 (i 1).val) 128#32) 128#32) 1#32) 0#32))) (Scalar.subi (Scalar.extui (Scalar.cmpi .sgt 512#32 0#32)) (Scalar.extui (Scalar.cmpi .slt 512#32 0#32)))) (Scalar.cmpi .ne (Scalar.remsi (Scalar.subi (Scalar.addi (Scalar.muli (BitVec.ofNat 32 (i 1).val) 128#32) 128#32) 1#32) 512#32) 0#32)) (Scalar.subi (Scalar.divsi (Scalar.subi (Scalar.addi (Scalar.muli (BitVec.ofNat 32 (i 1).val) 128#32) 128#32) 1#32) 512#32) 1#32) (Scalar.divsi (Scalar.subi (Scalar.addi (Scalar.muli (BitVec.ofNat 32 (i 1).val) 128#32) 128#32) 1#32) 512#32))) (Scalar.xori (Scalar.cmpi .sgt (Scalar.subi (Scalar.addi (Scalar.muli (BitVec.ofNat 32 (i 2).val) 512#32) 512#32) 1#32) (Scalar.muli (BitVec.ofNat 32 (i 1).val) 128#32)) 1#1)))
/-- The key block is the last one the query tile looks at. -/
abbrev condLast (i : grid0.Coords) : Prop := k0_cond4 i = 1#1

theorem condInit_iff : ∀ t : Fin cfg0.N, condInit (grid0.coords t) ↔ t.val % 4 = 0 :=
  (by decide +kernel : ∀ t : Fin grid0.N, condInit (grid0.coords t) ↔ t.val % 4 = 0)

theorem condMask_iff : ∀ t : Fin cfg0.N, condMask (grid0.coords t) ↔ t.val / 4 % 16 / 4 = t.val % 4 :=
  (by decide +kernel : ∀ t : Fin grid0.N, condMask (grid0.coords t) ↔ t.val / 4 % 16 / 4 = t.val % 4)

theorem condPlain_iff : ∀ t : Fin cfg0.N, condPlain (grid0.coords t) ↔ t.val % 4 < t.val / 4 % 16 / 4 :=
  (by decide +kernel : ∀ t : Fin grid0.N, condPlain (grid0.coords t) ↔ t.val % 4 < t.val / 4 % 16 / 4)

theorem condLast_iff : ∀ t : Fin cfg0.N, condLast (grid0.coords t) ↔ t.val / 4 % 16 / 4 = t.val % 4 :=
  (by decide +kernel : ∀ t : Fin grid0.N, condLast (grid0.coords t) ↔ t.val / 4 % 16 / 4 = t.val % 4)

/-! ## The segments -/

section
variable (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

/-- The tile's queries into the query scratch; the running maximum, sum and accumulator reset. -/
def segInit {α : Type} (k : Prog (TpuEff nD τ sig (Elt F) Λ₀ .tc) α) : Prog (TpuEff nD τ sig (Elt F) Λ₀ .tc) α := do
  let ⟨v46, v55, v58, v61, v75, v77, c0_i32_33⟩ : Σ' (v46 : FVec F S128x2048 .f32) (v55 : FVec F S128x512 .f32) (v58 : FVec F S128x512 .f32) (v61 : IVec S1x128 32) (v75 : IVec S1x128 1) (v77 : IVec S1x128 32), BitVec 32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v83, v114, v115, v116⟩ : Σ' (v83 : IVec S1x128 32) (v114 : IVec S1x128 1) (v115 : FVec F S128x128 .f32), Vec F S1x128x256 .bf16 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v61 v75 v77 c0_i32_33
  let ⟨v143, v153, cst_62, v155⟩ : Σ' (v143 : IVec S1x128 1) (v153 : FVec F S128x128 .f32) (cst_62 : F .f32), IVec S128x128 1 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v114 v115 v116
  let v195 : FVec F S128x128 .f32 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v143 v153 cst_62 v155
  let ⟨v230, v231, v232⟩ : Σ' (v230 : IVec S1x128 1) (v231 : FVec F S128x128 .f32), Vec F S1x128x256 .bf16 ← k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v195
  let ⟨v259, v269, cst_106, v271⟩ : Σ' (v259 : IVec S1x128 1) (v269 : FVec F S128x128 .f32) (cst_106 : F .f32), IVec S128x128 1 ← k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v230 v231 v232
  let v311 : FVec F S128x128 .f32 ← k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v259 v269 cst_106 v271
  let ⟨v346, v347, v348⟩ : Σ' (v346 : IVec S1x128 1) (v347 : FVec F S128x128 .f32), Vec F S1x128x256 .bf16 ← k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v311
  let ⟨v375, v385, cst_150, v387⟩ : Σ' (v375 : IVec S1x128 1) (v385 : FVec F S128x128 .f32) (cst_150 : F .f32), IVec S128x128 1 ← k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v346 v347 v348
  let v427 : FVec F S128x128 .f32 ← k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v375 v385 cst_150 v387
  let ⟨v462, v463, v464⟩ : Σ' (v462 : IVec S1x128 1) (v463 : FVec F S128x128 .f32), Vec F S1x128x256 .bf16 ← k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v427
  let ⟨v491, v501, cst_194, v503⟩ : Σ' (v491 : IVec S1x128 1) (v501 : FVec F S128x128 .f32) (cst_194 : F .f32), IVec S128x128 1 ← k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v462 v463 v464
  let v543 : FVec F S128x128 .f32 ← k0_part13 i arg3 harg3 arg4 harg4 arg5 harg5 arg6 harg6 arg7 harg7 arg8 harg8 arg9 harg9 arg10 harg10 arg11 harg11 arg12 harg12 arg13 harg13 arg14 harg14 arg15 harg15 arg16 harg16 arg17 harg17 v46 v55 v58 v83 v491 v501 cst_194 v503
  let v545 : Vec F S128x128 .bf16 ← Prog.lift (.load arg14 (Rect.unit (s := S2048x512) ![1920, 384] S128x128.size inb_S2048x512_S128x128_1920_384).toLoadRect (View.loadsAt_vmem h_S128x128))
  Prog.lift (.store arg14 (Rect.unit (s := S2048x512) ![1920, 384] S128x128.size inb_S2048x512_S128x128_1920_384) (k0_pay245 v543) Finset.univ (View.stores_vmem h_S128x128 (harg14.storeExact_slice rfl _ packedbf16_S2048x512_S128x128_1920_384) (fun _ => rfl)) (.inl rfl))
  let v549 : Vec F S2048x1 .f32 ← Prog.lift (.load arg15 (Rect.unit (s := S2048x1) ![0, 0] S2048x1.size inb_S2048x1_S2048x1_0_0).toLoadRect (View.loadsAt_vmem h_S2048x1))
  Prog.lift (.store arg15 (Rect.unit (s := S2048x1) ![0, 0] S2048x1.size inb_S2048x1_S2048x1_0_0) (k0_pay246 (F := F)) Finset.univ (View.stores_vmem_bits_univ h_S2048x1 rfl) (.inl rfl))
  let v553 : Vec F S2048x1 .f32 ← Prog.lift (.load arg16 (Rect.unit (s := S2048x1) ![0, 0] S2048x1.size inb_S2048x1_S2048x1_0_0).toLoadRect (View.loadsAt_vmem h_S2048x1))
  Prog.lift (.store arg16 (Rect.unit (s := S2048x1) ![0, 0] S2048x1.size inb_S2048x1_S2048x1_0_0) (k0_pay247 (F := F)) Finset.univ (View.stores_vmem_bits_univ h_S2048x1 rfl) (.inl rfl))
  let v557 : Vec F S2048x256 .f32 ← Prog.lift (.load arg17 (Rect.unit (s := S2048x256) ![0, 0] S2048x256.size inb_S2048x256_S2048x256_0_0).toLoadRect (View.loadsAt_vmem h_S2048x256))
  Prog.lift (.store arg17 (Rect.unit (s := S2048x256) ![0, 0] S2048x256.size inb_S2048x256_S2048x256_0_0) (k0_pay248 (F := F)) Finset.univ (View.stores_vmem_bits_univ h_S2048x256 rfl) (.inl rfl))
  k

/-- One key block folded in, later keys masked. -/
def segMask {α : Type} (k : Prog (TpuEff nD τ sig (Elt F) Λ₀ .tc) α) : Prog (TpuEff nD τ sig (Elt F) Λ₀ .tc) α := do
  let arg1 : BitVec 32 := BitVec.ofNat 32 (i 1).val
  let arg2 : BitVec 32 := BitVec.ofNat 32 (i 2).val
  let ⟨v41, v42, v69, v75, v77, v78⟩ : Σ' (v41 : FVec F S512x512 .bf16) (v42 : FVec F S512x256 .bf16) (v69 : IVec S256x512 1) (v75 : FVec F S256x512 .f32) (v77 : FVec F S256x512 .f32), Vec F S256x1 .f32 ← k0_part14 i arg3 harg3 arg4 harg4 arg5 harg5 arg6 harg6 arg7 harg7 arg8 harg8 arg9 harg9 arg10 harg10 arg11 harg11 arg12 harg12 arg13 harg13 arg14 harg14 arg15 harg15 arg16 harg16 arg17 harg17 arg1 arg2
  let ⟨v110, v112, v113, v114⟩ : Σ' (v110 : FVec F S256x512 .f32) (v112 : FVec F S256x512 .f32) (v113 : Vec F S256x1 .f32), FVec F S256 .f32 ← k0_part15 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v75 v77 v78
  let ⟨v145, v147, v148, v151⟩ : Σ' (v145 : FVec F S256x512 .f32) (v147 : FVec F S256x512 .f32) (v148 : Vec F S256x1 .f32), FVec F S256x1 .f32 ← k0_part16 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v110 v112 v113 v114
  let ⟨v180, v182, v186, v188⟩ : Σ' (v180 : FVec F S256x512 .f32) (v182 : FVec F S256x512 .f32) (v186 : FVec F S256x1 .f32), FVec F S256x1 .f32 ← k0_part17 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v145 v147 v148 v151
  let ⟨v215, v221, v223, v225⟩ : Σ' (v215 : FVec F S256x512 .f32) (v221 : FVec F S256x1 .f32) (v223 : FVec F S256x1 .f32), FVec F S256x512 .f32 ← k0_part18 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v180 v182 v186 v188
  let ⟨v250, v256, v258, v261⟩ : Σ' (v250 : FVec F S256x512 .f32) (v256 : FVec F S256x1 .f32) (v258 : FVec F S256x1 .f32), FVec F S256x512 .f32 ← k0_part19 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v215 v221 v223 v225
  let ⟨v285, v291, v293, v296, v297⟩ : Σ' (v285 : FVec F S256x512 .f32) (v291 : FVec F S256x1 .f32) (v293 : FVec F S256x1 .f32) (v296 : FVec F S256x512 .f32), Vec F S256x1 .f32 ← k0_part20 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v69 v250 v256 v258 v261
  let ⟨v324, v326, v329, v334⟩ : Σ' (v324 : FVec F S256x1 .f32) (v326 : FVec F S256x1 .f32) (v329 : FVec F S256x512 .f32), FVec F S256x1 .f32 ← k0_part21 i arg3 harg3 arg4 harg4 arg5 harg5 arg6 harg6 arg7 harg7 arg8 harg8 arg9 harg9 arg10 harg10 arg11 harg11 arg12 harg12 arg13 harg13 arg14 harg14 arg15 harg15 arg16 harg16 arg17 harg17 v42 v69 v285 v291 v293 v296 v297
  let v335 : Vec F S256x1 .f32 ← Prog.lift (.load arg16 (Rect.unit (s := S2048x1) ![1792, 0] S256x1.size inb_S2048x1_S256x1_1792_0).toLoadRect (View.loadsAt_vmem h_S256x1))
  Prog.lift (.store arg16 (Rect.unit (s := S2048x1) ![1792, 0] S256x1.size inb_S2048x1_S256x1_1792_0) (k0_pay249 v334) Finset.univ (View.stores_vmem_bits_univ h_S256x1 rfl) (.inl rfl))
  let v338 : Vec F S256x256 .f32 ← Prog.lift (.load arg17 (Rect.unit (s := S2048x256) ![1792, 0] S256x256.size inb_S2048x256_S256x256_1792_0).toLoadRect (View.loadsAt_vmem h_S256x256))
  let v344 : Vec F S256x256 .f32 ← Prog.lift (.load arg17 (Rect.unit (s := S2048x256) ![1792, 0] S256x256.size inb_S2048x256_S256x256_1792_0).toLoadRect (View.loadsAt_vmem h_S256x256))
  Prog.lift (.store arg17 (Rect.unit (s := S2048x256) ![1792, 0] S256x256.size inb_S2048x256_S256x256_1792_0) (k0_pay250 v42 v326 v329 v338) Finset.univ (View.stores_vmem_bits_univ h_S256x256 rfl) (.inl rfl))
  let v347 : Vec F S256x1 .f32 ← Prog.lift (.load arg15 (Rect.unit (s := S2048x1) ![1792, 0] S256x1.size inb_S2048x1_S256x1_1792_0).toLoadRect (View.loadsAt_vmem h_S256x1))
  Prog.lift (.store arg15 (Rect.unit (s := S2048x1) ![1792, 0] S256x1.size inb_S2048x1_S256x1_1792_0) (k0_pay251 v324) Finset.univ (View.stores_vmem_bits_univ h_S256x1 rfl) (.inl rfl))
  k

/-- One key block folded in, no key masked. -/
def segPlain {α : Type} (k : Prog (TpuEff nD τ sig (Elt F) Λ₀ .tc) α) : Prog (TpuEff nD τ sig (Elt F) Λ₀ .tc) α := do
  let ⟨v41, v42, v48, v52⟩ : Σ' (v41 : FVec F S512x512 .bf16) (v42 : FVec F S512x256 .bf16) (v48 : FVec F S256x512 .f32), FVec F S256x1 .f32 ← k0_part22 i arg3 harg3 arg4 harg4 arg5 harg5 arg6 harg6 arg7 harg7 arg8 harg8 arg9 harg9 arg10 harg10 arg11 harg11 arg12 harg12 arg13 harg13 arg14 harg14 arg15 harg15 arg16 harg16 arg17 harg17
  let ⟨v81, v110⟩ : Σ' (v81 : FVec F S256x512 .f32), FVec F S256x1 .f32 ← k0_part23 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v48 v52
  let v145 : FVec F S256x512 .f32 ← k0_part24 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v81 v110
  let ⟨v178, v180⟩ : Σ' (v178 : FVec F S256x512 .f32), FVec F S256x512 .f32 ← k0_part25 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v145
  let ⟨v211, v213, v214, v216⟩ : Σ' (v211 : FVec F S256x512 .f32) (v213 : FVec F S256x512 .f32) (v214 : Vec F S256x1 .f32), FVec F S256x1 .f32 ← k0_part26 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v178 v180
  let ⟨v246, v250, v252, v254⟩ : Σ' (v246 : FVec F S256x512 .f32) (v250 : FVec F S256x1 .f32) (v252 : FVec F S256x1 .f32), FVec F S256x512 .f32 ← k0_part27 i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v42 v211 v213 v214 v216
  let ⟨v281, v283, v286, v291⟩ : Σ' (v281 : FVec F S256x1 .f32) (v283 : FVec F S256x1 .f32) (v286 : FVec F S256x512 .f32), FVec F S256x1 .f32 ← k0_part28 i arg3 harg3 arg4 harg4 arg5 harg5 arg6 harg6 arg7 harg7 arg8 harg8 arg9 harg9 arg10 harg10 arg11 harg11 arg12 harg12 arg13 harg13 arg14 harg14 arg15 harg15 arg16 harg16 arg17 harg17 v42 v246 v250 v252 v254
  let v292 : Vec F S256x1 .f32 ← Prog.lift (.load arg16 (Rect.unit (s := S2048x1) ![1792, 0] S256x1.size inb_S2048x1_S256x1_1792_0).toLoadRect (View.loadsAt_vmem h_S256x1))
  Prog.lift (.store arg16 (Rect.unit (s := S2048x1) ![1792, 0] S256x1.size inb_S2048x1_S256x1_1792_0) (k0_pay1 v291) Finset.univ (View.stores_vmem_bits_univ h_S256x1 rfl) (.inl rfl))
  let v295 : Vec F S256x256 .f32 ← Prog.lift (.load arg17 (Rect.unit (s := S2048x256) ![1792, 0] S256x256.size inb_S2048x256_S256x256_1792_0).toLoadRect (View.loadsAt_vmem h_S256x256))
  let v301 : Vec F S256x256 .f32 ← Prog.lift (.load arg17 (Rect.unit (s := S2048x256) ![1792, 0] S256x256.size inb_S2048x256_S256x256_1792_0).toLoadRect (View.loadsAt_vmem h_S256x256))
  Prog.lift (.store arg17 (Rect.unit (s := S2048x256) ![1792, 0] S256x256.size inb_S2048x256_S256x256_1792_0) (k0_pay2 v42 v283 v286 v295) Finset.univ (View.stores_vmem_bits_univ h_S256x256 rfl) (.inl rfl))
  let v304 : Vec F S256x1 .f32 ← Prog.lift (.load arg15 (Rect.unit (s := S2048x1) ![1792, 0] S256x1.size inb_S2048x1_S256x1_1792_0).toLoadRect (View.loadsAt_vmem h_S256x1))
  Prog.lift (.store arg15 (Rect.unit (s := S2048x1) ![1792, 0] S256x1.size inb_S2048x1_S256x1_1792_0) (k0_pay3 v281) Finset.univ (View.stores_vmem_bits_univ h_S256x1 rfl) (.inl rfl))
  k

/-- The output tile: divided by the sum, projected, gated. -/
def segLast {α : Type} (k : Prog (TpuEff nD τ sig (Elt F) Λ₀ .tc) α) : Prog (TpuEff nD τ sig (Elt F) Λ₀ .tc) α := do
  let ⟨v43, v70⟩ : Σ' (v43 : FVec F S2048x256 .f32), FVec F S128x256 .f32 ← k0_part29 i arg3 harg3 arg4 harg4 arg5 harg5 arg6 harg6 arg7 harg7 arg8 harg8 arg9 harg9 arg10 harg10 arg11 harg11 arg12 harg12 arg13 harg13 arg14 harg14 arg15 harg15 arg16 harg16 arg17 harg17
  let v104 : FVec F S128x128 .f32 ← k0_part30 i arg3 harg3 arg4 harg4 arg5 harg5 arg6 harg6 arg7 harg7 arg8 harg8 arg9 harg9 arg10 harg10 arg11 harg11 arg12 harg12 arg13 harg13 arg14 harg14 arg15 harg15 arg16 harg16 arg17 harg17 v43 v70
  let v135 : FVec F S128x256 .f32 ← k0_part31 i arg3 harg3 arg4 harg4 arg5 harg5 arg6 harg6 arg7 harg7 arg8 harg8 arg9 harg9 arg10 harg10 arg11 harg11 arg12 harg12 arg13 harg13 arg14 harg14 arg15 harg15 arg16 harg16 arg17 harg17 v43 v104
  let v169 : FVec F S128x128 .f32 ← k0_part32 i arg3 harg3 arg4 harg4 arg5 harg5 arg6 harg6 arg7 harg7 arg8 harg8 arg9 harg9 arg10 harg10 arg11 harg11 arg12 harg12 arg13 harg13 arg14 harg14 arg15 harg15 arg16 harg16 arg17 harg17 v43 v135
  let v200 : FVec F S128x256 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17 v43 v169
  let v234 : FVec F S128x128 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 v43 v200
  let v236 : Vec F S1x128x128 .bf16 ← Prog.lift (.load arg13 (Rect.unit (s := S1x128x2048) ![0, 0, 1792] S1x128x128.size inb_S1x128x2048_S1x128x128_0_0_1792).toLoadRect (View.loadsAt_vmem h_S1x128x128))
  Prog.lift (.store arg13 (Rect.unit (s := S1x128x2048) ![0, 0, 1792] S1x128x128.size inb_S1x128x2048_S1x128x128_0_0_1792) (k0_pay4 v234) Finset.univ (View.stores_vmem h_S1x128x128 (harg13.storeExact_slice rfl _ packedbf16_S1x128x2048_S1x128x128_0_0_1792) (fun _ => rfl)) (.inl rfl))
  let v240 : Vec F S1x256x128 .bf16 ← Prog.lift (.load arg12 (Rect.unit (s := S16x256x128) ![15, 0, 0] S1x256x128.size inb_S16x256x128_S1x256x128_15_0_0).toLoadRect (View.loadsAt_vmem h_S1x256x128))
  let v244 : Vec F S1x128x128 .bf16 ← Prog.lift (.load arg7 (Rect.unit (s := S1x128x2048) ![0, 0, 1920] S1x128x128.size inb_S1x128x2048_S1x128x128_0_0_1920).toLoadRect (View.loadsAt_vmem h_S1x128x128))
  let v249 : Vec F S1x128x128 .bf16 ← Prog.lift (.load arg13 (Rect.unit (s := S1x128x2048) ![0, 0, 1920] S1x128x128.size inb_S1x128x2048_S1x128x128_0_0_1920).toLoadRect (View.loadsAt_vmem h_S1x128x128))
  Prog.lift (.store arg13 (Rect.unit (s := S1x128x2048) ![0, 0, 1920] S1x128x128.size inb_S1x128x2048_S1x128x128_0_0_1920) (k0_pay5 v43 v240 v244) Finset.univ (View.stores_vmem h_S1x128x128 (harg13.storeExact_slice rfl _ packedbf16_S1x128x2048_S1x128x128_0_0_1920) (fun _ => rfl)) (.inl rfl))
  k

/-- What follows the first segment's continuation may be moved into it. -/
theorem segInit_bind {α β : Type} (k : Prog (TpuEff nD τ sig (Elt F) Λ₀ .tc) α) (r : α → Prog (TpuEff nD τ sig (Elt F) Λ₀ .tc) β) :
    segInit i arg3 harg3 arg4 harg4 arg5 harg5 arg6 harg6 arg7 harg7 arg8 harg8 arg9 harg9 arg10 harg10 arg11 harg11 arg12 harg12 arg13 harg13 arg14 harg14 arg15 harg15 arg16 harg16 arg17 harg17 k >>= r = segInit i arg3 harg3 arg4 harg4 arg5 harg5 arg6 harg6 arg7 harg7 arg8 harg8 arg9 harg9 arg10 harg10 arg11 harg11 arg12 harg12 arg13 harg13 arg14 harg14 arg15 harg15 arg16 harg16 arg17 harg17 (k >>= r) := by
  unfold segInit
  rw [bind_assoc]; refine congrArg _ (funext fun x => ?_); obtain ⟨v46, v55, v58, v61, v75, v77, c0_i32_33⟩ := x
  rw [bind_assoc]; refine congrArg _ (funext fun x => ?_); obtain ⟨v83, v114, v115, v116⟩ := x
  rw [bind_assoc]; refine congrArg _ (funext fun x => ?_); obtain ⟨v143, v153, cst_62, v155⟩ := x
  rw [bind_assoc]; refine congrArg _ (funext fun x => ?_)
  rw [bind_assoc]; refine congrArg _ (funext fun x => ?_); obtain ⟨v230, v231, v232⟩ := x
  rw [bind_assoc]; refine congrArg _ (funext fun x => ?_); obtain ⟨v259, v269, cst_106, v271⟩ := x
  rw [bind_assoc]; refine congrArg _ (funext fun x => ?_)
  rw [bind_assoc]; refine congrArg _ (funext fun x => ?_); obtain ⟨v346, v347, v348⟩ := x
  rw [bind_assoc]; refine congrArg _ (funext fun x => ?_); obtain ⟨v375, v385, cst_150, v387⟩ := x
  rw [bind_assoc]; refine congrArg _ (funext fun x => ?_)
  rw [bind_assoc]; refine congrArg _ (funext fun x => ?_); obtain ⟨v462, v463, v464⟩ := x
  rw [bind_assoc]; refine congrArg _ (funext fun x => ?_); obtain ⟨v491, v501, cst_194, v503⟩ := x
  rw [bind_assoc]; refine congrArg _ (funext fun x => ?_)
  rfl

/-- What follows the masked segment's continuation may be moved into it. -/
theorem segMask_bind {α β : Type} (k : Prog (TpuEff nD τ sig (Elt F) Λ₀ .tc) α) (r : α → Prog (TpuEff nD τ sig (Elt F) Λ₀ .tc) β) :
    segMask i arg3 harg3 arg4 harg4 arg5 harg5 arg6 harg6 arg7 harg7 arg8 harg8 arg9 harg9 arg10 harg10 arg11 harg11 arg12 harg12 arg13 harg13 arg14 harg14 arg15 harg15 arg16 harg16 arg17 harg17 k >>= r = segMask i arg3 harg3 arg4 harg4 arg5 harg5 arg6 harg6 arg7 harg7 arg8 harg8 arg9 harg9 arg10 harg10 arg11 harg11 arg12 harg12 arg13 harg13 arg14 harg14 arg15 harg15 arg16 harg16 arg17 harg17 (k >>= r) := by
  unfold segMask
  rw [bind_assoc]; refine congrArg _ (funext fun x => ?_); obtain ⟨v41, v42, v69, v75, v77, v78⟩ := x
  rw [bind_assoc]; refine congrArg _ (funext fun x => ?_); obtain ⟨v110, v112, v113, v114⟩ := x
  rw [bind_assoc]; refine congrArg _ (funext fun x => ?_); obtain ⟨v145, v147, v148, v151⟩ := x
  rw [bind_assoc]; refine congrArg _ (funext fun x => ?_); obtain ⟨v180, v182, v186, v188⟩ := x
  rw [bind_assoc]; refine congrArg _ (funext fun x => ?_); obtain ⟨v215, v221, v223, v225⟩ := x
  rw [bind_assoc]; refine congrArg _ (funext fun x => ?_); obtain ⟨v250, v256, v258, v261⟩ := x
  rw [bind_assoc]; refine congrArg _ (funext fun x => ?_); obtain ⟨v285, v291, v293, v296, v297⟩ := x
  rw [bind_assoc]; refine congrArg _ (funext fun x => ?_); obtain ⟨v324, v326, v329, v334⟩ := x
  rfl

/-- The first half of the body: the first and the masked segment, and the scalars the later conditions read. -/
theorem half_eq :
    k0_part35 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
      = (if h : condInit i then segInit i arg3 harg3 arg4 harg4 arg5 harg5 arg6 harg6 arg7 harg7 arg8 harg8 arg9 harg9 arg10 harg10 arg11 harg11 arg12 harg12 arg13 harg13 arg14 harg14 arg15 harg15 arg16 harg16 arg17 harg17 <|
          if h : condMask i then segMask i arg3 harg3 arg4 harg4 arg5 harg5 arg6 harg6 arg7 harg7 arg8 harg8 arg9 harg9 arg10 harg10 arg11 harg11 arg12 harg12 arg13 harg13 arg14 harg14 arg15 harg15 arg16 harg16 arg17 harg17 <| pure ⟨BitVec.ofNat 32 (i 2).val, lastBlock i, plainWord i, 0#32⟩
          else pure ⟨BitVec.ofNat 32 (i 2).val, lastBlock i, plainWord i, 0#32⟩
        else
          if h : condMask i then segMask i arg3 harg3 arg4 harg4 arg5 harg5 arg6 harg6 arg7 harg7 arg8 harg8 arg9 harg9 arg10 harg10 arg11 harg11 arg12 harg12 arg13 harg13 arg14 harg14 arg15 harg15 arg16 harg16 arg17 harg17 <| pure ⟨BitVec.ofNat 32 (i 2).val, lastBlock i, plainWord i, 0#32⟩
          else pure ⟨BitVec.ofNat 32 (i 2).val, lastBlock i, plainWord i, 0#32⟩) := by
  rw [k0_part35_eq_skeleton]; rfl

/-- The second half: the plain and the last segment. -/
def half2 : Prog (TpuEff nD τ sig (Elt F) Λ₀ .tc) PUnit :=
  if h : condPlain i then segPlain i arg3 harg3 arg4 harg4 arg5 harg5 arg6 harg6 arg7 harg7 arg8 harg8 arg9 harg9 arg10 harg10 arg11 harg11 arg12 harg12 arg13 harg13 arg14 harg14 arg15 harg15 arg16 harg16 arg17 harg17 <|
    if h : condLast i then segLast i arg3 harg3 arg4 harg4 arg5 harg5 arg6 harg6 arg7 harg7 arg8 harg8 arg9 harg9 arg10 harg10 arg11 harg11 arg12 harg12 arg13 harg13 arg14 harg14 arg15 harg15 arg16 harg16 arg17 harg17 <| pure ⟨⟩ else pure ⟨⟩
  else
    if h : condLast i then segLast i arg3 harg3 arg4 harg4 arg5 harg5 arg6 harg6 arg7 harg7 arg8 harg8 arg9 harg9 arg10 harg10 arg11 harg11 arg12 harg12 arg13 harg13 arg14 harg14 arg15 harg15 arg16 harg16 arg17 harg17 <| pure ⟨⟩ else pure ⟨⟩

/-- The masked segment under its condition, then the second half. -/
def half1 : Prog (TpuEff nD τ sig (Elt F) Λ₀ .tc) PUnit :=
  if h : condMask i then segMask i arg3 harg3 arg4 harg4 arg5 harg5 arg6 harg6 arg7 harg7 arg8 harg8 arg9 harg9 arg10 harg10 arg11 harg11 arg12 harg12 arg13 harg13 arg14 harg14 arg15 harg15 arg16 harg16 arg17 harg17 <| half2 i arg3 harg3 arg4 harg4 arg5 harg5 arg6 harg6 arg7 harg7 arg8 harg8 arg9 harg9 arg10 harg10 arg11 harg11 arg12 harg12 arg13 harg13 arg14 harg14 arg15 harg15 arg16 harg16 arg17 harg17 else half2 i arg3 harg3 arg4 harg4 arg5 harg5 arg6 harg6 arg7 harg7 arg8 harg8 arg9 harg9 arg10 harg10 arg11 harg11 arg12 harg12 arg13 harg13 arg14 harg14 arg15 harg15 arg16 harg16 arg17 harg17

/-- The body is its four segments in a row, each under its condition. -/
theorem body_eq :
    cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17
      = if h : condInit i then segInit i arg3 harg3 arg4 harg4 arg5 harg5 arg6 harg6 arg7 harg7 arg8 harg8 arg9 harg9 arg10 harg10 arg11 harg11 arg12 harg12 arg13 harg13 arg14 harg14 arg15 harg15 arg16 harg16 arg17 harg17 <| half1 i arg3 harg3 arg4 harg4 arg5 harg5 arg6 harg6 arg7 harg7 arg8 harg8 arg9 harg9 arg10 harg10 arg11 harg11 arg12 harg12 arg13 harg13 arg14 harg14 arg15 harg15 arg16 harg16 arg17 harg17 else half1 i arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0_mla_attn_eq_skeleton]; unfold cc0_mla_attn_skel
  rw [half_eq]
  unfold half1
  by_cases h0 : condInit i <;> by_cases h1 : condMask i
  · simp only [dif_pos h0, dif_pos h1]; rw [segInit_bind]; rw [segMask_bind]; rfl
  · simp only [dif_pos h0, dif_neg h1]; rw [segInit_bind]; rfl
  · simp only [dif_neg h0, dif_pos h1]; rw [segMask_bind]; rfl
  · simp only [dif_neg h0, dif_neg h1]; rfl

end

end Cert.KernelIdeal.Attn

end
-- ==== Proof.Rows.lean ====
module

public import proofs.«01_k».proof.Proof.Segments
public import Idealize.ShloMosaic.Lib.Pointwise
public import Idealize.ShloMosaic.Lib.WholeRead
public import Idealize.ShloMosaic.Lib.Pipeline.ValueKit.Geometry

/-!
# Row blocks

The scratch arrays have 2048 rows, and the body works on them in eight blocks of 256.  `rows X b` is block `b` of an
array, `unrows G` the array made of eight blocks, and `read_pieces` says that stores whose payloads all agree with one
array, and which together cover it, leave that array.
-/

@[expose] public section

set_option maxRecDepth 16384

noncomputable section

namespace Cert.KernelIdeal.Attn

open Cert.KernelIdeal.Gen
open Idealize.ShloMosaic Idealize.ShloMosaic.TcCoe Idealize.ShloMosaic.Tactic

/-- Stores that cover an array and agree with `G` leave `G`. -/
theorem read_pieces {sig : RefSig} {κ : Kind} {sp : Space} {s : Shape} {e : EltTy} {Val : EltTy → Type}
    (v : View sig κ sp s e) (f : v.ty.Contents Val) (G : s.Idx → Val e) (L : List (View.Piece Val s e))
    (hc : ∀ y : s.Idx, ∃ p ∈ L, y ∈ p.1.set) (hG : ∀ p ∈ L, ∀ x : p.1.shape.Idx, p.2 x = G (p.1.emb x)) :
    v.read Val (v.writes Val f L) = G := by
  funext y
  have key : ∀ L : List (View.Piece Val s e), (∃ p ∈ L, y ∈ p.1.set) →
      (∀ p ∈ L, ∀ x : p.1.shape.Idx, p.2 x = G (p.1.emb x)) → v.read Val (v.writes Val f L) y = G y := by
    intro L
    induction L with
    | nil => rintro ⟨_, hm, _⟩ _; exact absurd hm List.not_mem_nil
    | cons p L ih =>
      intro h hG
      by_cases hy : y ∈ p.1.set
      · obtain ⟨x, rfl⟩ : ∃ x, p.1.emb x = y := p.1.exists_idx_of_mem hy
        obtain ⟨r, w⟩ := p
        rw [View.read_writes_cons_emb]
        exact hG _ List.mem_cons_self x
      · have hy' : y ∉ Finset.univ.map p.1.emb := by rwa [Rect.map_emb_univ]
        rw [View.writes_cons, View.read_slice_write_of_not_mem p.1 _ _ _ hy']
        refine ih ?_ fun q hq => hG q (List.mem_cons_of_mem _ hq)
        obtain ⟨q, hq, hyq⟩ := h
        rcases List.mem_cons.mp hq with rfl | hq'
        · exact absurd hyq hy
        · exact ⟨q, hq', hyq⟩
  exact key L (hc y) hG

/-- Block `b` of 256 rows lies inside 2048 rows. -/
theorem inbRows (W : ℕ) (b : Fin 8) : ∀ a : Fin 2, (![256 * b.val, 0] : Fin 2 → ℕ) a + (![256, W] : Fin 2 → ℕ) a ≤ (![2048, W] : Fin 2 → ℕ) a := by
  have := b.isLt
  intro a
  match a with
  | 0 => simp; omega
  | 1 => simp

variable {α : Type}

/-- Block `b` of an array of 2048 rows. -/
def rows {W : ℕ} (X : (⟨2, ![2048, W]⟩ : Shape).Idx → α) (b : Fin 8) : (⟨2, ![256, W]⟩ : Shape).Idx → α := fun y =>
  X ((Rect.unit (s := ⟨2, ![2048, W]⟩) ![256 * b.val, 0] ![256, W] (inbRows W b)).toLoadRect.idx y)

/-- The array of 2048 rows made of eight blocks. -/
def unrows {W : ℕ} (G : Fin 8 → (⟨2, ![256, W]⟩ : Shape).Idx → α) : (⟨2, ![2048, W]⟩ : Shape).Idx → α := fun y =>
  G ⟨(y 0).val / 256, by have := (y 0).isLt; simp at this; omega⟩
    (ix2 ⟨(y 0).val % 256, Nat.mod_lt _ (by decide)⟩ (y 1))

theorem unrows_emb {W : ℕ} (G : Fin 8 → (⟨2, ![256, W]⟩ : Shape).Idx → α) (b : Fin 8)
    (x : (Rect.unit (s := ⟨2, ![2048, W]⟩) ![256 * b.val, 0] ![256, W] (inbRows W b)).shape.Idx) :
    unrows G ((Rect.unit (s := ⟨2, ![2048, W]⟩) ![256 * b.val, 0] ![256, W] (inbRows W b)).emb x) = G b x := by
  have hx : (x 0).val < 256 := (x 0).isLt
  have e0 : ((Rect.unit (s := ⟨2, ![2048, W]⟩) ![256 * b.val, 0] ![256, W] (inbRows W b)).emb x 0).val = 256 * b.val + (x 0).val := by
    exact ValueKit.rect_emb_unit_val _ _ _ _ _
  have e1 : ((Rect.unit (s := ⟨2, ![2048, W]⟩) ![256 * b.val, 0] ![256, W] (inbRows W b)).emb x 1).val = (x 1).val := by
    exact (ValueKit.rect_emb_unit_val _ _ _ _ _).trans (Nat.zero_add _)
  unfold unrows
  have h1 : (⟨((Rect.unit (s := ⟨2, ![2048, W]⟩) ![256 * b.val, 0] ![256, W] (inbRows W b)).emb x 0).val / 256,
      by rw [e0]; have := b.isLt; omega⟩ : Fin 8) = b := Fin.ext (by show _ / 256 = _; rw [e0]; omega)
  rw [h1]
  congr 1
  funext a
  match a with
  | 0 => exact Fin.ext (by show _ % 256 = _; rw [e0]; omega)
  | 1 => exact Fin.ext e1

/-- Reading a block of a whole array. -/
theorem readAt_fn {sig : RefSig} {κ : Kind} {sp : Space} {s : Shape} {e : EltTy} {Val : EltTy → Type}
    {m : Memref sig κ sp s e} (h : m.IsWhole) (X : s.Idx → Val e) (B : LoadRect s) :
    View.readAt Val m.view B (h.unread X) = fun x => X (B.idx x) :=
  funext fun x => h.readAt_unread X B x

/-- Reading all of a whole array. -/
theorem readAt_full {sig : RefSig} {κ : Kind} {sp : Space} {s : Shape} {e : EltTy} {Val : EltTy → Type}
    {m : Memref sig κ sp s e} (h : m.IsWhole) (X : s.Idx → Val e) (off : Fin s.rank → ℕ) (h0 : ∀ a, off a = 0)
    (inb : ∀ a, off a + s.size a ≤ s.size a) :
    View.readAt Val m.view (Rect.unit off s.size inb).toLoadRect (h.unread X) = X := by
  rw [readAt_fn]
  funext x
  refine congrArg X (funext fun a => Fin.ext ?_)
  exact (ValueKit.rect_emb_unit_val off s.size inb x a).trans (by rw [h0 a, Nat.zero_add])

/-- One store over a whole array. -/
theorem read_whole {sig : RefSig} {κ : Kind} {sp : Space} {s : Shape} {e : EltTy} {Val : EltTy → Type}
    (v : View sig κ sp s e) (f : v.ty.Contents Val) (off : Fin s.rank → ℕ) (h0 : ∀ a, off a = 0)
    (inb : ∀ a, off a + s.size a ≤ s.size a) (G : s.Idx → Val e) :
    v.read Val (v.writes Val f [⟨Rect.unit off s.size inb, G⟩]) = G := by
  have e : ∀ x : s.Idx, (Rect.unit off s.size inb).emb x = x := fun x => funext fun a =>
    Fin.ext ((ValueKit.rect_emb_unit_val off s.size inb x a).trans (by rw [h0 a, Nat.zero_add]))
  funext y
  have h : v.read Val (v.writes Val f [⟨Rect.unit off s.size inb, G⟩]) ((Rect.unit off s.size inb).emb y) = G y :=
    View.read_writes_cons_emb v f (Rect.unit off s.size inb) G [] y
  rwa [e y] at h

theorem z2 : ∀ a, (![0, 0] : Fin 2 → ℕ) a = 0 := by decide

theorem z3 : ∀ a, (![0, 0, 0] : Fin 3 → ℕ) a = 0 := by decide

/-- One store of block `b`. -/
def rowPiece {W : ℕ} {e : EltTy} {Val : EltTy → Type} (G : Fin 8 → (⟨2, ![256, W]⟩ : Shape).Idx → Val e) (b : Fin 8) :
    View.Piece Val ⟨2, ![2048, W]⟩ e :=
  ⟨Rect.unit (s := ⟨2, ![2048, W]⟩) ![256 * b.val, 0] ![256, W] (inbRows W b), G b⟩

/-- Eight stores of whole row blocks leave the array made of the eight blocks. -/
theorem read_blocks {sig : RefSig} {κ : Kind} {sp : Space} {W : ℕ} {e : EltTy} {Val : EltTy → Type}
    (v : View sig κ sp ⟨2, ![2048, W]⟩ e) (f : v.ty.Contents Val) (G : Fin 8 → (⟨2, ![256, W]⟩ : Shape).Idx → Val e) :
    v.read Val (v.writes Val f (([7, 6, 5, 4, 3, 2, 1, 0] : List (Fin 8)).map (rowPiece G))) = unrows G := by
  refine read_pieces v f (unrows G) _ (fun y => ?_) ?_
  · have h0 : (y 0).val < 2048 := (y 0).isLt
    have h1 : (y 1).val < W := (y 1).isLt
    refine ⟨rowPiece G ⟨(y 0).val / 256, by omega⟩, List.mem_map.mpr ⟨_, ?_, rfl⟩, ?_⟩
    · exact (by decide : ∀ b : Fin 8, b ∈ ([7, 6, 5, 4, 3, 2, 1, 0] : List (Fin 8))) _
    · refine (Rect.mem_set_unit (inb := inbRows W _)).mpr fun a => ?_
      match a with
      | 0 => exact ⟨by show 256 * ((y 0).val / 256) ≤ _; omega, by show _ < 256 * ((y 0).val / 256) + 256; omega⟩
      | 1 => exact ⟨Nat.zero_le _, by show _ < 0 + W; omega⟩
  · intro p hp
    obtain ⟨b, -, rfl⟩ := List.mem_map.mp hp
    exact fun x => (unrows_emb G b x).symm

/-- The same with the eight stores written out. -/
theorem read_blocks_eq {sig : RefSig} {κ : Kind} {sp : Space} {W : ℕ} {e : EltTy} {Val : EltTy → Type}
    (v : View sig κ sp ⟨2, ![2048, W]⟩ e) (f : v.ty.Contents Val) (G : Fin 8 → (⟨2, ![256, W]⟩ : Shape).Idx → Val e)
    {w0 w1 w2 w3 w4 w5 w6 w7 : (⟨2, ![256, W]⟩ : Shape).Idx → Val e} (h0 : w0 = G 0) (h1 : w1 = G 1) (h2 : w2 = G 2)
    (h3 : w3 = G 3) (h4 : w4 = G 4) (h5 : w5 = G 5) (h6 : w6 = G 6) (h7 : w7 = G 7) :
    v.read Val (v.writes Val f
      [⟨Rect.unit (s := ⟨2, ![2048, W]⟩) ![1792, 0] ![256, W] (inbRows W 7), w7⟩,
       ⟨Rect.unit (s := ⟨2, ![2048, W]⟩) ![1536, 0] ![256, W] (inbRows W 6), w6⟩,
       ⟨Rect.unit (s := ⟨2, ![2048, W]⟩) ![1280, 0] ![256, W] (inbRows W 5), w5⟩,
       ⟨Rect.unit (s := ⟨2, ![2048, W]⟩) ![1024, 0] ![256, W] (inbRows W 4), w4⟩,
       ⟨Rect.unit (s := ⟨2, ![2048, W]⟩) ![768, 0] ![256, W] (inbRows W 3), w3⟩,
       ⟨Rect.unit (s := ⟨2, ![2048, W]⟩) ![512, 0] ![256, W] (inbRows W 2), w2⟩,
       ⟨Rect.unit (s := ⟨2, ![2048, W]⟩) ![256, 0] ![256, W] (inbRows W 1), w1⟩,
       ⟨Rect.unit (s := ⟨2, ![2048, W]⟩) ![0, 0] ![256, W] (inbRows W 0), w0⟩]) = unrows G := by
  subst h0 h1 h2 h3 h4 h5 h6 h7
  exact read_blocks v f G

section Steps

variable {F : FTy → Type} [FloatOps F] [Named F]

/-- The running maximum after one key block whose scores are `s`. -/
def stepM (s : Fin 8 → FVec F S256x512 .f32) (m : Vec F S2048x1 .f32) : Vec F S2048x1 .f32 :=
  unrows fun b => k0_pay105 (s b) (rows m b)

/-- The running sum after one key block. -/
def stepL (s : Fin 8 → FVec F S256x512 .f32) (m l : Vec F S2048x1 .f32) : Vec F S2048x1 .f32 :=
  unrows fun b => k0_pay103 (s b) (rows m b) (rows l b)

/-- The running weighted sum of the values after one key block. -/
def stepA (v : FVec F S512x256 .bf16) (s : Fin 8 → FVec F S256x512 .f32) (m : Vec F S2048x1 .f32)
    (a : Vec F S2048x256 .f32) : Vec F S2048x256 .f32 :=
  unrows fun b => k0_pay104 v (s b) (rows m b) (rows a b)

/-- The scores of a key block that lies wholly before the query tile. -/
def scPlain (kc : Vec F S1x512x512 .bf16) (q : Vec F S2048x512 .bf16) (b : Fin 8) : FVec F S256x512 .f32 :=
  k0_pay163 kc (rows q b)

/-- The scores of the key block that holds the diagonal. -/
def scMask (i j : BitVec 32) (kc : Vec F S1x512x512 .bf16) (q : Vec F S2048x512 .bf16) (b : Fin 8) : FVec F S256x512 .f32 :=
  k0_pay99 i j kc (rows q b)

end Steps

end Cert.KernelIdeal.Attn

end
-- ==== Proof.Heads.lean ====
module

public import proofs.«01_k».proof.Proof.Rows

/-!
# The heads

The body goes through the sixteen heads one after another, once to place a tile's queries in the query scratch and once
to finish a tile.  Here one head's part is written with the head's number as a variable, and the two whole arrays are
assembled from the heads.
-/

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-! ## One head -/

theorem slQn (h : Fin 16) : S128x2048.Slices ![0, 128 * h.val] S128x128 := ⟨rfl, fun a => by
  have := h.isLt
  match a with
  | 0 => exact Nat.le_of_ble_eq_true rfl
  | 1 => show 128 * h.val + 128 ≤ 2048; omega⟩

theorem slRot (h : Fin 16) : S128x512.Slices ![0, 128 * (h.val / 4)] S128x128 := ⟨rfl, fun a => by
  have := h.isLt
  match a with
  | 0 => exact Nat.le_of_ble_eq_true rfl
  | 1 => show 128 * (h.val / 4) + 128 ≤ 512; omega⟩

theorem slOut (h : Fin 16) : S2048x256.Slices ![128 * h.val, 0] S128x256 := ⟨rfl, fun a => by
  have := h.isLt
  match a with
  | 0 => show 128 * h.val + 128 ≤ 2048; omega
  | 1 => exact Nat.le_of_ble_eq_true rfl⟩

theorem inbUk (h : Fin 16) : ∀ a, (![h.val, 0, 0] : Fin 3 → ℕ) a + S1x128x256.size a ≤ S16x128x256.size a := fun a => by
  have := h.isLt
  match a with
  | 0 => show h.val + 1 ≤ 16; omega
  | 1 => exact Nat.le_of_ble_eq_true rfl
  | 2 => exact Nat.le_of_ble_eq_true rfl

theorem inbUv (h : Fin 16) : ∀ a, (![h.val, 0, 0] : Fin 3 → ℕ) a + S1x256x128.size a ≤ S16x256x128.size a := fun a => by
  have := h.isLt
  match a with
  | 0 => show h.val + 1 ≤ 16; omega
  | 1 => exact Nat.le_of_ble_eq_true rfl
  | 2 => exact Nat.le_of_ble_eq_true rfl

theorem inbOut (h : Fin 16) : ∀ a, (![0, 0, 128 * h.val] : Fin 3 → ℕ) a + S1x128x128.size a ≤ S1x128x2048.size a := fun a => by
  have := h.isLt
  match a with
  | 0 => exact Nat.le_of_ble_eq_true rfl
  | 1 => exact Nat.le_of_ble_eq_true rfl
  | 2 => show 128 * h.val + 128 ≤ 2048; omega

theorem inbLat (h : Fin 16) : ∀ a, (![128 * h.val, 0] : Fin 2 → ℕ) a + S128x256.size a ≤ S2048x512.size a := fun a => by
  have := h.isLt
  match a with
  | 0 => show 128 * h.val + 128 ≤ 2048; omega
  | 1 => exact Nat.le_of_ble_eq_true rfl

theorem inbR1 (h : Fin 16) : ∀ a, (![128 * h.val, 256] : Fin 2 → ℕ) a + S128x128.size a ≤ S2048x512.size a := fun a => by
  have := h.isLt
  match a with
  | 0 => show 128 * h.val + 128 ≤ 2048; omega
  | 1 => exact Nat.le_of_ble_eq_true rfl

theorem inbR2 (h : Fin 16) : ∀ a, (![128 * h.val, 384] : Fin 2 → ℕ) a + S128x128.size a ≤ S2048x512.size a := fun a => by
  have := h.isLt
  match a with
  | 0 => show 128 * h.val + 128 ≤ 2048; omega
  | 1 => exact Nat.le_of_ble_eq_true rfl

/-- Head `h`'s queries in the latent space. -/
def headLat (qn : FVec F S128x2048 .f32) (wuk : Vec F S16x128x256 .bf16) (h : Fin 16) : FVec F S128x256 .bf16 :=
  k0_pay22 (extractStridedSlice S128x128 ![0, 128 * h.val] qn (slQn h))
    (fun x => wuk ((Rect.unit (s := S16x128x256) ![h.val, 0, 0] S1x128x256.size (inbUk h)).toLoadRect.idx x))

/-- The lane's group of 32 lanes. -/
def laneGroup : IVec S1x128 32 := k0_pay15 k0_pay12 k0_pay13 k0_pay14 0#32

/-- Head `h`'s half of the rotated queries, on the lanes of its group and zero on the others. -/
def headRot (rot : FVec F S128x512 .f32) (h : Fin 16) : FVec F S128x128 .bf16 :=
  shapeCast S128x128 (truncf .bf16 (select
    (broadcastTo S128x128 (shapeCast S1x128 (cmpi .eq laneGroup (broadcast S1x128 (BitVec.ofNat 32 (h.val % 4)))) shapeCasts_S1x128_S1x128)
      broadcasts_S1x128_S128x128)
    (extractStridedSlice S128x128 ![0, 128 * (h.val / 4)] rot (slRot h))
    (broadcast S128x128 (Scalar.ofBits .f32 0x00000000#32))) bitsLt_bf16_f32) shapeCasts_S128x128_S128x128

/-- Head `h`'s columns of the finished tile. -/
def headOut (o : FVec F S2048x256 .f32) (wuv : Vec F S16x256x128 .bf16) (sz : Vec F S1x128x2048 .bf16) (h : Fin 16) :
    FVec F S1x128x128 .bf16 :=
  k0_pay228 (extractStridedSlice S128x256 ![128 * h.val, 0] o (slOut h))
    (fun x => wuv ((Rect.unit (s := S16x256x128) ![h.val, 0, 0] S1x256x128.size (inbUv h)).toLoadRect.idx x))
    (fun x => sz ((Rect.unit (s := S1x128x2048) ![0, 0, 128 * h.val] S1x128x128.size (inbOut h)).toLoadRect.idx x))

/-! ## The finished tile -/

/-- The finished tile, from the accumulator and the running sum. -/
def outTile (wuv : Vec F S16x256x128 .bf16) (sz : Vec F S1x128x2048 .bf16) (l : Vec F S2048x1 .f32) (a : Vec F S2048x256 .f32) :
    Vec F S1x128x2048 .bf16 := fun y =>
  headOut (k0_pay224 a l) wuv sz ⟨(y 2).val / 128, by have : (y 2).val < 2048 := (y 2).isLt; omega⟩
    (ix3 (y 0) (y 1) ⟨(y 2).val % 128, Nat.mod_lt _ (by decide)⟩)

/-- One head's store of the finished tile. -/
def outPiece (wuv : Vec F S16x256x128 .bf16) (sz : Vec F S1x128x2048 .bf16) (l : Vec F S2048x1 .f32) (a : Vec F S2048x256 .f32)
    (h : Fin 16) : View.Piece (Elt F) S1x128x2048 .bf16 :=
  ⟨Rect.unit (s := S1x128x2048) ![0, 0, 128 * h.val] S1x128x128.size (inbOut h), headOut (k0_pay224 a l) wuv sz h⟩

/-- The heads from the last to the first. -/
def headsDown : List (Fin 16) := [15, 14, 13, 12, 11, 10, 9, 8, 7, 6, 5, 4, 3, 2, 1, 0]

theorem mem_headsDown : ∀ h : Fin 16, h ∈ headsDown := by decide

theorem outPiece_agree (wuv : Vec F S16x256x128 .bf16) (sz : Vec F S1x128x2048 .bf16) (l : Vec F S2048x1 .f32)
    (a : Vec F S2048x256 .f32) (h : Fin 16) (x : (outPiece wuv sz l a h).1.shape.Idx) :
    (outPiece wuv sz l a h).2 x = outTile wuv sz l a ((outPiece wuv sz l a h).1.emb x) := by
  have hx : (x 2).val < 128 := (x 2).isLt
  have e : ∀ d, ((outPiece wuv sz l a h).1.emb x d).val = (![0, 0, 128 * h.val] : Fin 3 → ℕ) d + (x d).val := fun d =>
    ValueKit.rect_emb_unit_val _ _ (inbOut h) _ d
  have e0 := e 0; have e1 := e 1
  have e2 : ((outPiece wuv sz l a h).1.emb x 2).val = 128 * h.val + (x 2).val := e 2
  unfold outTile
  have hh : (⟨((outPiece wuv sz l a h).1.emb x 2).val / 128, by rw [e2]; have := h.isLt; omega⟩ : Fin 16) = h :=
    Fin.ext (by show _ / 128 = _; rw [e2]; omega)
  rw [hh]
  show headOut _ _ _ h x = _
  congr 1
  funext d
  match d with
  | 0 => exact Fin.ext (e0.trans (Nat.zero_add _)).symm
  | 1 => exact Fin.ext (e1.trans (Nat.zero_add _)).symm
  | 2 => exact Fin.ext (by show _ = _ % 128; rw [e2]; omega)

/-- The sixteen stores leave the finished tile. -/
theorem read_out {sig : RefSig} {κ : Kind} {sp : Space} (v : View sig κ sp S1x128x2048 .bf16) (f : v.ty.Contents (Elt F))
    (wuv : Vec F S16x256x128 .bf16) (sz : Vec F S1x128x2048 .bf16) (l : Vec F S2048x1 .f32) (a : Vec F S2048x256 .f32) :
    v.read (Elt F) (v.writes (Elt F) f (headsDown.map (outPiece wuv sz l a))) = outTile wuv sz l a := by
  refine read_pieces v f _ _ (fun y => ?_) ?_
  · have h0 : (y 0).val < 1 := (y 0).isLt
    have h1 : (y 1).val < 128 := (y 1).isLt
    have h2 : (y 2).val < 2048 := (y 2).isLt
    refine ⟨outPiece wuv sz l a ⟨(y 2).val / 128, by omega⟩, List.mem_map.mpr ⟨_, mem_headsDown _, rfl⟩, ?_⟩
    refine (Rect.mem_set_unit (inb := inbOut _)).mpr fun d => ?_
    match d with
    | 0 => exact ⟨Nat.zero_le _, by show _ < 0 + 1; omega⟩
    | 1 => exact ⟨Nat.zero_le _, by show _ < 0 + 128; omega⟩
    | 2 => exact ⟨by show 128 * ((y 2).val / 128) ≤ _; omega, by show _ < 128 * ((y 2).val / 128) + 128; omega⟩
  · intro p hp
    obtain ⟨h, -, rfl⟩ := List.mem_map.mp hp
    exact outPiece_agree wuv sz l a h

/-! ## The query scratch -/

/-- The three stores of head `h`, the last first. -/
def qPieces (qn : FVec F S128x2048 .f32) (r1 r2 : FVec F S128x512 .f32) (wuk : Vec F S16x128x256 .bf16) (h : Fin 16) :
    List (View.Piece (Elt F) S2048x512 .bf16) :=
  [⟨Rect.unit (s := S2048x512) ![128 * h.val, 384] S128x128.size (inbR2 h), headRot r2 h⟩,
   ⟨Rect.unit (s := S2048x512) ![128 * h.val, 256] S128x128.size (inbR1 h), headRot r1 h⟩,
   ⟨Rect.unit (s := S2048x512) ![128 * h.val, 0] S128x256.size (inbLat h), headLat qn wuk h⟩]

/-- The query scratch of a tile. -/
def qAll (qn : FVec F S128x2048 .f32) (r1 r2 : FVec F S128x512 .f32) (wuk : Vec F S16x128x256 .bf16) : Vec F S2048x512 .bf16 := fun y =>
  let h : Fin 16 := ⟨(y 0).val / 128, by have : (y 0).val < 2048 := (y 0).isLt; omega⟩
  let r : Fin 128 := ⟨(y 0).val % 128, Nat.mod_lt _ (by decide)⟩
  if h1 : (y 1).val < 256 then headLat qn wuk h (ix2 r ⟨(y 1).val, h1⟩)
  else if h2 : (y 1).val < 384 then headRot r1 h (ix2 r ⟨(y 1).val - 256, by omega⟩)
  else headRot r2 h (ix2 r ⟨(y 1).val - 384, by have : (y 1).val < 512 := (y 1).isLt; omega⟩)

theorem qAll_lat (qn : FVec F S128x2048 .f32) (r1 r2 : FVec F S128x512 .f32) (wuk : Vec F S16x128x256 .bf16) (y : S2048x512.Idx)
    (h : Fin 16) (r : Fin 128) (k : Fin 256) (h0 : (y 0).val = 128 * h.val + r.val) (h1 : (y 1).val = k.val) :
    qAll qn r1 r2 wuk y = headLat qn wuk h (ix2 r k) := by
  have hr := r.isLt; have hk := k.isLt
  unfold qAll
  have eh : (⟨(y 0).val / 128, by have : (y 0).val < 2048 := (y 0).isLt; omega⟩ : Fin 16) = h := Fin.ext (by show _ / 128 = _; omega)
  have er : (⟨(y 0).val % 128, Nat.mod_lt _ (by decide)⟩ : Fin 128) = r := Fin.ext (by show _ % 128 = _; omega)
  simp only [eh, er]
  rw [dif_pos (by omega)]
  exact congrArg _ (congrArg _ (Fin.ext h1))

theorem qAll_rot1 (qn : FVec F S128x2048 .f32) (r1 r2 : FVec F S128x512 .f32) (wuk : Vec F S16x128x256 .bf16) (y : S2048x512.Idx)
    (h : Fin 16) (r : Fin 128) (k : Fin 128) (h0 : (y 0).val = 128 * h.val + r.val) (h1 : (y 1).val = 256 + k.val) :
    qAll qn r1 r2 wuk y = headRot r1 h (ix2 r k) := by
  have hr := r.isLt; have hk := k.isLt
  unfold qAll
  have eh : (⟨(y 0).val / 128, by have : (y 0).val < 2048 := (y 0).isLt; omega⟩ : Fin 16) = h := Fin.ext (by show _ / 128 = _; omega)
  have er : (⟨(y 0).val % 128, Nat.mod_lt _ (by decide)⟩ : Fin 128) = r := Fin.ext (by show _ % 128 = _; omega)
  simp only [eh, er]
  rw [dif_neg (by omega), dif_pos (by omega)]
  exact congrArg _ (congrArg _ (Fin.ext (by show _ - 256 = _; omega)))

theorem qAll_rot2 (qn : FVec F S128x2048 .f32) (r1 r2 : FVec F S128x512 .f32) (wuk : Vec F S16x128x256 .bf16) (y : S2048x512.Idx)
    (h : Fin 16) (r : Fin 128) (k : Fin 128) (h0 : (y 0).val = 128 * h.val + r.val) (h1 : (y 1).val = 384 + k.val) :
    qAll qn r1 r2 wuk y = headRot r2 h (ix2 r k) := by
  have hr := r.isLt; have hk := k.isLt
  unfold qAll
  have eh : (⟨(y 0).val / 128, by have : (y 0).val < 2048 := (y 0).isLt; omega⟩ : Fin 16) = h := Fin.ext (by show _ / 128 = _; omega)
  have er : (⟨(y 0).val % 128, Nat.mod_lt _ (by decide)⟩ : Fin 128) = r := Fin.ext (by show _ % 128 = _; omega)
  simp only [eh, er]
  rw [dif_neg (by omega), dif_neg (by omega)]
  exact congrArg _ (congrArg _ (Fin.ext (by show _ - 384 = _; omega)))

/-- The forty-eight stores leave the query scratch. -/
theorem read_q {sig : RefSig} {κ : Kind} {sp : Space} (v : View sig κ sp S2048x512 .bf16) (f : v.ty.Contents (Elt F))
    (qn : FVec F S128x2048 .f32) (r1 r2 : FVec F S128x512 .f32) (wuk : Vec F S16x128x256 .bf16) :
    v.read (Elt F) (v.writes (Elt F) f (headsDown.flatMap (qPieces qn r1 r2 wuk))) = qAll qn r1 r2 wuk := by
  refine read_pieces v f _ _ (fun y => ?_) ?_
  · have h0 : (y 0).val < 2048 := (y 0).isLt
    have h1 : (y 1).val < 512 := (y 1).isLt
    by_cases c1 : (y 1).val < 256
    · refine ⟨_, List.mem_flatMap.mpr ⟨⟨(y 0).val / 128, by omega⟩, mem_headsDown _, .tail _ (.tail _ (.head _))⟩, ?_⟩
      refine (Rect.mem_set_unit (inb := inbLat _)).mpr fun d => ?_
      match d with
      | 0 => exact ⟨by show 128 * ((y 0).val / 128) ≤ _; omega, by show _ < 128 * ((y 0).val / 128) + 128; omega⟩
      | 1 => exact ⟨Nat.zero_le _, by show _ < 0 + 256; omega⟩
    by_cases c2 : (y 1).val < 384
    · refine ⟨_, List.mem_flatMap.mpr ⟨⟨(y 0).val / 128, by omega⟩, mem_headsDown _, .tail _ (.head _)⟩, ?_⟩
      refine (Rect.mem_set_unit (inb := inbR1 _)).mpr fun d => ?_
      match d with
      | 0 => exact ⟨by show 128 * ((y 0).val / 128) ≤ _; omega, by show _ < 128 * ((y 0).val / 128) + 128; omega⟩
      | 1 => exact ⟨by show 256 ≤ _; omega, by show _ < 256 + 128; omega⟩
    · refine ⟨_, List.mem_flatMap.mpr ⟨⟨(y 0).val / 128, by omega⟩, mem_headsDown _, .head _⟩, ?_⟩
      refine (Rect.mem_set_unit (inb := inbR2 _)).mpr fun d => ?_
      match d with
      | 0 => exact ⟨by show 128 * ((y 0).val / 128) ≤ _; omega, by show _ < 128 * ((y 0).val / 128) + 128; omega⟩
      | 1 => exact ⟨by show 384 ≤ _; omega, by show _ < 384 + 128; omega⟩
  · intro p hp
    obtain ⟨h, -, hp⟩ := List.mem_flatMap.mp hp
    simp only [qPieces, List.mem_cons, List.not_mem_nil, or_false] at hp
    rcases hp with rfl | rfl | rfl
    · intro x
      refine (congrArg _ (eq_ix2 (n0 := 128) (n1 := 128) x)).trans
        (qAll_rot2 qn r1 r2 wuk _ h (x 0) (x 1) (ValueKit.rect_emb_unit_val _ _ (inbR2 h) _ 0) (ValueKit.rect_emb_unit_val _ _ (inbR2 h) _ 1)).symm
    · intro x
      refine (congrArg _ (eq_ix2 (n0 := 128) (n1 := 128) x)).trans
        (qAll_rot1 qn r1 r2 wuk _ h (x 0) (x 1) (ValueKit.rect_emb_unit_val _ _ (inbR1 h) _ 0) (ValueKit.rect_emb_unit_val _ _ (inbR1 h) _ 1)).symm
    · intro x
      refine (congrArg _ (eq_ix2 (n0 := 128) (n1 := 256) x)).trans
        (qAll_lat qn r1 r2 wuk _ h (x 0) (x 1) (ValueKit.rect_emb_unit_val _ _ (inbLat h) _ 0)
          ((ValueKit.rect_emb_unit_val _ _ (inbLat h) _ 1).trans (Nat.zero_add _))).symm

end Cert.KernelIdeal.Attn

end
-- ==== Proof.State.lean ====
module

public import proofs.«01_k».proof.Proof.Heads

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

/-- The ten input blocks the body finds at a point. -/
structure Ins (F : FTy → Type) [FloatOps F] where
  x3 : Vec F S1x128x384 .bf16
  x4 : Vec F S128x512 .f32
  x5 : Vec F S128x512 .f32
  x6 : Vec F S1x512x512 .bf16
  x7 : Vec F S1x128x2048 .bf16
  x8 : Vec F S384x2048 .bf16
  x9 : Vec F S384x512 .bf16
  x10 : Vec F S384x512 .bf16
  x11 : Vec F S16x128x256 .bf16
  x12 : Vec F S16x256x128 .bf16

/-- What the body carries: the queries of the tile, the running maximum, the running sum of weights, the running
    weighted sum of values, and the output tile. -/
structure St (F : FTy → Type) [FloatOps F] where
  q : Vec F S2048x512 .bf16
  m : Vec F S2048x1 .f32
  l : Vec F S2048x1 .f32
  a : Vec F S2048x256 .f32
  o : Vec F S1x128x2048 .bf16

/-- The start of a tile: its queries, and the empty running softmax. -/
def St.start (X : Ins F) (s : St F) : St F :=
  { q := qAll (k0_pay7 X.x3 X.x8) (k0_pay10 X.x3 X.x4 X.x5 X.x9 X.x10) (k0_pay11 X.x3 X.x4 X.x5 X.x9 X.x10) X.x11
    m := k0_pay246, l := k0_pay247, a := k0_pay248, o := s.o }

/-- One block of keys taken into the running softmax, its scores `sc`. -/
def St.take (X : Ins F) (sc : Fin 8 → Vec F S256x512 .f32) (s : St F) : St F :=
  { q := s.q, m := stepM sc s.m, l := stepL sc s.m s.l, a := stepA (k0_pay96 X.x6) sc s.m s.a, o := s.o }

/-- The end of a tile: its output. -/
def St.finish (X : Ins F) (s : St F) : St F :=
  { s with o := outTile X.x12 X.x7 s.l s.a }

/-- One grid point: tile `i = n / 4 % 16` of the queries against key block `j = n % 4`. -/
def St.step (n : ℕ) (i j : BitVec 32) (X : Ins F) (s : St F) : St F :=
  let s₁ := if n % 4 = 0 then s.start X else s
  if n / 4 % 16 / 4 = n % 4 then (s₁.take X (scMask i j X.x6 s₁.q)).finish X
  else if n % 4 < n / 4 % 16 / 4 then s₁.take X (scPlain X.x6 s₁.q)
  else s₁

/-- The same state with another output tile. -/
abbrev St.withO (s : St F) (d : Vec F S1x128x2048 .bf16) : St F := { s with o := d }

/-- Away from a last block, a point carries the output tile along. -/
theorem St.step_withO (n : ℕ) (i j : BitVec 32) (X : Ins F) (s : St F) (d : Vec F S1x128x2048 .bf16)
    (h : n / 4 % 16 / 4 ≠ n % 4) : (s.withO d).step n i j X = (s.step n i j X).withO d := by
  unfold St.step
  split_ifs <;> first | rfl | omega

/-- At a last block, the output tile found does not matter. -/
theorem St.step_last (n : ℕ) (i j : BitVec 32) (X : Ins F) (s : St F) (d : Vec F S1x128x2048 .bf16)
    (h : n / 4 % 16 / 4 = n % 4) : (s.withO d).step n i j X = s.step n i j X := by
  unfold St.step
  split_ifs <;> first | rfl | omega

/-- At a first block that is also a last one, nothing found matters. -/
theorem St.step_fresh (n : ℕ) (i j : BitVec 32) (X : Ins F) (s s' : St F)
    (h0 : n % 4 = 0) (h : n / 4 % 16 / 4 = n % 4) : s.step n i j X = s'.step n i j X := by
  unfold St.step
  split_ifs <;> first | rfl | omega

/-- Past the last block, a point leaves everything. -/
theorem St.step_past (n : ℕ) (i j : BitVec 32) (X : Ins F) (s : St F)
    (h : n / 4 % 16 / 4 < n % 4) : s.step n i j X = s := by
  unfold St.step
  rw [if_neg (by omega : ¬ n % 4 = 0), if_neg (by omega), if_neg (by omega)]

end Cert.KernelIdeal.Attn

end
-- ==== Proof.RunInit.lean ====
module

public import proofs.«01_k».proof.Proof.Heads

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

section
variable (c : Dev nD) (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

set_option maxHeartbeats 4000000 in
/-- The tile's queries are placed, and the running values reset. -/
theorem run_init (x3 : Vec F S1x128x384 .bf16) (x4 : Vec F S128x512 .f32) (x5 : Vec F S128x512 .f32) (x8 : Vec F S384x2048 .bf16) (x9 : Vec F S384x512 .bf16) (x10 : Vec F S384x512 .bf16) (x11 : Vec F S16x128x256 .bf16) (x14 : Vec F S2048x512 .bf16) (x15 : Vec F S2048x1 .f32) (x16 : Vec F S2048x1 .f32) (x17 : Vec F S2048x256 .f32) (E : Set ℕ) (k : Prog (TpuEff nD τ sig (Elt F) Λ₀ .tc) PUnit) (K : PUnit → sProp 𝕄) :
    iprop(owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg3 fullShare x3 ∗ owns (c : Thread nD τ) arg4 fullShare x4 ∗ owns (c : Thread nD τ) arg5 fullShare x5 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg14 fullShare (qAll (k0_pay7 x3 x8) (k0_pay10 x3 x4 x5 x9 x10) (k0_pay11 x3 x4 x5 x9 x10) x11) ∗ owns (c : Thread nD τ) arg15 fullShare k0_pay246 ∗ owns (c : Thread nD τ) arg16 fullShare k0_pay247 ∗ owns (c : Thread nD τ) arg17 fullShare k0_pay248)
          -∗ wp frame (wpE (defs₀ (F := F)) Variants.none c none) E k K))
      ⊢ wp frame (wpE (defs₀ (F := F)) Variants.none c none) E (segInit i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold segInit
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, ⟨%f14, %hf14, H14⟩, ⟨%f15, %hf15, H15⟩, ⟨%f16, %hf16, H16⟩, ⟨%f17, %hf17, H17⟩, Hk⟩
  obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16; obtain rfl := harg17.eq_unread hf17
  sl_exec
  iapply Hk
  isplitl [H3]
  · iexists _; isplitr
    · ipureintro; exact harg3.read_unread x3
    · iexact H3
  isplitl [H4]
  · iexists _; isplitr
    · ipureintro; exact harg4.read_unread x4
    · iexact H4
  isplitl [H5]
  · iexists _; isplitr
    · ipureintro; exact harg5.read_unread x5
    · iexact H5
  isplitl [H8]
  · iexists _; isplitr
    · ipureintro; exact harg8.read_unread x8
    · iexact H8
  isplitl [H9]
  · iexists _; isplitr
    · ipureintro; exact harg9.read_unread x9
    · iexact H9
  isplitl [H10]
  · iexists _; isplitr
    · ipureintro; exact harg10.read_unread x10
    · iexact H10
  isplitl [H11]
  · iexists _; isplitr
    · ipureintro; exact harg11.read_unread x11
    · iexact H11
  isplitl [H14]
  · iexists _; isplitr; swap
    · iexact H14
    · ipureintro
      refine Eq.trans ?_ (read_q arg14.view (harg14.unread x14) (k0_pay7 x3 x8) (k0_pay10 x3 x4 x5 x9 x10) (k0_pay11 x3 x4 x5 x9 x10) x11)
      refine congrArg (fun L => View.read (Elt F) arg14.view (View.writes arg14.view (Elt F) (harg14.unread x14) L)) ?_
      sl_unfold_run_names
      simp only [readAt_full harg3 x3 _ z3, readAt_full harg4 x4 _ z2, readAt_full harg5 x5 _ z2, readAt_full harg8 x8 _ z2, readAt_full harg9 x9 _ z2, readAt_full harg10 x10 _ z2]
      simp only [readAt_fn]
      sl_kernel_rfl
  isplitl [H15]
  · iexists _; isplitr; swap
    · iexact H15
    · ipureintro
      exact read_whole _ _ _ z2 _ _
  isplitl [H16]
  · iexists _; isplitr; swap
    · iexact H16
    · ipureintro
      exact read_whole _ _ _ z2 _ _
  · iexists _; isplitr; swap
    · iexact H17
    · ipureintro
      exact read_whole _ _ _ z2 _ _

end

end Cert.KernelIdeal.Attn

end
-- ==== Proof.RunMask.lean ====
module

public import proofs.«01_k».proof.Proof.Rows

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

section
variable (c : Dev nD) (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

set_option maxHeartbeats 4000000 in
/-- The block update, masked. -/
theorem run_mask (kc : Vec F S1x512x512 .bf16) (q : Vec F S2048x512 .bf16) (m : Vec F S2048x1 .f32) (l : Vec F S2048x1 .f32)
    (a : Vec F S2048x256 .f32) (E : Set ℕ) (k : Prog (TpuEff nD τ sig (Elt F) Λ₀ .tc) PUnit) (K : PUnit → sProp 𝕄) :
    iprop(owns (c : Thread nD τ) arg6 fullShare kc ∗ owns (c : Thread nD τ) arg14 fullShare q
        ∗ owns (c : Thread nD τ) arg15 fullShare m ∗ owns (c : Thread nD τ) arg16 fullShare l
        ∗ owns (c : Thread nD τ) arg17 fullShare a
        ∗ (iprop(owns (c : Thread nD τ) arg6 fullShare kc ∗ owns (c : Thread nD τ) arg14 fullShare q
            ∗ owns (c : Thread nD τ) arg15 fullShare (stepM (scMask (BitVec.ofNat 32 (i 1).val) (BitVec.ofNat 32 (i 2).val) kc q) m)
            ∗ owns (c : Thread nD τ) arg16 fullShare (stepL (scMask (BitVec.ofNat 32 (i 1).val) (BitVec.ofNat 32 (i 2).val) kc q) m l)
            ∗ owns (c : Thread nD τ) arg17 fullShare (stepA (k0_pay96 kc) (scMask (BitVec.ofNat 32 (i 1).val) (BitVec.ofNat 32 (i 2).val) kc q) m a))
          -∗ wp frame (wpE (defs₀ (F := F)) Variants.none c none) E k K))
      ⊢ wp frame (wpE (defs₀ (F := F)) Variants.none c none) E (segMask i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold segMask
  simp only [k0_part14_eq_skeleton, k0_part15_eq_skeleton, k0_part16_eq_skeleton, k0_part17_eq_skeleton,
    k0_part18_eq_skeleton, k0_part19_eq_skeleton, k0_part20_eq_skeleton, k0_part21_eq_skeleton]
  unfold owns
  iintro ⟨⟨%f6, %hf6, H6⟩, ⟨%f14, %hf14, H14⟩, ⟨%f15, %hf15, H15⟩, ⟨%f16, %hf16, H16⟩, ⟨%f17, %hf17, H17⟩, Hk⟩
  obtain rfl := harg6.eq_unread hf6; obtain rfl := harg14.eq_unread hf14; obtain rfl := harg15.eq_unread hf15
  obtain rfl := harg16.eq_unread hf16; obtain rfl := harg17.eq_unread hf17
  sl_exec
  iapply Hk
  isplitl [H6]
  · iexists _; isplitr
    · ipureintro; exact harg6.read_unread kc
    · iexact H6
  isplitl [H14]
  · iexists _; isplitr
    · ipureintro; exact harg14.read_unread q
    · iexact H14
  isplitl [H15]
  · iexists _; isplitr; swap
    · iexact H15
    · ipureintro
      refine read_blocks_eq arg15.view (harg15.unread m) (fun b => k0_pay105 (scMask (BitVec.ofNat 32 (i 1).val) (BitVec.ofNat 32 (i 2).val) kc q b) (rows m b)) ?_ ?_ ?_ ?_ ?_ ?_ ?_ ?_
      all_goals
        sl_unfold_run_names
        rw [readAt_full harg6 kc _ z3]
        simp only [readAt_fn]
        rfl
  isplitl [H16]
  · iexists _; isplitr; swap
    · iexact H16
    · ipureintro
      refine read_blocks_eq arg16.view (harg16.unread l) (fun b => k0_pay103 (scMask (BitVec.ofNat 32 (i 1).val) (BitVec.ofNat 32 (i 2).val) kc q b) (rows m b) (rows l b)) ?_ ?_ ?_ ?_ ?_ ?_ ?_ ?_
      all_goals
        sl_unfold_run_names
        rw [readAt_full harg6 kc _ z3]
        simp only [readAt_fn]
        rfl
  · iexists _; isplitr; swap
    · iexact H17
    · ipureintro
      refine read_blocks_eq arg17.view (harg17.unread a) (fun b => k0_pay104 (k0_pay96 kc) (scMask (BitVec.ofNat 32 (i 1).val) (BitVec.ofNat 32 (i 2).val) kc q b) (rows m b) (rows a b)) ?_ ?_ ?_ ?_ ?_ ?_ ?_ ?_
      all_goals
        sl_unfold_run_names
        rw [readAt_full harg6 kc _ z3]
        simp only [readAt_fn]
        rfl

end

end Cert.KernelIdeal.Attn

end
-- ==== Proof.RunPlain.lean ====
module

public import proofs.«01_k».proof.Proof.Rows

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

section
variable (c : Dev nD) (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

set_option maxHeartbeats 4000000 in
/-- The block update, unmasked. -/
theorem run_plain (kc : Vec F S1x512x512 .bf16) (q : Vec F S2048x512 .bf16) (m : Vec F S2048x1 .f32) (l : Vec F S2048x1 .f32)
    (a : Vec F S2048x256 .f32) (E : Set ℕ) (k : Prog (TpuEff nD τ sig (Elt F) Λ₀ .tc) PUnit) (K : PUnit → sProp 𝕄) :
    iprop(owns (c : Thread nD τ) arg6 fullShare kc ∗ owns (c : Thread nD τ) arg14 fullShare q
        ∗ owns (c : Thread nD τ) arg15 fullShare m ∗ owns (c : Thread nD τ) arg16 fullShare l
        ∗ owns (c : Thread nD τ) arg17 fullShare a
        ∗ (iprop(owns (c : Thread nD τ) arg6 fullShare kc ∗ owns (c : Thread nD τ) arg14 fullShare q
            ∗ owns (c : Thread nD τ) arg15 fullShare (stepM (scPlain kc q) m)
            ∗ owns (c : Thread nD τ) arg16 fullShare (stepL (scPlain kc q) m l)
            ∗ owns (c : Thread nD τ) arg17 fullShare (stepA (k0_pay96 kc) (scPlain kc q) m a))
          -∗ wp frame (wpE (defs₀ (F := F)) Variants.none c none) E k K))
      ⊢ wp frame (wpE (defs₀ (F := F)) Variants.none c none) E (segPlain i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold segPlain
  simp only [k0_part22_eq_skeleton, k0_part23_eq_skeleton, k0_part24_eq_skeleton, k0_part25_eq_skeleton,
    k0_part26_eq_skeleton, k0_part27_eq_skeleton, k0_part28_eq_skeleton]
  unfold owns
  iintro ⟨⟨%f6, %hf6, H6⟩, ⟨%f14, %hf14, H14⟩, ⟨%f15, %hf15, H15⟩, ⟨%f16, %hf16, H16⟩, ⟨%f17, %hf17, H17⟩, Hk⟩
  obtain rfl := harg6.eq_unread hf6; obtain rfl := harg14.eq_unread hf14; obtain rfl := harg15.eq_unread hf15
  obtain rfl := harg16.eq_unread hf16; obtain rfl := harg17.eq_unread hf17
  sl_exec
  iapply Hk
  isplitl [H6]
  · iexists _; isplitr
    · ipureintro; exact harg6.read_unread kc
    · iexact H6
  isplitl [H14]
  · iexists _; isplitr
    · ipureintro; exact harg14.read_unread q
    · iexact H14
  isplitl [H15]
  · iexists _; isplitr; swap
    · iexact H15
    · ipureintro
      refine read_blocks_eq arg15.view (harg15.unread m) (fun b => k0_pay105 (scPlain kc q b) (rows m b)) ?_ ?_ ?_ ?_ ?_ ?_ ?_ ?_
      all_goals
        sl_unfold_run_names
        rw [readAt_full harg6 kc _ z3]
        simp only [readAt_fn]
        rfl
  isplitl [H16]
  · iexists _; isplitr; swap
    · iexact H16
    · ipureintro
      refine read_blocks_eq arg16.view (harg16.unread l) (fun b => k0_pay103 (scPlain kc q b) (rows m b) (rows l b)) ?_ ?_ ?_ ?_ ?_ ?_ ?_ ?_
      all_goals
        sl_unfold_run_names
        rw [readAt_full harg6 kc _ z3]
        simp only [readAt_fn]
        rfl
  · iexists _; isplitr; swap
    · iexact H17
    · ipureintro
      refine read_blocks_eq arg17.view (harg17.unread a) (fun b => k0_pay104 (k0_pay96 kc) (scPlain kc q b) (rows m b) (rows a b)) ?_ ?_ ?_ ?_ ?_ ?_ ?_ ?_
      all_goals
        sl_unfold_run_names
        rw [readAt_full harg6 kc _ z3]
        simp only [readAt_fn]
        rfl

end

end Cert.KernelIdeal.Attn

end
-- ==== Proof.RunLast.lean ====
module

public import proofs.«01_k».proof.Proof.Heads

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

section
variable (c : Dev nD) (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

set_option maxHeartbeats 4000000 in
/-- A finished tile is written. -/
theorem run_last (x7 : Vec F S1x128x2048 .bf16) (x12 : Vec F S16x256x128 .bf16) (x16 : Vec F S2048x1 .f32) (x17 : Vec F S2048x256 .f32) (x13 : Vec F S1x128x2048 .bf16) (E : Set ℕ) (k : Prog (TpuEff nD τ sig (Elt F) Λ₀ .tc) PUnit) (K : PUnit → sProp 𝕄) :
    iprop(owns (c : Thread nD τ) arg7 fullShare x7 ∗ owns (c : Thread nD τ) arg12 fullShare x12 ∗ owns (c : Thread nD τ) arg16 fullShare x16 ∗ owns (c : Thread nD τ) arg17 fullShare x17 ∗ owns (c : Thread nD τ) arg13 fullShare x13
        ∗ (iprop(owns (c : Thread nD τ) arg7 fullShare x7 ∗ owns (c : Thread nD τ) arg12 fullShare x12 ∗ owns (c : Thread nD τ) arg16 fullShare x16 ∗ owns (c : Thread nD τ) arg17 fullShare x17 ∗ owns (c : Thread nD τ) arg13 fullShare (outTile x12 x7 x16 x17))
          -∗ wp frame (wpE (defs₀ (F := F)) Variants.none c none) E k K))
      ⊢ wp frame (wpE (defs₀ (F := F)) Variants.none c none) E (segLast i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold segLast
  simp only [k0_part29_eq_skeleton, k0_part30_eq_skeleton, k0_part31_eq_skeleton, k0_part32_eq_skeleton, k0_part33_eq_skeleton, k0_part34_eq_skeleton]
  unfold owns
  iintro ⟨⟨%f7, %hf7, H7⟩, ⟨%f12, %hf12, H12⟩, ⟨%f16, %hf16, H16⟩, ⟨%f17, %hf17, H17⟩, ⟨%f13, %hf13, H13⟩, Hk⟩
  obtain rfl := harg7.eq_unread hf7; obtain rfl := harg12.eq_unread hf12; obtain rfl := harg16.eq_unread hf16; obtain rfl := harg17.eq_unread hf17; obtain rfl := harg13.eq_unread hf13
  sl_exec
  iapply Hk
  isplitl [H7]
  · iexists _; isplitr
    · ipureintro; exact harg7.read_unread x7
    · iexact H7
  isplitl [H12]
  · iexists _; isplitr
    · ipureintro; exact harg12.read_unread x12
    · iexact H12
  isplitl [H16]
  · iexists _; isplitr
    · ipureintro; exact harg16.read_unread x16
    · iexact H16
  isplitl [H17]
  · iexists _; isplitr
    · ipureintro; exact harg17.read_unread x17
    · iexact H17
  · iexists _; isplitr; swap
    · iexact H13
    · ipureintro
      refine Eq.trans ?_ (read_out arg13.view (harg13.unread x13) x12 x7 x16 x17)
      refine congrArg (fun L => View.read (Elt F) arg13.view (View.writes arg13.view (Elt F) (harg13.unread x13) L)) ?_
      sl_unfold_run_names
      simp only [readAt_full harg16 x16 _ z2, readAt_full harg17 x17 _ z2]
      simp only [readAt_fn]
      sl_kernel_rfl

end

end Cert.KernelIdeal.Attn

end
-- ==== Proof.Point.lean ====
module

public import proofs.«01_k».proof.Proof.State
public import proofs.«01_k».proof.Proof.RunInit
public import proofs.«01_k».proof.Proof.RunMask
public import proofs.«01_k».proof.Proof.RunPlain
public import proofs.«01_k».proof.Proof.RunLast

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

section
variable (c : Dev nD) (i : grid0.Coords)
  (arg3 : Memref sig .tc .vmem S1x128x384 .bf16) (harg3 : arg3.IsWhole)
  (arg4 : Memref sig .tc .vmem S128x512 .f32) (harg4 : arg4.IsWhole)
  (arg5 : Memref sig .tc .vmem S128x512 .f32) (harg5 : arg5.IsWhole)
  (arg6 : Memref sig .tc .vmem S1x512x512 .bf16) (harg6 : arg6.IsWhole)
  (arg7 : Memref sig .tc .vmem S1x128x2048 .bf16) (harg7 : arg7.IsWhole)
  (arg8 : Memref sig .tc .vmem S384x2048 .bf16) (harg8 : arg8.IsWhole)
  (arg9 : Memref sig .tc .vmem S384x512 .bf16) (harg9 : arg9.IsWhole)
  (arg10 : Memref sig .tc .vmem S384x512 .bf16) (harg10 : arg10.IsWhole)
  (arg11 : Memref sig .tc .vmem S16x128x256 .bf16) (harg11 : arg11.IsWhole)
  (arg12 : Memref sig .tc .vmem S16x256x128 .bf16) (harg12 : arg12.IsWhole)
  (arg13 : Memref sig .tc .vmem S1x128x2048 .bf16) (harg13 : arg13.IsWhole)
  (arg14 : Memref sig .tc .vmem S2048x512 .bf16) (harg14 : arg14.IsWhole)
  (arg15 : Memref sig .tc .vmem S2048x1 .f32) (harg15 : arg15.IsWhole)
  (arg16 : Memref sig .tc .vmem S2048x1 .f32) (harg16 : arg16.IsWhole)
  (arg17 : Memref sig .tc .vmem S2048x256 .f32) (harg17 : arg17.IsWhole)

/-- The buffers the body works on: the input blocks `X`, and what it carries, `s`. -/
def res (X : Ins F) (s : St F) : sProp 𝕄 :=
  iprop(owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12 ∗ owns (c : Thread nD τ) arg13 fullShare s.o ∗ owns (c : Thread nD τ) arg14 fullShare s.q ∗ owns (c : Thread nD τ) arg15 fullShare s.m ∗ owns (c : Thread nD τ) arg16 fullShare s.l ∗ owns (c : Thread nD τ) arg17 fullShare s.a)

/-- The first segment starts the tile. -/
theorem take_init (X : Ins F) (s : St F) (E : Set ℕ) (k : Prog (TpuEff nD τ sig (Elt F) Λ₀ .tc) PUnit) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (s.start X) -∗ wp frame (wpE (defs₀ (F := F)) Variants.none c none) E k K))
      ⊢ wp frame (wpE (defs₀ (F := F)) Variants.none c none) E (segInit i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold res
  iintro ⟨⟨H3, H4, H5, H6, H7, H8, H9, H10, H11, H12, H13, H14, H15, H16, H17⟩, Hk⟩
  iapply (run_init c i arg3 harg3 arg4 harg4 arg5 harg5 arg6 harg6 arg7 harg7 arg8 harg8 arg9 harg9 arg10 harg10 arg11 harg11 arg12 harg12 arg13 harg13 arg14 harg14 arg15 harg15 arg16 harg16 arg17 harg17 X.x3 X.x4 X.x5 X.x8 X.x9 X.x10 X.x11 s.q s.m s.l s.a E k K)
  isplitl [H3]; · iexact H3
  isplitl [H4]; · iexact H4
  isplitl [H5]; · iexact H5
  isplitl [H8]; · iexact H8
  isplitl [H9]; · iexact H9
  isplitl [H10]; · iexact H10
  isplitl [H11]; · iexact H11
  isplitl [H14]; · iexact H14
  isplitl [H15]; · iexact H15
  isplitl [H16]; · iexact H16
  isplitl [H17]; · iexact H17
  iintro ⟨H3, H4, H5, H8, H9, H10, H11, H14, H15, H16, H17⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The masked segment takes a block with the keys after the query left out. -/
theorem take_mask (X : Ins F) (s : St F) (E : Set ℕ) (k : Prog (TpuEff nD τ sig (Elt F) Λ₀ .tc) PUnit) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (s.take X (scMask (BitVec.ofNat 32 (i 1).val) (BitVec.ofNat 32 (i 2).val) X.x6 s.q)) -∗ wp frame (wpE (defs₀ (F := F)) Variants.none c none) E k K))
      ⊢ wp frame (wpE (defs₀ (F := F)) Variants.none c none) E (segMask i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold res
  iintro ⟨⟨H3, H4, H5, H6, H7, H8, H9, H10, H11, H12, H13, H14, H15, H16, H17⟩, Hk⟩
  iapply (run_mask c i arg3 harg3 arg4 harg4 arg5 harg5 arg6 harg6 arg7 harg7 arg8 harg8 arg9 harg9 arg10 harg10 arg11 harg11 arg12 harg12 arg13 harg13 arg14 harg14 arg15 harg15 arg16 harg16 arg17 harg17 X.x6 s.q s.m s.l s.a E k K)
  isplitl [H6]; · iexact H6
  isplitl [H14]; · iexact H14
  isplitl [H15]; · iexact H15
  isplitl [H16]; · iexact H16
  isplitl [H17]; · iexact H17
  iintro ⟨H6, H14, H15, H16, H17⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The plain segment takes a whole block. -/
theorem take_plain (X : Ins F) (s : St F) (E : Set ℕ) (k : Prog (TpuEff nD τ sig (Elt F) Λ₀ .tc) PUnit) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (s.take X (scPlain X.x6 s.q)) -∗ wp frame (wpE (defs₀ (F := F)) Variants.none c none) E k K))
      ⊢ wp frame (wpE (defs₀ (F := F)) Variants.none c none) E (segPlain i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold res
  iintro ⟨⟨H3, H4, H5, H6, H7, H8, H9, H10, H11, H12, H13, H14, H15, H16, H17⟩, Hk⟩
  iapply (run_plain c i arg3 harg3 arg4 harg4 arg5 harg5 arg6 harg6 arg7 harg7 arg8 harg8 arg9 harg9 arg10 harg10 arg11 harg11 arg12 harg12 arg13 harg13 arg14 harg14 arg15 harg15 arg16 harg16 arg17 harg17 X.x6 s.q s.m s.l s.a E k K)
  isplitl [H6]; · iexact H6
  isplitl [H14]; · iexact H14
  isplitl [H15]; · iexact H15
  isplitl [H16]; · iexact H16
  isplitl [H17]; · iexact H17
  iintro ⟨H6, H14, H15, H16, H17⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The last segment writes the tile. -/
theorem take_last (X : Ins F) (s : St F) (E : Set ℕ) (k : Prog (TpuEff nD τ sig (Elt F) Λ₀ .tc) PUnit) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (s.finish X) -∗ wp frame (wpE (defs₀ (F := F)) Variants.none c none) E k K))
      ⊢ wp frame (wpE (defs₀ (F := F)) Variants.none c none) E (segLast i arg3 harg3 arg4 harg4 arg5 harg5 arg6 harg6 arg7 harg7 arg8 harg8 arg9 harg9 arg10 harg10 arg11 harg11 arg12 harg12 arg13 harg13 arg14 harg14 arg15 harg15 arg16 harg16 arg17 harg17 k) K := by
  unfold res
  iintro ⟨⟨H3, H4, H5, H6, H7, H8, H9, H10, H11, H12, H13, H14, H15, H16, H17⟩, Hk⟩
  iapply (run_last c i arg3 harg3 arg4 harg4 arg5 harg5 arg6 harg6 arg7 harg7 arg8 harg8 arg9 harg9 arg10 harg10 arg11 harg11 arg12 harg12 arg13 harg13 arg14 harg14 arg15 harg15 arg16 harg16 arg17 harg17 X.x7 X.x12 s.l s.a s.o E k K)
  isplitl [H7]; · iexact H7
  isplitl [H12]; · iexact H12
  isplitl [H16]; · iexact H16
  isplitl [H17]; · iexact H17
  isplitl [H13]; · iexact H13
  iintro ⟨H7, H12, H16, H17, H13⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The second half of the body. -/
theorem take_half2 (X : Ins F) (s : St F) (E : Set ℕ) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (let s₂ := if condPlain i then s.take X (scPlain X.x6 s.q) else s
        if condLast i then s₂.finish X else s₂) -∗ K PUnit.unit))
      ⊢ wp frame (wpE (defs₀ (F := F)) Variants.none c none) E (half2 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold half2
  have hret (s : St F) : iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X s -∗ K PUnit.unit)) ⊢ wp frame (wpE (defs₀ (F := F)) Variants.none c none) E (pure PUnit.unit) K := by
    rw [wp_pure]; refine Entails.trans ?_ fupd_intro
    iintro ⟨H, Hk⟩; iapply Hk; iexact H
  by_cases h2 : condPlain i <;> by_cases h3 : condLast i
  · simp only [dif_pos h2, if_pos h2, dif_pos h3, if_pos h3]
    iintro ⟨H, Hk⟩
    iapply (take_plain c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E _ K); isplitl [H]; · iexact H
    iintro H
    iapply (take_last c i arg3 harg3 arg4 harg4 arg5 harg5 arg6 harg6 arg7 harg7 arg8 harg8 arg9 harg9 arg10 harg10 arg11 harg11 arg12 harg12 arg13 harg13 arg14 harg14 arg15 harg15 arg16 harg16 arg17 harg17 X _ E _ K); isplitl [H]; · iexact H
    iintro H
    iapply (hret _); isplitl [H]; · iexact H
    iexact Hk
  · simp only [dif_pos h2, if_pos h2, dif_neg h3, if_neg h3]
    iintro ⟨H, Hk⟩
    iapply (take_plain c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E _ K); isplitl [H]; · iexact H
    iintro H
    iapply (hret _); isplitl [H]; · iexact H
    iexact Hk
  · simp only [dif_neg h2, if_neg h2, dif_pos h3, if_pos h3]
    iintro ⟨H, Hk⟩
    iapply (take_last c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E _ K); isplitl [H]; · iexact H
    iintro H
    iapply (hret _); isplitl [H]; · iexact H
    iexact Hk
  · simp only [dif_neg h2, if_neg h2, dif_neg h3, if_neg h3]
    exact hret s

/-- The masked segment under its condition, then the second half. -/
theorem take_half1 (X : Ins F) (s : St F) (E : Set ℕ) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (let s₁ := if condMask i then s.take X (scMask (BitVec.ofNat 32 (i 1).val) (BitVec.ofNat 32 (i 2).val) X.x6 s.q) else s
        let s₂ := if condPlain i then s₁.take X (scPlain X.x6 s₁.q) else s₁
        if condLast i then s₂.finish X else s₂) -∗ K PUnit.unit))
      ⊢ wp frame (wpE (defs₀ (F := F)) Variants.none c none) E (half1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold half1
  by_cases h1 : condMask i
  · simp only [dif_pos h1, if_pos h1]
    iintro ⟨H, Hk⟩
    iapply (take_mask c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E _ K); isplitl [H]; · iexact H
    iintro H
    iapply (take_half2 c i arg3 harg3 arg4 harg4 arg5 harg5 arg6 harg6 arg7 harg7 arg8 harg8 arg9 harg9 arg10 harg10 arg11 harg11 arg12 harg12 arg13 harg13 arg14 harg14 arg15 harg15 arg16 harg16 arg17 harg17 X _ E K); isplitl [H]; · iexact H
    iexact Hk
  · simp only [dif_neg h1, if_neg h1]
    exact take_half2 c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E K

/-- The whole body, each of its four segments under its condition. -/
theorem take_body (X : Ins F) (s : St F) (E : Set ℕ) (K : PUnit → sProp 𝕄) :
    iprop(res c arg3 arg4 arg5 arg6 arg7 arg8 arg9 arg10 arg11 arg12 arg13 arg14 arg15 arg16 arg17 X s ∗ (res c arg3 arg4 arg5 arg6 arg7 arg8 arg9 arg10 arg11 arg12 arg13 arg14 arg15 arg16 arg17 X (let s₀ := if condInit i then s.start X else s
        let s₁ := if condMask i then s₀.take X (scMask (BitVec.ofNat 32 (i 1).val) (BitVec.ofNat 32 (i 2).val) X.x6 s₀.q) else s₀
        let s₂ := if condPlain i then s₁.take X (scPlain X.x6 s₁.q) else s₁
        if condLast i then s₂.finish X else s₂) -∗ K PUnit.unit))
      ⊢ wp frame (wpE (defs₀ (F := F)) Variants.none c none) E (cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_eq]
  by_cases h0 : condInit i
  · simp only [dif_pos h0, if_pos h0]
    iintro ⟨H, Hk⟩
    iapply (take_init c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E _ K); isplitl [H]; · iexact H
    iintro H
    iapply (take_half1 c i arg3 harg3 arg4 harg4 arg5 harg5 arg6 harg6 arg7 harg7 arg8 harg8 arg9 harg9 arg10 harg10 arg11 harg11 arg12 harg12 arg13 harg13 arg14 harg14 arg15 harg15 arg16 harg16 arg17 harg17 X _ E K); isplitl [H]; · iexact H
    iexact Hk
  · simp only [dif_neg h0, if_neg h0]
    exact take_half1 c i arg3 harg3 arg4 harg4 arg5 harg5 arg6 harg6 arg7 harg7 arg8 harg8 arg9 harg9 arg10 harg10 arg11 harg11 arg12 harg12 arg13 harg13 arg14 harg14 arg15 harg15 arg16 harg16 arg17 harg17 X s E K

end

/-- The segments a point runs, by its number. -/
theorem step_eq (t : Fin cfg0.N) (X : Ins F) (s : St F) :
    (let s₀ := if condInit (grid0.coords t) then s.start X else s
     let s₁ := if condMask (grid0.coords t) then s₀.take X (scMask (BitVec.ofNat 32 (grid0.coords t 1).val) (BitVec.ofNat 32 (grid0.coords t 2).val) X.x6 s₀.q) else s₀
     let s₂ := if condPlain (grid0.coords t) then s₁.take X (scPlain X.x6 s₁.q) else s₁
     if condLast (grid0.coords t) then s₂.finish X else s₂)
      = s.step t.val (BitVec.ofNat 32 (grid0.coords t 1).val) (BitVec.ofNat 32 (grid0.coords t 2).val) X := by
  unfold St.step
  simp only [condInit_iff, condMask_iff, condPlain_iff, condLast_iff]
  by_cases h1 : t.val / 4 % 16 / 4 = t.val % 4
  · have h2 : ¬ t.val % 4 < t.val / 4 % 16 / 4 := by omega
    simp only [if_pos h1, if_neg h2]
  · simp only [if_neg h1]

end Cert.KernelIdeal.Attn

end
-- ==== Proof.Carry.lean ====
module

public import proofs.«01_k».proof.Proof.Point
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg BodyObligation)

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers -/

/-- Window 0's staging buffer at point `t`. -/
abbrev buf0 (t : Fin cfg0.N) : Memref sig .tc .vmem S1x128x384 .bf16 := win0_0.stage (cfg0.slots t 0)
/-- Window 1's staging buffer at point `t`. -/
abbrev buf1 (t : Fin cfg0.N) : Memref sig .tc .vmem S128x512 .f32 := win0_1.stage (cfg0.slots t 1)
/-- Window 2's staging buffer at point `t`. -/
abbrev buf2 (t : Fin cfg0.N) : Memref sig .tc .vmem S128x512 .f32 := win0_2.stage (cfg0.slots t 2)
/-- Window 3's staging buffer at point `t`. -/
abbrev buf3 (t : Fin cfg0.N) : Memref sig .tc .vmem S1x512x512 .bf16 := win0_3.stage (cfg0.slots t 3)
/-- Window 4's staging buffer at point `t`. -/
abbrev buf4 (t : Fin cfg0.N) : Memref sig .tc .vmem S1x128x2048 .bf16 := win0_4.stage (cfg0.slots t 4)
/-- Window 5's staging buffer at point `t`. -/
abbrev buf5 (t : Fin cfg0.N) : Memref sig .tc .vmem S384x2048 .bf16 := win0_5.stage (cfg0.slots t 5)
/-- Window 6's staging buffer at point `t`. -/
abbrev buf6 (t : Fin cfg0.N) : Memref sig .tc .vmem S384x512 .bf16 := win0_6.stage (cfg0.slots t 6)
/-- Window 7's staging buffer at point `t`. -/
abbrev buf7 (t : Fin cfg0.N) : Memref sig .tc .vmem S384x512 .bf16 := win0_7.stage (cfg0.slots t 7)
/-- Window 8's staging buffer at point `t`. -/
abbrev buf8 (t : Fin cfg0.N) : Memref sig .tc .vmem S16x128x256 .bf16 := win0_8.stage (cfg0.slots t 8)
/-- Window 9's staging buffer at point `t`. -/
abbrev buf9 (t : Fin cfg0.N) : Memref sig .tc .vmem S16x256x128 .bf16 := win0_9.stage (cfg0.slots t 9)
/-- Window 10's staging buffer at point `t`. -/
abbrev buf10 (t : Fin cfg0.N) : Memref sig .tc .vmem S1x128x2048 .bf16 := win0_10.stage (cfg0.slots t 10)
/-- Scratch buffer 0. -/
abbrev scr0 : Memref sig .tc .vmem S2048x512 .bf16 := Memref.whole cc0_scratch0
/-- Scratch buffer 1. -/
abbrev scr1 : Memref sig .tc .vmem S2048x1 .f32 := Memref.whole cc0_scratch1
/-- Scratch buffer 2. -/
abbrev scr2 : Memref sig .tc .vmem S2048x1 .f32 := Memref.whole cc0_scratch2
/-- Scratch buffer 3. -/
abbrev scr3 : Memref sig .tc .vmem S2048x256 .f32 := Memref.whole cc0_scratch3

/-- The input blocks at point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- What a point makes of the state it finds. -/
def stepAt (c : Dev nD) (t : Fin cfg0.N) (s : St F) : St F :=
  s.step t.val (BitVec.ofNat 32 (grid0.coords t 1).val) (BitVec.ofNat 32 (grid0.coords t 2).val) (ins m c t)

/-- A state to start the recursion from: the first point reads nothing of it. -/
def st₀ (X : Ins F) : St F :=
  { q := qAll (k0_pay7 X.x3 X.x8) (k0_pay10 X.x3 X.x4 X.x5 X.x9 X.x10) (k0_pay11 X.x3 X.x4 X.x5 X.x9 X.x10) X.x11
    m := k0_pay246, l := k0_pay247, a := k0_pay248, o := outTile X.x12 X.x7 k0_pay247 k0_pay248 }

theorem N_eq : cfg0.N = 1024 := N_0

/-- The state after point `n`. -/
def st (c : Dev nD) : ℕ → St F
  | 0 => stepAt m c ⟨0, by rw [N_eq]; omega⟩ (st₀ (ins m c ⟨0, by rw [N_eq]; omega⟩))
  | n + 1 => if h : n + 1 < cfg0.N then stepAt m c ⟨n + 1, h⟩ (st c n) else st c n

theorem st_succ (c : Dev nD) (t : Fin cfg0.N) (h : t.val ≠ 0) : st m c t.val = stepAt m c t (st m c (t.val - 1)) := by
  obtain ⟨n, hn⟩ := t
  cases n with
  | zero => exact absurd rfl h
  | succ n => exact dif_pos hn

/-- The first point makes the same of any state. -/
theorem st_first (c : Dev nD) (t : Fin cfg0.N) (h : t.val = 0) (s : St F) : st m c t.val = stepAt m c t s := by
  obtain ⟨n, hn⟩ := t
  obtain rfl : n = 0 := h
  exact St.step_fresh 0 _ _ _ _ _ (by decide) (by decide)

/-! ## The proof data -/

/-- The invariant between points: before the first, the scratch buffers at anything; after point `n`, at the state's. -/
def PhiS (c : Dev nD) : ℕ → sProp 𝕄
  | 0 => Pipeline.ΦA spec0 c
  | n + 1 => iprop(iprop(owns (c : Thread nD τ) scr0 fullShare (st m c n).q ∗ owns (c : Thread nD τ) scr1 fullShare (st m c n).m
      ∗ owns (c : Thread nD τ) scr2 fullShare (st m c n).l ∗ owns (c : Thread nD τ) scr3 fullShare (st m c n).a) ∗ (∃ r, prngReg c r))

theorem PhiS_pos (c : Dev nD) (n : ℕ) (hz : n ≠ 0) :
    PhiS m c n = iprop(iprop(owns (c : Thread nD τ) scr0 fullShare (st m c (n - 1)).q ∗ owns (c : Thread nD τ) scr1 fullShare (st m c (n - 1)).m
      ∗ owns (c : Thread nD τ) scr2 fullShare (st m c (n - 1)).l ∗ owns (c : Thread nD τ) scr3 fullShare (st m c (n - 1)).a) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The pipeline's proof data: every input's buffer keeps its block, the output's buffer holds the state's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (st m c t.val).o
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (st m c t.val).o := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem leaves_0 (c : Dev nD) (t : Fin cfg0.N) :
    (dats m 0 c).leavesExact 0 t = owns (c : Thread nD τ) (buf0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (buf1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (buf2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (buf3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (buf4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (buf5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (buf6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (buf7 t) fullShare (iblk m c 7 t) := by
  unfold Dat.leavesExact; rw [show cfg0.idle 7 (grid0.coords t) = false from rfl, after_7]
theorem leaves_8 (c : Dev nD) (t : Fin cfg0.N) :
    (dats m 0 c).leavesExact 8 t = owns (c : Thread nD τ) (buf8 t) fullShare (iblk m c 8 t) := by
  unfold Dat.leavesExact; rw [show cfg0.idle 8 (grid0.coords t) = false from rfl, after_8]
theorem leaves_9 (c : Dev nD) (t : Fin cfg0.N) :
    (dats m 0 c).leavesExact 9 t = owns (c : Thread nD τ) (buf9 t) fullShare (iblk m c 9 t) := by
  unfold Dat.leavesExact; rw [show cfg0.idle 9 (grid0.coords t) = false from rfl, after_9]

/-! ## The output window between its points -/

theorem idle_iff (t : Fin cfg0.N) : cfg0.idle 10 (cfg0.grid.coords t) = true ↔ ¬ t.val / 4 % 16 / 4 = t.val % 4 := by
  rw [← condLast_iff t]
  show (!(k0_cond4 (grid0.coords t) == 1#1)) = true ↔ _
  simp [condLast]

/-- The output's buffer holds nothing of the body's until the tile's last block. -/
theorem fresh_iff : ∀ n, n ≤ cfg0.N → cfg0.fresh 10 n = decide (n % 4 ≤ n / 4 % 16 / 4) := by
  refine Cfg.fresh_tab cfg0 10 (fun n => decide (n % 4 ≤ n / 4 % 16 / 4)) rfl (fun t => ?_)
  rw [Bool.eq_iff_iff]
  simp only [decide_eq_true_eq, Bool.or_eq_true, Bool.and_eq_true, flush0_10 t, idle_iff t]
  have hq : t.val % 4 = 3 ∧ (t.val + 1) % 4 = 0 ∨ (t.val + 1) / 4 = t.val / 4 ∧ (t.val + 1) % 4 = t.val % 4 + 1 := by omega
  rcases hq with ⟨h3, h⟩ | ⟨h3, h⟩
  · rw [h]; simp only [h3]; simp
  · rw [h3, h]; omega

/-- Past a tile's last block the state stays. -/
theorem st_past (c : Dev nD) (t : Fin cfg0.N) (h : t.val / 4 % 16 / 4 < t.val % 4) : st m c t.val = st m c (t.val - 1) := by
  rw [st_succ m c t (by omega)]; exact St.step_past _ _ _ _ _ h

theorem before_10 (c : Dev nD) (t : Fin cfg0.N) (d) :
    (dats m 0 c).before 10 t d = if t.val % 4 ≤ t.val / 4 % 16 / 4 then d else (st m c (t.val - 1)).o := by
  have hN := lt_of_lt_of_eq t.isLt N_eq
  refine (Dat.before_out_traj (dats m 0 c) 10 rfl (fun _ _ => rfl) (fun t ht hi hf => ?_) t.val t rfl d).trans ?_
  · rw [fresh_iff _ (Nat.le_of_lt t.isLt)] at hf
    rw [after_10, after_10, st_past m c t (by simpa using hf)]
  · rw [fresh_iff _ (Nat.le_of_lt t.isLt), after_10]
    simp only [decide_eq_true_eq]

end Cert.KernelIdeal.Attn

end
-- ==== Proof.Launch.lean ====
module

public import proofs.«01_k».proof.Proof.Carry
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg BodyObligation)

open Idealize.SL.BI.BIBase Idealize.SL.BI.Laws Idealize.SL.ProofMode
open scoped Idealize.SL.BI

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1000000 in
/-- The body at a point, from a state `s` that the point takes to the recorded one. -/
theorem sound_of (c : Dev nD) (t : Fin cfg0.N) (s : St F)
    (hq : (stepAt m c t s).q = (st m c t.val).q) (hm : (stepAt m c t s).m = (st m c t.val).m)
    (hl : (stepAt m c t s).l = (st m c t.val).l) (ha : (stepAt m c t s).a = (st m c t.val).a)
    (ho : owns (c : Thread nD τ) (buf10 t) fullShare (stepAt m c t s).o ⊢ ((dats m 0 c).leavesExact 10 t : sProp 𝕄)) :
    iprop((dats m 0 c).owesAt () t.castSucc ∗ (∃ r, prngReg c r) ∗ res c (buf0 t) (buf1 t) (buf2 t) (buf3 t) (buf4 t) (buf5 t) (buf6 t) (buf7 t) (buf8 t) (buf9 t) (buf10 t) scr0 scr1 scr2 scr3 (ins m c t) s)
      ⊢ wp frame (wpE (defs₀ (F := F)) Variants.none c none) Set.univ (bodyAt0 t) (fun _ => bodyPost m c t) := by
  have key := take_body c (grid0.coords t) (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) (buf6 t) (hstage0_6 ((cfg0.slots t 6).cast nbuf0_6)) (buf7 t) (hstage0_7 ((cfg0.slots t 7).cast nbuf0_7)) (buf8 t) (hstage0_8 ((cfg0.slots t 8).cast nbuf0_8)) (buf9 t) (hstage0_9 ((cfg0.slots t 9).cast nbuf0_9)) (buf10 t) (hstage0_10 ((cfg0.slots t 10).cast nbuf0_10)) scr0 (Memref.isWhole_whole _) scr1 (Memref.isWhole_whole _) scr2 (Memref.isWhole_whole _) scr3 (Memref.isWhole_whole _) (ins m c t) s Set.univ (fun _ => bodyPost m c t)
  rw [step_eq] at key
  refine BIBase.Entails.trans ?_ key
  change _ ⊢ iprop(_ ∗ (res c (buf0 t) (buf1 t) (buf2 t) (buf3 t) (buf4 t) (buf5 t) (buf6 t) (buf7 t) (buf8 t) (buf9 t) (buf10 t) scr0 scr1 scr2 scr3 (ins m c t) (stepAt m c t s) -∗ _))
  unfold res
  rw [hq, hm, hl, ha]
  iintro ⟨Ho, Hg, H⟩
  isplitl [H]; · iexact H
  iintro ⟨H0, H1, H2, H3, H4, H5, H6, H7, H8, H9, H10, H11, H12, H13, H14⟩
  unfold bodyPost
  rw [show (dats m 0 c).owesAt () t.succ = (dats m 0 c).owesAt () t.castSucc from rfl,
    show (dats m 0 c).Φ t.succ = PhiS m c (t.val + 1) from rfl, PhiS_pos m c _ (Nat.succ_ne_zero _)]
  simp only [leaves_0, leaves_1, leaves_2, leaves_3, leaves_4, leaves_5, leaves_6, leaves_7, leaves_8, leaves_9, Nat.add_sub_cancel]
  isplitl [H11 H12 H13 H14 Hg]
  · isplitl [H11 H12 H13 H14]
    · isplitl [H11]; · iexact H11
      isplitl [H12]; · iexact H12
      isplitl [H13]; · iexact H13
      iexact H14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply ho; iexact H10

/-- What the output's buffer holds after a point is what the window asks for. -/
theorem out_of (c : Dev nD) (t : Fin cfg0.N) (s : St F) (d) (hs : s.o = (dats m 0 c).before 10 t d)
    (hlast : t.val / 4 % 16 / 4 = t.val % 4 → (stepAt m c t s).o = (st m c t.val).o)
    (hrest : t.val / 4 % 16 / 4 ≠ t.val % 4 → (stepAt m c t s).o = s.o) :
    owns (c : Thread nD τ) (buf10 t) fullShare (stepAt m c t s).o ⊢ ((dats m 0 c).leavesExact 10 t : sProp 𝕄) := by
  unfold Dat.leavesExact
  by_cases h : t.val / 4 % 16 / 4 = t.val % 4
  · rw [show cfg0.idle 10 (cfg0.grid.coords t) = false from by
      rw [← Bool.not_eq_true, idle_iff]; exact fun hn => hn h, after_10, hlast h]
  · rw [(idle_iff t).2 h, hrest h, hs]
    cases hf : (cfg0.win 10).flush t
    · iintro H; iexists d; iexact H
    · have h3 := (flush0_10 t).1 hf
      rw [before_10, if_neg (by omega), after_10, st_past m c t (by omega)]

set_option maxHeartbeats 1000000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6, before_7, before_8, before_9]
  rw [show (dats m 0 c).Φ t.castSucc = PhiS m c t.val from rfl]
  by_cases hz : t.val = 0
  · rw [hz]
    change iprop(Pipeline.ΦA spec0 c ∗ _) ⊢ _
    rw [PhiA_eq]
    iintro ⟨⟨⟨⟨%x14, H11⟩, ⟨%x15, H12⟩, ⟨%x16, H13⟩, ⟨%x17, H14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have e : ∀ s, stepAt m c t s = st m c t.val := fun s => (st_first m c t hz s).symm
    iapply (sound_of m c t ⟨x14, x15, x16, x17, (dats m 0 c).before 10 t d10⟩ (by rw [e]) (by rw [e]) (by rw [e]) (by rw [e])
      (out_of m c t _ d10 rfl (fun _ => by rw [e]) (fun h => absurd (by rw [hz]) h)))
    isplitl [Ho]; · iexact Ho
    isplitl [Hg]; · iexact Hg
    unfold res
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [PhiS_pos m c _ hz]
    iintro ⟨⟨⟨H11, H12, H13, H14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hl (d) (h : t.val / 4 % 16 / 4 = t.val % 4) : stepAt m c t ((st m c (t.val - 1)).withO d) = st m c t.val := by
      rw [st_succ m c t hz]; exact St.step_last _ _ _ _ _ _ h
    have hr (d) (h : t.val / 4 % 16 / 4 ≠ t.val % 4) : stepAt m c t ((st m c (t.val - 1)).withO d) = (st m c t.val).withO d := by
      rw [st_succ m c t hz]; exact St.step_withO _ _ _ _ _ _ h
    have hc {α : Type} (f : St F → α) (hf : ∀ s d, f (s.withO d) = f s) (d) :
        f (stepAt m c t ((st m c (t.val - 1)).withO d)) = f (st m c t.val) := by
      by_cases h : t.val / 4 % 16 / 4 = t.val % 4
      · rw [hl d h]
      · rw [hr d h, hf]
    iapply (sound_of m c t ((st m c (t.val - 1)).withO ((dats m 0 c).before 10 t d10)) (hc St.q (fun _ _ => rfl) _)
      (hc St.m (fun _ _ => rfl) _) (hc St.l (fun _ _ => rfl) _) (hc St.a (fun _ _ => rfl) _)
      (out_of m c t _ d10 rfl (fun h => by rw [hl _ h]) (fun h => by rw [hr _ h])))
    isplitl [Ho]; · iexact Ho
    isplitl [Hg]; · iexact Hg
    unfold res
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row is the body. -/
theorem row_eq (t : Fin cfg0.N) : defs₀ (F := F) .tc cfg0.body (cfg0.bodyArgs t (cfg0.slots t)) = bodyAt0 t := by
  unfold defs₀; rw [Defs.onTc_tc]

/-- The obligation of the pipeline, at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem phi_in (c : Dev nD) : Pipeline.ΦA spec0 c ⊢ (dats m 0 c).Φ 0 := by
  rw [show (dats m 0 c).Φ 0 = Pipeline.ΦA spec0 c from rfl]

theorem phi_out (c : Dev nD) : (dats m 0 c).Φ (Fin.last cfg0.N) ⊢ Pipeline.ΦA spec0 c := by
  rw [show (dats m 0 c).Φ (Fin.last cfg0.N) = PhiS m c cfg0.N from rfl, PhiS_pos m c _ (by rw [N_eq]; omega), PhiA_eq]
  iintro ⟨⟨H0, H1, H2, H3⟩, Hg⟩
  isplitl [H0 H1 H2 H3]
  · isplitl [H0]; · iexists _; iexact H0
    isplitl [H1]; · iexists _; iexact H1
    isplitl [H2]; · iexists _; iexact H2
    iexists _; iexact H3
  iexact Hg

set_option backward.isDefEq.respectTransparency.types false in
/-- Every run ends with each array at what the points left in it, and every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := phi_in m) (hout := phi_out m)

/-- The frame: every run terminates, the arguments end unchanged, and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Attn

end
-- ==== Proof.Twin.lean ====
/-
  The printed kernel's frame.  The kernel and its idealization are one program text but for the mask constant, which
  the idealization names: read at bit patterns, with the name standing for the printed pattern, the idealization is
  the printed kernel.
-/
module

public import proofs.«01_k».proof.Defs
public import proofs.«01_k».proof.Proof.Launch
public import proofs.«01_k».proof.Proof.Gen.Kernel.Frame
public import Idealize.ShloMosaic.Lib.Tactic

@[expose] public section

noncomputable section

open Idealize.ShloMosaic Idealize.ShloMosaic.TcCoe Idealize.SL.Sem

namespace Cert.Proof.Twin

/-- At bit patterns a named constant is the pattern it was printed with. -/
@[reducible] def asPrinted : Named Bits := ⟨fun _ _ {φ} bits => Scalar.ofBits φ bits⟩

attribute [local instance] asPrinted

section
open Cert.KernelIdeal Cert.KernelIdeal.Gen

/-- The idealization's frame at bit patterns. -/
def Frame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)

theorem frame : Frame := fun m g _ => Cert.KernelIdeal.Attn.frame_run (F := Bits) m g

end

theorem same : Frame = @Cert.quiescent_Kernel Cert.Kernel.Gen.facts := by sl_kernel_rfl

end Cert.Proof.Twin

end
-- ==== Proof.Frames.lean ====
/-
  The claims that say nothing of values: that the printed kernel, its idealization and the reference run, leave their
  arguments alone and end with every counter at zero; and that the one named constant is the mask.
-/
module

public import proofs.«01_k».proof.Defs
public import proofs.«01_k».proof.Proof.Launch
public import proofs.«01_k».proof.Proof.Twin
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The shape facts of the precondition: each of its reductions runs over every axis. -/
theorem pre_facts : Cert.Pre_finite.Facts := by
  constructor <;> decide

theorem frame_kernel : Cert.quiescent_Kernel := cast Twin.same Twin.frame

theorem frame_ideal : Cert.quiescent_KernelIdeal := fun m ρ _ => Cert.KernelIdeal.Attn.frame_run m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

end Cert.Proof

end
-- ==== Proof.Flash.lean ====
/-
  The running softmax over the extended reals: taking the keys block by block, with the sums rescaled whenever the
  maximum grows, computes the maximum, the sum of the weights and the weighted sum of the values of all keys so far.
-/
module

public import Idealize.ShloMosaic.PureOps.Ideal
public import Idealize.ShloMosaic.PureOps.Ideal.Laws

@[expose] public section

noncomputable section

namespace Cert.Flash

open Idealize.ShloMosaic

/-! ## Exponentials and finite sums -/

/-- A weight is not negative. -/
theorem exp_nonneg (x : EReal) : 0 ≤ Ideal.exp x := by
  induction x with
  | bot => rw [Ideal.exp_bot]
  | coe r => rw [Ideal.exp_coe]; exact EReal.coe_nonneg.mpr (Real.exp_pos r).le
  | top => rw [Ideal.exp_top]; exact le_top

/-- Below its bound a score has a weight at most one. -/
theorem exp_sub_le_one {s m : EReal} (h : s ≤ m) : Ideal.exp (s - m) ≤ 1 := by
  induction m with
  | bot => rw [le_bot_iff.mp h, EReal.bot_sub, Ideal.exp_bot]; exact zero_le_one
  | top => rw [EReal.sub_top, Ideal.exp_bot]; exact zero_le_one
  | coe r =>
    induction s with
    | bot => rw [EReal.bot_sub, Ideal.exp_bot]; exact zero_le_one
    | top => exact absurd (top_le_iff.mp h) (EReal.coe_ne_top r)
    | coe x =>
      rw [← EReal.coe_sub, Ideal.exp_coe, ← EReal.coe_one, EReal.coe_le_coe_iff, Real.exp_le_one_iff]
      exact sub_nonpos.mpr (EReal.coe_le_coe_iff.mp h)

theorem exp_sub_ne_top {s m : EReal} (h : s ≤ m) : Ideal.exp (s - m) ≠ ⊤ := fun e =>
  absurd (e ▸ exp_sub_le_one h) (by decide)

/-- Rescaling a weight from one bound to a larger one. -/
theorem exp_rescale {s m m' : EReal} (h : s ≤ m) (h' : m ≤ m') :
    Ideal.exp (m - m') * Ideal.exp (s - m) = Ideal.exp (s - m') := by
  induction m' with
  | top => rw [EReal.sub_top, EReal.sub_top, Ideal.exp_bot, zero_mul]
  | bot =>
    rw [le_bot_iff.mp h'] at h ⊢
    rw [le_bot_iff.mp h, EReal.bot_sub, Ideal.exp_bot, zero_mul]
  | coe r' =>
    induction m with
    | top => exact absurd (top_le_iff.mp h') (EReal.coe_ne_top r')
    | bot => rw [le_bot_iff.mp h, EReal.bot_sub, Ideal.exp_bot, zero_mul]
    | coe r =>
      induction s with
      | top => exact absurd (top_le_iff.mp h) (EReal.coe_ne_top r)
      | bot => rw [EReal.bot_sub, EReal.bot_sub, Ideal.exp_bot, mul_zero]
      | coe x =>
        rw [← EReal.coe_sub, ← EReal.coe_sub, ← EReal.coe_sub, Ideal.exp_coe, Ideal.exp_coe, Ideal.exp_coe,
          ← EReal.coe_mul, ← Real.exp_add]
        congr 2; ring

/-- A factor that is neither negative nor infinite goes into a sum. -/
theorem mul_sum {ι : Type} (s : Finset ι) (f : ι → EReal) {c : EReal} (h0 : 0 ≤ c) (ht : c ≠ ⊤) :
    c * ∑ k ∈ s, f k = ∑ k ∈ s, c * f k := by
  classical
  induction s using Finset.induction_on with
  | empty => rw [Finset.sum_empty, Finset.sum_empty, mul_zero]
  | insert a s ha ih => rw [Finset.sum_insert ha, Finset.sum_insert ha, EReal.left_distrib_of_nonneg_of_ne_top h0 ht, ih]

/-! ## The running softmax -/

/-- The largest of the first `n` scores. -/
def top (s : ℕ → EReal) (n : ℕ) : EReal := (Finset.range n).sup s

/-- The sum of the first `n` weights, each against the bound `m`. -/
def mass (s : ℕ → EReal) (m : EReal) (n : ℕ) : EReal := ∑ k ∈ Finset.range n, Ideal.exp (s k - m)

/-- The weighted sum of the first `n` values. -/
def mix (s v : ℕ → EReal) (m : EReal) (n : ℕ) : EReal := ∑ k ∈ Finset.range n, Ideal.exp (s k - m) * v k

theorem le_top_of (s : ℕ → EReal) {k n : ℕ} (h : k < n) : s k ≤ top s n := Finset.le_sup (Finset.mem_range.mpr h)

/-- The maximum after one more block. -/
theorem top_add (s : ℕ → EReal) (n w : ℕ) : top s (n + w) = max (top s n) (Finset.univ.sup fun k : Fin w => s (n + k.val)) := by
  refine le_antisymm (Finset.sup_le fun k hk => ?_) (max_le (Finset.sup_mono (Finset.range_mono (Nat.le_add_right _ _))) ?_)
  · rcases Nat.lt_or_ge k n with h | h
    · exact (le_top_of s h).trans (le_max_left _ _)
    · have hk' := Finset.mem_range.mp hk
      refine le_trans ?_ (le_max_right _ _)
      refine le_trans (le_of_eq ?_) (Finset.le_sup (f := fun k : Fin w => s (n + k.val)) (Finset.mem_univ (⟨k - n, by omega⟩ : Fin w)))
      show s k = s (n + (k - n)); congr 1; omega
  · exact Finset.sup_le fun k _ => le_top_of s (by have := k.isLt; omega)

/-- The sum of weights after one more block. -/
theorem mass_add (s : ℕ → EReal) (n w : ℕ) :
    Ideal.exp (top s n - top s (n + w)) * mass s (top s n) n + ∑ k : Fin w, Ideal.exp (s (n + k.val) - top s (n + w))
      = mass s (top s (n + w)) (n + w) := by
  have hm : top s n ≤ top s (n + w) := by rw [top_add]; exact le_max_left _ _
  unfold mass
  rw [mul_sum _ _ (exp_nonneg _) (exp_sub_ne_top hm), Finset.sum_range_add,
    Finset.sum_range fun k => Ideal.exp (s (n + k) - top s (n + w))]
  congr 1
  exact Finset.sum_congr rfl fun k hk => exp_rescale (le_top_of s (Finset.mem_range.mp hk)) hm

/-- The weighted sum of values after one more block. -/
theorem mix_add (s v : ℕ → EReal) (n w : ℕ) :
    Ideal.exp (top s n - top s (n + w)) * mix s v (top s n) n
        + ∑ k : Fin w, Ideal.exp (s (n + k.val) - top s (n + w)) * v (n + k.val)
      = mix s v (top s (n + w)) (n + w) := by
  have hm : top s n ≤ top s (n + w) := by rw [top_add]; exact le_max_left _ _
  unfold mix
  rw [mul_sum _ _ (exp_nonneg _) (exp_sub_ne_top hm), Finset.sum_range_add,
    Finset.sum_range fun k => Ideal.exp (s (n + k) - top s (n + w)) * v (n + k)]
  congr 1
  exact Finset.sum_congr rfl fun k hk => by
    rw [← mul_assoc, exp_rescale (le_top_of s (Finset.mem_range.mp hk)) hm]

/-! ## Keys behind the mask -/

/-- Masked keys do not move the maximum. -/
theorem top_mask (s : ℕ → EReal) {n N : ℕ} (h : n ≤ N) (hs : ∀ k, n ≤ k → s k = ⊥) : top s N = top s n := by
  refine le_antisymm (Finset.sup_le fun k _ => ?_) (Finset.sup_mono (Finset.range_mono h))
  rcases Nat.lt_or_ge k n with hk | hk
  · exact le_top_of s hk
  · rw [hs k hk]; exact bot_le

/-- Masked keys have no weight. -/
theorem mass_mask (s : ℕ → EReal) (m : EReal) {n N : ℕ} (h : n ≤ N) (hs : ∀ k, n ≤ k → s k = ⊥) : mass s m N = mass s m n :=
  (Finset.sum_subset (Finset.range_mono h) fun k _ hk => by
    rw [hs k (by simpa using hk), EReal.bot_sub, Ideal.exp_bot]).symm

theorem mix_mask (s v : ℕ → EReal) (m : EReal) {n N : ℕ} (h : n ≤ N) (hs : ∀ k, n ≤ k → s k = ⊥) : mix s v m N = mix s v m n :=
  (Finset.sum_subset (Finset.range_mono h) fun k _ hk => by
    rw [hs k (by simpa using hk), EReal.bot_sub, Ideal.exp_bot, zero_mul]).symm

/-! ## The division -/

/-- Where some score is real and none is `⊤`, the weights do not sum to zero. -/
theorem mass_ne_zero (s : ℕ → EReal) {n k : ℕ} (hk : k < n) (hb : s k ≠ ⊥) (ht : ∀ k, s k ≠ ⊤) : mass s (top s n) n ≠ 0 := by
  have hne : (Finset.range n).Nonempty := ⟨k, Finset.mem_range.mpr hk⟩
  obtain ⟨k₁, h₁, e₁⟩ := Finset.exists_mem_eq_sup _ hne s
  have hr : s k₁ ≠ ⊥ := fun e => hb (le_bot_iff.mp (e ▸ e₁ ▸ le_top_of s hk))
  have hone : Ideal.exp (s k₁ - top s n) = 1 := by
    show Ideal.exp (s k₁ - (Finset.range n).sup s) = 1
    rw [e₁]
    lift s k₁ to ℝ using ⟨ht k₁, hr⟩ with x
    rw [← EReal.coe_sub, sub_self, Ideal.exp_coe, Real.exp_zero, EReal.coe_one]
  have hle : (1 : EReal) ≤ mass s (top s n) n :=
    hone ▸ Finset.single_le_sum (f := fun k => Ideal.exp (s k - top s n)) (fun k _ => exp_nonneg _) h₁
  exact fun e => absurd (e ▸ hle) (not_le.mpr zero_lt_one)

/-- Dividing each weight, or the weighted sum, by a sum of weights that is not zero. -/
theorem div_mix (s v : ℕ → EReal) (m D : EReal) (n : ℕ) (h0 : 0 ≤ D) (hD : D ≠ 0) :
    ∑ k ∈ Finset.range n, v k * Ideal.div (Ideal.exp (s k - m)) D = Ideal.div (mix s v m n) D := by
  unfold mix Ideal.div
  have hi : (0 : EReal) ≤ D⁻¹ := EReal.inv_nonneg_of_nonneg h0
  have ht : D⁻¹ ≠ ⊤ := by
    induction D with
    | bot => rw [EReal.inv_bot]; decide
    | top => rw [EReal.inv_top]; decide
    | coe r => rw [← EReal.coe_inv]; exact EReal.coe_ne_top _
  rw [if_neg hD, mul_comm, mul_sum _ _ hi ht]
  refine Finset.sum_congr rfl fun k _ => ?_
  rw [if_neg hD, mul_comm (v k), mul_assoc, mul_comm _ (v k), ← mul_assoc, mul_comm]

theorem mass_nonneg (s : ℕ → EReal) (m : EReal) (n : ℕ) : 0 ≤ mass s m n := Finset.sum_nonneg fun k _ => exp_nonneg _

end Cert.Flash

end
-- ==== Proof.Spec.lean ====
/-
  The attention as mathematics over the extended reals: the queries, the scores and the result at an index,
  as functions of the nine arguments.
-/
module

public import proofs.«01_k».proof.Proof.Flash
public import Idealize.ShloMosaic.PureOps
public import Idealize.ShloMosaic.Lib.Pointwise

@[expose] public section

noncomputable section

namespace Cert.Attn

open Cert.Flash
open Idealize.ShloMosaic
open Idealize.ShloMosaic (ix1 ix2 ix3 ix4)

/-- The nine arguments: compressed queries, cosines, sines, compressed keys, rotary keys, gate, and the
    query, key and value weights. -/
structure Args where
  cq : FVec Ideal ⟨3, ![16, 2048, 384]⟩ .bf16
  co : FVec Ideal ⟨2, ![2048, 32]⟩ .f32
  si : FVec Ideal ⟨2, ![2048, 32]⟩ .f32
  ck : FVec Ideal ⟨3, ![16, 2048, 256]⟩ .f32
  kr : FVec Ideal ⟨3, ![16, 2048, 64]⟩ .f32
  sz : FVec Ideal ⟨3, ![16, 2048, 2048]⟩ .bf16
  wq : FVec Ideal ⟨3, ![384, 16, 192]⟩ .f32
  wk : FVec Ideal ⟨3, ![256, 16, 128]⟩ .f32
  wv : FVec Ideal ⟨3, ![256, 16, 128]⟩ .f32

namespace Args

variable (A : Args) (b : Fin 16) (t : Fin 2048) (h : Fin 16)

/-- Feature `d` of the query of position `t` under head `h`. -/
def qv (d : Fin 192) : EReal := ∑ x : Fin 384, A.cq (ix3 b t x) * A.wq (ix3 x h d)

/-- Its plain features, taken to the space of the compressed keys. -/
def lat (c : Fin 256) : EReal := ∑ x : Fin 128, A.wk (ix3 c h x) * A.qv b t h ⟨x.val, by have := x.isLt; omega⟩

/-- The first and second half of its rotated features. -/
def ro1 (r : Fin 32) : EReal :=
  A.qv b t h ⟨128 + r.val, by have := r.isLt; omega⟩ * A.co (ix2 t r) - A.qv b t h ⟨160 + r.val, by have := r.isLt; omega⟩ * A.si (ix2 t r)

def ro2 (r : Fin 32) : EReal :=
  A.qv b t h ⟨128 + r.val, by have := r.isLt; omega⟩ * A.si (ix2 t r) + A.qv b t h ⟨160 + r.val, by have := r.isLt; omega⟩ * A.co (ix2 t r)

/-- The score of key `l`, before the mask. -/
def score (l : Fin 2048) : EReal :=
  (∑ x : Fin 256, A.ck (ix3 b l x) * A.lat b t h x
    + (∑ x : Fin 32, A.kr (ix3 b l (⟨x.val, by have := x.isLt; omega⟩ : Fin 64)) * A.ro1 b t h x
      + ∑ x : Fin 32, A.kr (ix3 b l (⟨32 + x.val, by have := x.isLt; omega⟩ : Fin 64)) * A.ro2 b t h x)) * Ideal.ofBits .f32 0x3D93CD3A#32

/-- The scores behind the causal mask, and past the last key. -/
def S (n : ℕ) : EReal := if hn : n < 2048 then (if n ≤ t.val then A.score b t h ⟨n, hn⟩ else ⊥) else ⊥

/-- The compressed keys by position, as the values. -/
def val (c : Fin 256) (n : ℕ) : EReal := if hn : n < 2048 then A.ck (ix3 b (⟨n, hn⟩ : Fin 2048) c) else 0

theorem S_fin (l : Fin 2048) : A.S b t h l.val = if l.val ≤ t.val then A.score b t h l else ⊥ := dif_pos l.isLt

theorem val_fin (c : Fin 256) (l : Fin 2048) : A.val b c l.val = A.ck (ix3 b l c) := dif_pos l.isLt

/-- The result: the weighted keys of each position, taken through the value weight and gated. -/
def out (v : Fin 128) : EReal :=
  (∑ x : Fin 256, A.wv (ix3 x h v) * Ideal.div (mix (A.S b t h) (A.val b x) (top (A.S b t h) 2048) 2048) (mass (A.S b t h) (top (A.S b t h) 2048) 2048))
    * A.sz (ix3 b t (⟨128 * h.val + v.val, by have := h.isLt; have := v.isLt; omega⟩ : Fin 2048))

theorem top_fin : top (A.S b t h) 2048 = Finset.fold max ⊥ (fun l : Fin 2048 => A.S b t h l.val) Finset.univ := by
  have h := top_add (A.S b t h) 0 2048
  simp only [Nat.zero_add] at h
  rw [h]
  show max ((Finset.range 0).sup _) _ = _
  rw [Finset.range_zero, Finset.sup_empty, max_eq_right bot_le]
  rfl

theorem mass_fin (m : EReal) : mass (A.S b t h) m 2048 = ∑ l : Fin 2048, Ideal.exp (A.S b t h l.val - m) := Finset.sum_range _

/-! ## Where the bounded arguments are real -/

/-- Every element of the arguments that scores are made of is real. -/
structure Real : Prop where
  cq : ∀ i j k, A.cq (ix3 i j k) ≠ ⊥ ∧ A.cq (ix3 i j k) ≠ ⊤
  co : ∀ i j, A.co (ix2 i j) ≠ ⊥ ∧ A.co (ix2 i j) ≠ ⊤
  si : ∀ i j, A.si (ix2 i j) ≠ ⊥ ∧ A.si (ix2 i j) ≠ ⊤
  ck : ∀ i j k, A.ck (ix3 i j k) ≠ ⊥ ∧ A.ck (ix3 i j k) ≠ ⊤
  kr : ∀ i j k, A.kr (ix3 i j k) ≠ ⊥ ∧ A.kr (ix3 i j k) ≠ ⊤
  wq : ∀ i j k, A.wq (ix3 i j k) ≠ ⊥ ∧ A.wq (ix3 i j k) ≠ ⊤
  wk : ∀ i j k, A.wk (ix3 i j k) ≠ ⊥ ∧ A.wk (ix3 i j k) ≠ ⊤

/-- A real number among the extended reals. -/
def Re (x : EReal) : Prop := x ≠ ⊥ ∧ x ≠ ⊤

theorem Re.iff {x : EReal} : Re x ↔ ∃ r : ℝ, x = (r : EReal) := by
  constructor
  · rintro ⟨h1, h2⟩
    exact ⟨x.toReal, (EReal.coe_toReal h2 h1).symm⟩
  · rintro ⟨r, rfl⟩
    exact ⟨EReal.coe_ne_bot r, EReal.coe_ne_top r⟩

theorem Re.mul {x y : EReal} (hx : Re x) (hy : Re y) : Re (x * y) := by
  obtain ⟨a, rfl⟩ := Re.iff.mp hx; obtain ⟨b, rfl⟩ := Re.iff.mp hy
  exact Re.iff.mpr ⟨a * b, (EReal.coe_mul a b).symm⟩

theorem Re.add {x y : EReal} (hx : Re x) (hy : Re y) : Re (x + y) := by
  obtain ⟨a, rfl⟩ := Re.iff.mp hx; obtain ⟨b, rfl⟩ := Re.iff.mp hy
  exact Re.iff.mpr ⟨a + b, (EReal.coe_add a b).symm⟩

theorem Re.sub {x y : EReal} (hx : Re x) (hy : Re y) : Re (x - y) := by
  obtain ⟨a, rfl⟩ := Re.iff.mp hx; obtain ⟨b, rfl⟩ := Re.iff.mp hy
  exact Re.iff.mpr ⟨a - b, (EReal.coe_sub a b).symm⟩

theorem Re.sum {n : ℕ} {f : Fin n → EReal} (hf : ∀ i, Re (f i)) : Re (∑ i, f i) :=
  Finset.sum_induction f Re (fun _ _ => Re.add) ⟨EReal.zero_ne_bot, EReal.zero_ne_top⟩ fun i _ => hf i

theorem re_scale : Re (Ideal.ofBits .f32 0x3D93CD3A#32) := by
  rw [Re.iff]
  simp [Ideal.ofBits, Ideal.ieee, -EReal.coe_mul]

variable {A} in
theorem Real.score (R : A.Real) (l : Fin 2048) : Re (A.score b t h l) := by
  have hq : ∀ d, Re (A.qv b t h d) := fun d => Re.sum fun x => Re.mul (R.cq _ _ _) (R.wq _ _ _)
  have hl : ∀ x, Re (A.lat b t h x) := fun x => Re.sum fun y => Re.mul (R.wk _ _ _) (hq _)
  have h1 : ∀ x, Re (A.ro1 b t h x) := fun x => Re.sub (Re.mul (hq _) (R.co _ _)) (Re.mul (hq _) (R.si _ _))
  have h2 : ∀ x, Re (A.ro2 b t h x) := fun x => Re.add (Re.mul (hq _) (R.si _ _)) (Re.mul (hq _) (R.co _ _))
  exact Re.mul (Re.add (Re.sum fun x => Re.mul (R.ck _ _ _) (hl x)) (Re.add (Re.sum fun x => Re.mul (R.kr _ _ _) (h1 x)) (Re.sum fun x => Re.mul (R.kr _ _ _) (h2 x)))) re_scale

variable {A} in
/-- Then a position's weights have a sum other than zero. -/
theorem Real.mass_ne_zero (R : A.Real) : mass (A.S b t h) (top (A.S b t h) 2048) 2048 ≠ 0 := by
  refine Flash.mass_ne_zero _ (k := t.val) t.isLt ?_ fun k => ?_
  · rw [S_fin, if_pos le_rfl]
    exact (R.score b t h t).1
  · unfold S
    split_ifs
    · exact (R.score b t h _).2
    · exact bot_ne_top
    · exact bot_ne_top

end Args

end Cert.Attn

end
-- ==== Proof.Pay.lean ====
/-
  The kernel's payloads over the extended reals, read at an index: the rotated and latent queries, the scores of a key
  block, the running softmax's update, and the finished tile.
-/
module

public import proofs.«01_k».proof.Proof.Heads
public import proofs.«01_k».proof.Proof.Flash
public import Idealize.ShloMosaic.Lib.Pointwise
public import Idealize.ShloMosaic.PureOps.IdealRules

@[expose] public section

noncomputable section

namespace Cert.KernelIdeal.Attn

open Cert.KernelIdeal.Gen
open Idealize.ShloMosaic Idealize.ShloMosaic.TcCoe
open Idealize.ShloMosaic (ix1 ix2 ix3 ix4)

/-- The named mask is `⊥`. -/
theorem mask_eq : (Named.named κ "mask" (φ := .f32) 0xF149F2CA#32 : Ideal .f32) = ⊥ :=
  IdealRules.named_const.ideal_named_scalar _ _ _ _ rfl

/-- The pattern a maximum starts from is `⊥`. -/
theorem ofBits_bot : Ideal.ofBits .f32 0xFF800000#32 = ⊥ := by
  simp [Ideal.ofBits, Ideal.ieee]

theorem qn_apply (x : Vec Ideal S1x128x384 .bf16) (w : Vec Ideal S384x2048 .bf16) (r : Fin 128) (k : Fin 2048) :
    k0_pay7 x w (ix2 r k) = ∑ q : Fin 384, x (ix3 (0 : Fin 1) r q) * w (ix2 q k) := by
  pointwise [k0_pay7, k0_pay6]

theorem rot1_apply (x : Vec Ideal S1x128x384 .bf16) (c s : Vec Ideal S128x512 .f32) (w w' : Vec Ideal S384x512 .bf16)
    (r : Fin 128) (k : Fin 512) :
    k0_pay10 x c s w w' (ix2 r k) = (∑ q : Fin 384, x (ix3 (0 : Fin 1) r q) * w (ix2 q k)) * c (ix2 r k)
      - (∑ q : Fin 384, x (ix3 (0 : Fin 1) r q) * w' (ix2 q k)) * s (ix2 r k) := by
  pointwise [k0_pay10, k0_pay8, k0_pay9, k0_pay6]

theorem rot2_apply (x : Vec Ideal S1x128x384 .bf16) (c s : Vec Ideal S128x512 .f32) (w w' : Vec Ideal S384x512 .bf16)
    (r : Fin 128) (k : Fin 512) :
    k0_pay11 x c s w w' (ix2 r k) = (∑ q : Fin 384, x (ix3 (0 : Fin 1) r q) * w (ix2 q k)) * s (ix2 r k)
      + (∑ q : Fin 384, x (ix3 (0 : Fin 1) r q) * w' (ix2 q k)) * c (ix2 r k) := by
  pointwise [k0_pay11, k0_pay8, k0_pay9, k0_pay6]

theorem lat_apply (q : FVec Ideal S128x128 .f32) (w : Vec Ideal S1x128x256 .bf16) (r : Fin 128) (c : Fin 256) :
    k0_pay22 q w (ix2 r c) = ∑ n : Fin 128, q (ix2 r n) * w (ix3 (0 : Fin 1) n c) := by
  pointwise [k0_pay22]

theorem plain_apply (kc : Vec Ideal S1x512x512 .bf16) (q : Vec Ideal S256x512 .bf16) (y : Fin 256) (k : Fin 512) :
    k0_pay163 kc q (ix2 y k) = (∑ d : Fin 512, q (ix2 y d) * kc (ix3 (0 : Fin 1) k d)) * Ideal.ofBits .f32 0x3D93CD3A#32 := by
  pointwise [k0_pay163, k0_pay161]

theorem masked_apply (i j : BitVec 32) (kc : Vec Ideal S1x512x512 .bf16) (q : Vec Ideal S256x512 .bf16) (y : Fin 256) (k : Fin 512) :
    k0_pay99 i j kc q (ix2 y k) = if k0_pay97 i j (ix2 y k) = 1#1 then
      (∑ d : Fin 512, q (ix2 y d) * kc (ix3 (0 : Fin 1) k d)) * Ideal.ofBits .f32 0x3D93CD3A#32 else ⊥ := by
  pointwise [k0_pay99, k0_pay95]
  rw [mask_eq]; rfl

theorem vals_apply (kc : Vec Ideal S1x512x512 .bf16) (k : Fin 512) (c : Fin 256) :
    k0_pay96 kc (ix2 k c) = kc (ix3 (0 : Fin 1) k (⟨c.val, by omega⟩ : Fin 512)) := by
  pointwise [k0_pay96, k0_pay95]

theorem max_apply (s : FVec Ideal S256x512 .f32) (m : Vec Ideal S256x1 .f32) (y : Fin 256) :
    k0_pay100 s m (ix2 y (0 : Fin 1)) = max (m (ix2 y (0 : Fin 1))) (Finset.univ.sup fun k : Fin 512 => s (ix2 y k)) := by
  pointwise [k0_pay100]
  rw [ofBits_bot]; rfl

theorem newMax_apply (s : FVec Ideal S256x512 .f32) (m : Vec Ideal S256x1 .f32) (y : Fin 256) :
    k0_pay105 s m (ix2 y (0 : Fin 1)) = max (m (ix2 y (0 : Fin 1))) (Finset.univ.sup fun k : Fin 512 => s (ix2 y k)) := by
  pointwise [k0_pay105]
  exact max_apply s m y

theorem weight_apply (s : FVec Ideal S256x512 .f32) (m : Vec Ideal S256x1 .f32) (y : Fin 256) (k : Fin 512) :
    k0_pay102 s m (ix2 y k) = Ideal.exp (s (ix2 y k) - k0_pay100 s m (ix2 y (0 : Fin 1))) := by
  pointwise [k0_pay102]

theorem rescale_apply (s : FVec Ideal S256x512 .f32) (m : Vec Ideal S256x1 .f32) (y : Fin 256) :
    k0_pay101 s m (ix2 y (0 : Fin 1)) = Ideal.exp (m (ix2 y (0 : Fin 1)) - k0_pay100 s m (ix2 y (0 : Fin 1))) := by
  pointwise [k0_pay101]

theorem newMass_apply (s : FVec Ideal S256x512 .f32) (m l : Vec Ideal S256x1 .f32) (y : Fin 256) :
    k0_pay103 s m l (ix2 y (0 : Fin 1)) = k0_pay101 s m (ix2 y (0 : Fin 1)) * l (ix2 y (0 : Fin 1))
      + ∑ k : Fin 512, k0_pay102 s m (ix2 y k) := by
  pointwise [k0_pay103]

theorem newMix_apply (v : FVec Ideal S512x256 .bf16) (s : FVec Ideal S256x512 .f32) (m : Vec Ideal S256x1 .f32)
    (a : Vec Ideal S256x256 .f32) (y : Fin 256) (c : Fin 256) :
    k0_pay104 v s m a (ix2 y c) = k0_pay101 s m (ix2 y (0 : Fin 1)) * a (ix2 y c)
      + ∑ k : Fin 512, k0_pay102 s m (ix2 y k) * v (ix2 k c) := by
  pointwise [k0_pay104]

theorem quot_apply (a : Vec Ideal S2048x256 .f32) (l : Vec Ideal S2048x1 .f32) (R : Fin 2048) (c : Fin 256) :
    k0_pay224 a l (ix2 R c) = Ideal.div (a (ix2 R c)) (l (ix2 R (0 : Fin 1))) := by
  pointwise [k0_pay224]

theorem tile_apply (o : FVec Ideal S128x256 .f32) (w : Vec Ideal S1x256x128 .bf16) (z : Vec Ideal S1x128x128 .bf16)
    (r v : Fin 128) :
    k0_pay228 o w z (ix3 (0 : Fin 1) r v) = (∑ c : Fin 256, o (ix2 r c) * w (ix3 (0 : Fin 1) c v)) * z (ix3 (0 : Fin 1) r v) := by
  pointwise [k0_pay228]

theorem max0_apply (R : Fin 2048) : (k0_pay246 : FVec Ideal S2048x1 .f32) (ix2 R (0 : Fin 1)) = ⊥ := by
  pointwise [k0_pay246]
  exact mask_eq

theorem mass0_apply (R : Fin 2048) : (k0_pay247 : FVec Ideal S2048x1 .f32) (ix2 R (0 : Fin 1)) = 0 := by
  pointwise [k0_pay247]

theorem mix0_apply (R : Fin 2048) (c : Fin 256) : (k0_pay248 : FVec Ideal S2048x256 .f32) (ix2 R c) = 0 := by
  pointwise [k0_pay248]

end Cert.KernelIdeal.Attn

end
-- ==== Proof.Mask.lean ====
/-
  The integer side of the kernel: which keys a query may see, and which group of 32 lanes a lane belongs to.
-/
module

public import proofs.«01_k».proof.Proof.Heads
public import Idealize.ShloMosaic.Lib.Pointwise
public import Idealize.ShloMosaic.Lib.WordCmp

@[expose] public section

noncomputable section

namespace Cert.KernelIdeal.Attn

open Cert.KernelIdeal.Gen
open Idealize.ShloMosaic Idealize.ShloMosaic.TcCoe
open Idealize.ShloMosaic (ix1 ix2 ix3 ix4)
open Idealize.ShloMosaic.WordCmp

/-- A row's position in its block of 256 rows, taken modulo the 128 rows of a head. -/
theorem rowPos (y : Fin 256) :
    Scalar.select
        (IntOp.andi
          (IntOp.xori (IntOp.cmpi .slt (IntOp.remsi .vector (BitVec.ofNat 32 y.val) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector (BitVec.ofNat 32 y.val) (Scalar.select (Scalar.cmpi .eq 128#32 0#32) 1#32 128#32)) 0#32))
        (IntOp.addi (IntOp.remsi .vector (BitVec.ofNat 32 y.val) (Scalar.select (Scalar.cmpi .eq 128#32 0#32) 1#32 128#32))
          (Scalar.select (Scalar.cmpi .eq 128#32 0#32) 1#32 128#32))
        (IntOp.remsi .vector (BitVec.ofNat 32 y.val) (Scalar.select (Scalar.cmpi .eq 128#32 0#32) 1#32 128#32))
      = BitVec.ofNat 32 (y.val % 128) := by
  revert y
  decide +kernel

/-- A query sees the keys up to its own position. -/
theorem keep_iff (I J : ℕ) (hI : I < 16) (hJ : J < 4) (y : Fin 256) (k : Fin 512) :
    k0_pay97 (BitVec.ofNat 32 I) (BitVec.ofNat 32 J) (ix2 y k) = 1#1 ↔ 512 * J + k.val ≤ 128 * I + y.val % 128 := by
  pointwise [k0_pay97]
  rw [rowPos]
  have e1 : IntOp.addi (Scalar.muli (BitVec.ofNat 32 J) 512#32) (BitVec.ofNat 32 k.val) = BitVec.ofNat 32 (512 * J + k.val) := by
    show BitVec.ofNat 32 J * 512#32 + BitVec.ofNat 32 k.val = _
    rw [← BitVec.ofNat_mul, ← BitVec.ofNat_add, Nat.mul_comm]
  have e2 : IntOp.addi (Scalar.muli (BitVec.ofNat 32 I) 128#32) (BitVec.ofNat 32 (y.val % 128)) = BitVec.ofNat 32 (128 * I + y.val % 128) := by
    show BitVec.ofNat 32 I * 128#32 + BitVec.ofNat 32 (y.val % 128) = _
    rw [← BitVec.ofNat_mul, ← BitVec.ofNat_add, Nat.mul_comm]
  rw [e1, e2]
  have hk := k.isLt
  have n1 : (BitVec.ofNat 32 (512 * J + k.val)).toNat = 512 * J + k.val := by rw [BitVec.toNat_ofNat]; omega
  have n2 : (BitVec.ofNat 32 (128 * I + y.val % 128)).toNat = 128 * I + y.val % 128 := by rw [BitVec.toNat_ofNat]; omega
  rw [cmpi_sle_of_lt (by rw [n1]; omega) (by rw [n2]; omega), n1, n2]
  by_cases h : 512 * J + k.val ≤ 128 * I + y.val % 128 <;> simp [h]

/-- Lane `k` is of group `k / 32`. -/
theorem laneGroup_apply (k : Fin 128) : laneGroup (ix2 (0 : Fin 1) k) = BitVec.ofNat 32 (k.val / 32) := by
  pointwise [laneGroup, k0_pay12, k0_pay13, k0_pay14, k0_pay15]
  revert k
  decide +kernel

/-- The grid's coordinates at a point. -/
theorem coords_0 : ∀ t : Fin cfg0.N, (grid0.coords t 0).val = t.val / 64 :=
  (by decide +kernel : ∀ t : Fin grid0.N, (grid0.coords t 0).val = t.val / 64)

theorem coords_1 : ∀ t : Fin cfg0.N, (grid0.coords t 1).val = t.val / 4 % 16 :=
  (by decide +kernel : ∀ t : Fin grid0.N, (grid0.coords t 1).val = t.val / 4 % 16)

theorem coords_2 : ∀ t : Fin cfg0.N, (grid0.coords t 2).val = t.val % 4 :=
  (by decide +kernel : ∀ t : Fin grid0.N, (grid0.coords t 2).val = t.val % 4)

end Cert.KernelIdeal.Attn

end
-- ==== Proof.Heads0.lean ====
/-
  The queries of a tile and its finished output over the extended reals, at an index.
-/
module

public import proofs.«01_k».proof.Proof.Pay
public import proofs.«01_k».proof.Proof.Mask

@[expose] public section

noncomputable section

namespace Cert.KernelIdeal.Attn

open Cert.KernelIdeal.Gen
open Idealize.ShloMosaic Idealize.ShloMosaic.TcCoe
open Idealize.ShloMosaic (ix1 ix2 ix3 ix4)

/-- Row of query `r` under head `h`. -/
abbrev row (h : Fin 16) (r : Fin 128) : Fin 2048 := ⟨128 * h.val + r.val, by have := h.isLt; have := r.isLt; omega⟩

theorem headLat_apply (qn : FVec Ideal S128x2048 .f32) (wuk : Vec Ideal S16x128x256 .bf16) (h : Fin 16) (r : Fin 128) (c : Fin 256) :
    headLat qn wuk h (ix2 r c) = ∑ n : Fin 128, qn (ix2 r (row h n)) * wuk (ix3 h n c) := by
  unfold headLat
  rw [lat_apply]
  refine Finset.sum_congr rfl fun n _ => congr_arg₂ _ ?_ (congr_arg wuk ?_)
  · pointwise []
  · funext a
    apply Fin.ext
    match a with
    | 0 => show h.val + 1 * 0 = h.val; omega
    | 1 => show 0 + 1 * n.val = n.val; omega
    | 2 => show 0 + 1 * c.val = c.val; omega

/-- The column of a rotated half that lane `k` of head `h` reads. -/
abbrev rotCol (h : Fin 16) (k : Fin 128) : Fin 512 := ⟨128 * (h.val / 4) + k.val, by have := h.isLt; have := k.isLt; omega⟩

theorem headRot_apply (rot : FVec Ideal S128x512 .f32) (h : Fin 16) (r k : Fin 128) :
    headRot rot h (ix2 r k) = if k.val / 32 = h.val % 4 then rot (ix2 r (rotCol h k)) else 0 := by
  unfold headRot
  pointwise []
  rw [laneGroup_apply]
  by_cases e : k.val / 32 = h.val % 4
  · rw [if_pos e, e]
    simp [Scalar.select, IntOp.cmpi]
  · have hne : BitVec.ofNat 32 (k.val / 32) ≠ BitVec.ofNat 32 (h.val % 4) := fun hc => e (by
      have h1 := congrArg BitVec.toNat hc
      have hk := k.isLt
      simp only [BitVec.toNat_ofNat] at h1
      omega)
    rw [if_neg e]
    unfold Scalar.select IntOp.cmpi
    rw [if_neg]
    simp only [beq_false_of_ne hne]
    exact fun h => absurd h (by decide)

theorem outTile_apply (wuv : Vec Ideal S16x256x128 .bf16) (sz : Vec Ideal S1x128x2048 .bf16) (l : Vec Ideal S2048x1 .f32)
    (a : Vec Ideal S2048x256 .f32) (h : Fin 16) (r v : Fin 128) :
    outTile wuv sz l a (ix3 (0 : Fin 1) r (row h v)) =
      (∑ c : Fin 256, Ideal.div (a (ix2 (row h r) c)) (l (ix2 (row h r) (0 : Fin 1))) * wuv (ix3 h c v)) * sz (ix3 (0 : Fin 1) r (row h v)) := by
  have e1 : (128 * h.val + v.val) / 128 = h.val := by have := v.isLt; omega
  have e2 : (128 * h.val + v.val) % 128 = v.val := by have := v.isLt; omega
  have hh : outTile wuv sz l a (ix3 (0 : Fin 1) r (row h v)) = headOut (k0_pay224 a l) wuv sz h (ix3 (0 : Fin 1) r v) := by
    show headOut (k0_pay224 a l) wuv sz ⟨(128 * h.val + v.val) / 128, _⟩ (ix3 (0 : Fin 1) r ⟨(128 * h.val + v.val) % 128, _⟩) = _
    congr 1 <;> simp [e1, e2]
  rw [hh]
  unfold headOut
  rw [tile_apply]
  refine congr_arg₂ _ (Finset.sum_congr rfl fun c _ => congr_arg₂ _ ?_ (congr_arg wuv ?_)) (congr_arg sz ?_)
  · rw [← quot_apply]
    pointwise []
  · funext a
    apply Fin.ext
    match a with
    | 0 => show h.val + 1 * 0 = h.val; omega
    | 1 => show 0 + 1 * c.val = c.val; omega
    | 2 => show 0 + 1 * v.val = v.val; omega
  · funext a
    apply Fin.ext
    match a with
    | 0 => show 0 + 1 * 0 = 0; omega
    | 1 => show 0 + 1 * r.val = r.val; omega
    | 2 => show 128 * h.val + 1 * v.val = 128 * h.val + v.val; omega

end Cert.KernelIdeal.Attn

end
-- ==== Proof.Tiles.lean ====
/-
  The blocks of the kernel's arrays at a grid point, at coordinates.
-/
module

public import proofs.«01_k».proof.Proof.Carry
public import proofs.«01_k».proof.Proof.Mask
public import Idealize.ShloMosaic.Lib.Pipeline.ValueKit
public import Idealize.ShloMosaic.Lib.Pointwise

@[expose] public section

set_option maxRecDepth 16384

noncomputable section

namespace Cert.KernelIdeal.Attn

open Cert.KernelIdeal.Gen
open Idealize.ShloMosaic Idealize.ShloMosaic.TcCoe Idealize.ShloMosaic.Pipeline
open Idealize.ShloMosaic (ix1 ix2 ix3 ix4)

variable {F : FTy → Type} [FloatOps F] [Named F]
variable (m : (ℓ : Loc nD τ sig) → Buf (Elt F) ℓ) (c : Dev nD)

theorem index_0 : ∀ t : Fin cfg0.N, win0_0.index t = ![t.val / 64, t.val / 4 % 16, 0] :=
  (by decide +kernel : ∀ t : Fin grid0.N, win0_0.index t = ![t.val / 64, t.val / 4 % 16, 0])
theorem index_1 : ∀ t : Fin cfg0.N, win0_1.index t = ![t.val / 4 % 16, 0] :=
  (by decide +kernel : ∀ t : Fin grid0.N, win0_1.index t = ![t.val / 4 % 16, 0])
theorem index_2 : ∀ t : Fin cfg0.N, win0_2.index t = ![t.val / 4 % 16, 0] :=
  (by decide +kernel : ∀ t : Fin grid0.N, win0_2.index t = ![t.val / 4 % 16, 0])
theorem index_3 : ∀ t : Fin cfg0.N, win0_3.index t = ![t.val / 64, min (t.val % 4) (t.val / 4 % 16 / 4), 0] :=
  (by decide +kernel : ∀ t : Fin grid0.N, win0_3.index t = ![t.val / 64, min (t.val % 4) (t.val / 4 % 16 / 4), 0])
theorem index_4 : ∀ t : Fin cfg0.N, win0_4.index t = ![t.val / 64, t.val / 4 % 16, 0] :=
  (by decide +kernel : ∀ t : Fin grid0.N, win0_4.index t = ![t.val / 64, t.val / 4 % 16, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0, 0] := (by decide +kernel : ∀ t : Fin grid0.N, win0_8.index t = ![0, 0, 0])
theorem index_9 : ∀ t : Fin cfg0.N, win0_9.index t = ![0, 0, 0] := (by decide +kernel : ∀ t : Fin grid0.N, win0_9.index t = ![0, 0, 0])
theorem index_10 : ∀ t : Fin cfg0.N, win0_10.index t = ![t.val / 64, t.val / 4 % 16, 0] :=
  (by decide +kernel : ∀ t : Fin grid0.N, win0_10.index t = ![t.val / 64, t.val / 4 % 16, 0])

/-- Position `r` of query tile `i`. -/
abbrev at128 (i : Fin 16) (r : Fin 128) : Fin 2048 := ⟨128 * i.val + r.val, by have := i.isLt; have := r.isLt; omega⟩

/-- Position `k` of key block `j`. -/
abbrev at512 (j : Fin 4) (k : Fin 512) : Fin 2048 := ⟨512 * j.val + k.val, by have := j.isLt; have := k.isLt; omega⟩

section
variable (b i : Fin 16) (t : Fin cfg0.N) (hb : t.val / 64 = b.val) (hi : t.val / 4 % 16 = i.val)

include hb hi in
theorem x3_apply (r : Fin 128) (q : Fin 384) :
    (ins m c t).x3 (ix3 (0 : Fin 1) r q) = V m c main_arg0 (ix3 b (at128 i r) q) := by
  show iblk m c 0 t _ = _
  blk_simp [iblk]
  congr 1
  blk_ext [index_0]

include hi in
theorem x4_apply (r : Fin 128) (k : Fin 512) : (ins m c t).x4 (ix2 r k) = V m c main_v25 (ix2 (at128 i r) k) := by
  show iblk m c 1 t _ = _
  blk_simp [iblk]
  congr 1
  blk_ext [index_1]

include hi in
theorem x5_apply (r : Fin 128) (k : Fin 512) : (ins m c t).x5 (ix2 r k) = V m c main_v28 (ix2 (at128 i r) k) := by
  show iblk m c 2 t _ = _
  blk_simp [iblk]
  congr 1
  blk_ext [index_2]

include hb hi in
theorem x6_apply (j : Fin 4) (hj : t.val % 4 = j.val) (hji : j.val ≤ i.val / 4) (k d : Fin 512) :
    (ins m c t).x6 (ix3 (0 : Fin 1) k d) = V m c main_v22 (ix3 b (at512 j k) d) := by
  have hmin : min (t.val % 4) (t.val / 4 % 16 / 4) = j.val := by rw [hi, hj, Nat.min_eq_left hji]
  show iblk m c 3 t _ = _
  blk_simp [iblk]
  congr 1
  blk_ext [index_3, hmin]

include hb hi in
theorem x7_apply (r : Fin 128) (k : Fin 2048) :
    (ins m c t).x7 (ix3 (0 : Fin 1) r k) = V m c main_arg5 (ix3 b (at128 i r) k) := by
  show iblk m c 4 t _ = _
  blk_simp [iblk]
  congr 1
  blk_ext [index_4]
end

section
variable (t : Fin cfg0.N)

theorem x8_apply (q : Fin 384) (k : Fin 2048) : (ins m c t).x8 (ix2 q k) = V m c main_v2 (ix2 q k) := by
  show iblk m c 5 t _ = _
  blk_simp [iblk]
  congr 1
  blk_ext [index_5]

theorem x9_apply (q : Fin 384) (k : Fin 512) : (ins m c t).x9 (ix2 q k) = V m c main_v5 (ix2 q k) := by
  show iblk m c 6 t _ = _
  blk_simp [iblk]
  congr 1
  blk_ext [index_6]

theorem x10_apply (q : Fin 384) (k : Fin 512) : (ins m c t).x10 (ix2 q k) = V m c main_v8 (ix2 q k) := by
  show iblk m c 7 t _ = _
  blk_simp [iblk]
  congr 1
  blk_ext [index_7]

theorem x11_apply (h : Fin 16) (n : Fin 128) (k : Fin 256) : (ins m c t).x11 (ix3 h n k) = V m c main_v10 (ix3 h n k) := by
  show iblk m c 8 t _ = _
  blk_simp [iblk]
  congr 1
  blk_ext [index_8]

theorem x12_apply (h : Fin 16) (k : Fin 256) (v : Fin 128) : (ins m c t).x12 (ix3 h k v) = V m c main_v12 (ix3 h k v) := by
  show iblk m c 9 t _ = _
  blk_simp [iblk]
  congr 1
  blk_ext [index_9]
end

end Cert.KernelIdeal.Attn

end
-- ==== Proof.Host.lean ====
/-
  The arrays that the host operations before the kernel call write, over the extended reals, at an index.
-/
module

public import proofs.«01_k».proof.Proof.Gen.KernelIdeal.Frame
public import Idealize.ShloMosaic.Lib.Pointwise
public import Idealize.ShloMosaic.Lib.StableHlo.ReadAt

@[expose] public section

noncomputable section

namespace Cert.KernelIdeal.Attn

open Cert.KernelIdeal.Gen
open Idealize.ShloMosaic Idealize.ShloMosaic.TcCoe Idealize.ShloMosaic.StableHlo
open Idealize.ShloMosaic (ix1 ix2 ix3 ix4)

variable (m : (ℓ : Loc nD τ sig) → Buf (Elt Ideal) ℓ) (c : Dev nD)

/-- Column `128·h + n` of the first projection weight. -/
theorem wn_apply (q : Fin 384) (h : Fin 16) (n : Fin 128) :
    V m c main_v2 (ix2 q (⟨128 * h.val + n.val, by have := h.isLt; have := n.isLt; omega⟩ : Fin 2048))
      = m ((c : Thread nD τ).loc main_arg6) (ix3 q h (⟨n.val, by have := n.isLt; omega⟩ : Fin 192)) := by
  have := n.isLt
  unfold V
  after_reads_at
  refine congrArg (m ((c : Thread nD τ).loc main_arg6)) (congrArg₂ (ix3 q) (Fin.ext ?_) (Fin.ext ?_))
  · show (128 * h.val + n.val) / 128 = h.val; omega
  · show (128 * h.val + n.val) % 128 = n.val; omega

/-- Column `32·h + r` of the second projection weight: the first half of the rotated features. -/
theorem wr1_apply (q : Fin 384) (h : Fin 16) (r : Fin 32) :
    V m c main_v5 (ix2 q (⟨32 * h.val + r.val, by have := h.isLt; have := r.isLt; omega⟩ : Fin 512))
      = m ((c : Thread nD τ).loc main_arg6) (ix3 q h (⟨128 + r.val, by have := r.isLt; omega⟩ : Fin 192)) := by
  have := r.isLt
  unfold V
  after_reads_at
  refine congrArg (m ((c : Thread nD τ).loc main_arg6)) (congrArg₂ (ix3 q) (Fin.ext ?_) (Fin.ext ?_))
  · show (32 * h.val + r.val) / 32 = h.val; omega
  · show 128 + (32 * h.val + r.val) % 32 = 128 + r.val; omega

/-- Column `32·h + r` of the third projection weight: the second half of the rotated features. -/
theorem wr2_apply (q : Fin 384) (h : Fin 16) (r : Fin 32) :
    V m c main_v8 (ix2 q (⟨32 * h.val + r.val, by have := h.isLt; have := r.isLt; omega⟩ : Fin 512))
      = m ((c : Thread nD τ).loc main_arg6) (ix3 q h (⟨160 + r.val, by have := r.isLt; omega⟩ : Fin 192)) := by
  have := r.isLt
  unfold V
  after_reads_at
  refine congrArg (m ((c : Thread nD τ).loc main_arg6)) (congrArg₂ (ix3 q) (Fin.ext ?_) (Fin.ext ?_))
  · show (32 * h.val + r.val) / 32 = h.val; omega
  · show 160 + (32 * h.val + r.val) % 32 = 160 + r.val; omega

/-- The absorbed key weight, its axes in the kernel's order. -/
theorem wuk_apply (h : Fin 16) (n : Fin 128) (k : Fin 256) :
    V m c main_v10 (ix3 h n k) = m ((c : Thread nD τ).loc main_arg7) (ix3 k h n) := by
  unfold V
  after_reads_at

/-- The value weight, its axes in the kernel's order. -/
theorem wuv_apply (h : Fin 16) (k : Fin 256) (v : Fin 128) :
    V m c main_v12 (ix3 h k v) = m ((c : Thread nD τ).loc main_arg8) (ix3 k h v) := by
  unfold V
  after_reads_at

/-- The cosines, the same for every head. -/
theorem cos_apply (t : Fin 2048) (h : Fin 16) (r : Fin 32) :
    V m c main_v25 (ix2 t (⟨32 * h.val + r.val, by have := h.isLt; have := r.isLt; omega⟩ : Fin 512))
      = m ((c : Thread nD τ).loc main_arg1) (ix2 t r) := by
  unfold V
  after_reads_at

/-- The sines, the same for every head. -/
theorem sin_apply (t : Fin 2048) (h : Fin 16) (r : Fin 32) :
    V m c main_v28 (ix2 t (⟨32 * h.val + r.val, by have := h.isLt; have := r.isLt; omega⟩ : Fin 512))
      = m ((c : Thread nD τ).loc main_arg2) (ix2 t r) := by
  unfold V
  after_reads_at

/-- A key's first 256 features: the compressed key. -/
theorem kc_lat (b : Fin 16) (t : Fin 2048) (k : Fin 256) :
    V m c main_v22 (ix3 b t (⟨k.val, by have := k.isLt; omega⟩ : Fin 512))
      = m ((c : Thread nD τ).loc main_arg3) (ix3 b t k) := by
  unfold V
  after_reads_at
  unfold upto
  after_reads_at

/-- A key's next 128 features: four copies of the rotary key's first half. -/
theorem kc_rot1 (b : Fin 16) (t : Fin 2048) (k : Fin 128) :
    V m c main_v22 (ix3 b t (⟨256 + k.val, by have := k.isLt; omega⟩ : Fin 512))
      = m ((c : Thread nD τ).loc main_arg4) (ix3 b t (⟨k.val % 32, by omega⟩ : Fin 64)) := by
  have := k.isLt
  unfold V
  after_reads_at
  unfold upto
  after_reads_at

/-- Its last 128 features: four copies of the rotary key's second half. -/
theorem kc_rot2 (b : Fin 16) (t : Fin 2048) (k : Fin 128) :
    V m c main_v22 (ix3 b t (⟨384 + k.val, by have := k.isLt; omega⟩ : Fin 512))
      = m ((c : Thread nD τ).loc main_arg4) (ix3 b t (⟨32 + k.val % 32, by omega⟩ : Fin 64)) := by
  have := k.isLt
  unfold V
  after_reads_at
  rw [dif_neg (by omega), dif_neg (by omega)]
  unfold upto
  after_reads_at
  refine congrArg (m ((c : Thread nD τ).loc main_arg4)) (congrArg (ix3 b t) (Fin.ext ?_))
  show 32 + (384 + k.val - 256 - 128) % 32 = 32 + k.val % 32
  omega

end Cert.KernelIdeal.Attn

end
-- ==== Proof.Take.lean ====
/-
  One block of keys, over the extended reals: if the carried arrays are the running softmax of the keys so far, row by
  row, they are that of one block more afterwards.
-/
module

public import proofs.«01_k».proof.Proof.Pay
public import proofs.«01_k».proof.Proof.State

@[expose] public section

noncomputable section

namespace Cert.KernelIdeal.Attn

open Cert.KernelIdeal.Gen Cert.Flash
open Idealize.ShloMosaic Idealize.ShloMosaic.TcCoe
open Idealize.ShloMosaic (ix1 ix2 ix3 ix4)

/-- The block of 256 rows that holds row `R`. -/
abbrev blk (R : Fin 2048) : Fin 8 := ⟨R.val / 256, by have := R.isLt; omega⟩

/-- The place of row `R` in its block of 256 rows. -/
abbrev pos (R : Fin 2048) : Fin 256 := ⟨R.val % 256, Nat.mod_lt _ (by decide)⟩

theorem rows_apply {α : Type} {W : ℕ} (X : (⟨2, ![2048, W]⟩ : Shape).Idx → α) (R : Fin 2048) (k : Fin W) :
    rows X (blk R) (ix2 (pos R) k) = X (ix2 R k) := by
  unfold rows
  congr 1
  funext a
  apply Fin.ext
  match a with
  | 0 => show 256 * (R.val / 256) + 1 * (R.val % 256) = R.val; omega
  | 1 => show 0 + 1 * k.val = k.val; omega

theorem unrows_apply {α : Type} {W : ℕ} (G : Fin 8 → (⟨2, ![256, W]⟩ : Shape).Idx → α) (R : Fin 2048) (k : Fin W) :
    unrows G (ix2 R k) = G (blk R) (ix2 (pos R) k) := rfl

section
variable (sc : Fin 8 → FVec Ideal S256x512 .f32) (m l : Vec Ideal S2048x1 .f32) (a : Vec Ideal S2048x256 .f32)
  (v : FVec Ideal S512x256 .bf16) (R : Fin 2048)

theorem stepM_apply : stepM sc m (ix2 R (0 : Fin 1)) =
    max (m (ix2 R (0 : Fin 1))) (Finset.univ.sup fun k : Fin 512 => sc (blk R) (ix2 (pos R) k)) := by
  unfold stepM
  rw [unrows_apply, newMax_apply, rows_apply]

theorem bound_apply : k0_pay100 (sc (blk R)) (rows m (blk R)) (ix2 (pos R) (0 : Fin 1)) = stepM sc m (ix2 R (0 : Fin 1)) := by
  rw [stepM_apply, max_apply, rows_apply]

theorem stepL_apply : stepL sc m l (ix2 R (0 : Fin 1)) =
    Ideal.exp (m (ix2 R (0 : Fin 1)) - stepM sc m (ix2 R (0 : Fin 1))) * l (ix2 R (0 : Fin 1))
      + ∑ k : Fin 512, Ideal.exp (sc (blk R) (ix2 (pos R) k) - stepM sc m (ix2 R (0 : Fin 1))) := by
  unfold stepL
  rw [unrows_apply, newMass_apply, rescale_apply, rows_apply, rows_apply, bound_apply]
  congr 1
  exact Finset.sum_congr rfl fun k _ => by rw [weight_apply, bound_apply]

theorem stepA_apply (c : Fin 256) : stepA v sc m a (ix2 R c) =
    Ideal.exp (m (ix2 R (0 : Fin 1)) - stepM sc m (ix2 R (0 : Fin 1))) * a (ix2 R c)
      + ∑ k : Fin 512, Ideal.exp (sc (blk R) (ix2 (pos R) k) - stepM sc m (ix2 R (0 : Fin 1))) * v (ix2 k c) := by
  unfold stepA
  rw [unrows_apply, newMix_apply, rescale_apply, rows_apply, rows_apply, bound_apply]
  congr 1
  exact Finset.sum_congr rfl fun k _ => by rw [weight_apply, bound_apply]

end

/-- The carried arrays are, row by row, the running softmax of the first `n` keys: scores `S`, values `V`. -/
def Holds (S : Fin 2048 → ℕ → EReal) (V : Fin 256 → ℕ → EReal) (n : ℕ) (s : St Ideal) : Prop :=
  ∀ R : Fin 2048, s.m (ix2 R (0 : Fin 1)) = top (S R) n
    ∧ s.l (ix2 R (0 : Fin 1)) = mass (S R) (top (S R) n) n
    ∧ ∀ c : Fin 256, s.a (ix2 R c) = mix (S R) (V c) (top (S R) n) n

/-- At the start of a tile no key has been taken. -/
theorem holds_start (S : Fin 2048 → ℕ → EReal) (V : Fin 256 → ℕ → EReal) (X : Ins Ideal) (s : St Ideal) :
    Holds S V 0 (s.start X) := fun R =>
  ⟨(max0_apply R).trans (by simp [top]), (mass0_apply R).trans (by simp [mass]),
    fun c => (mix0_apply R c).trans (by simp [mix])⟩

/-- One more block of keys. -/
theorem holds_take {S : Fin 2048 → ℕ → EReal} {V : Fin 256 → ℕ → EReal} {n : ℕ} {s : St Ideal} (h : Holds S V n s)
    (X : Ins Ideal) (sc : Fin 8 → Vec Ideal S256x512 .f32)
    (hs : ∀ (R : Fin 2048) (k : Fin 512), sc (blk R) (ix2 (pos R) k) = S R (n + k.val))
    (hv : ∀ (c : Fin 256) (k : Fin 512), k0_pay96 X.x6 (ix2 k c) = V c (n + k.val)) :
    Holds S V (n + 512) (s.take X sc) := fun R => by
  obtain ⟨hm, hl, ha⟩ := h R
  have em : stepM sc s.m (ix2 R (0 : Fin 1)) = top (S R) (n + 512) := by
    rw [stepM_apply, top_add, hm]
    simp only [hs]
  refine ⟨em, ?_, fun c => ?_⟩
  · show stepL sc s.m s.l (ix2 R (0 : Fin 1)) = _
    rw [stepL_apply, em, hm, hl, ← mass_add]
    simp only [hs]
  · show stepA (k0_pay96 X.x6) sc s.m s.a (ix2 R c) = _
    rw [stepA_apply, em, hm, ha, ← mix_add]
    simp only [hs, hv]

end Cert.KernelIdeal.Attn

end
-- ==== Proof.Query.lean ====
/-
  The queries that the first point of a tile stores, and the scores they give with a block of keys, as the
  mathematics of the nine arguments.
-/
module

public import proofs.«01_k».proof.Proof.Spec
public import proofs.«01_k».proof.Proof.Heads0
public import proofs.«01_k».proof.Proof.Tiles
public import proofs.«01_k».proof.Proof.Host
public import proofs.«01_k».proof.Proof.Take

@[expose] public section

noncomputable section

namespace Cert.KernelIdeal.Attn

open Cert.KernelIdeal.Gen Cert.Flash
open Idealize.ShloMosaic Idealize.ShloMosaic.TcCoe
open Idealize.ShloMosaic (ix1 ix2 ix3 ix4)

variable (m : (ℓ : Loc nD τ sig) → Buf (Elt Ideal) ℓ) (c : Dev nD)

/-- The nine arguments in the memory that the run starts from. -/
def args : Cert.Attn.Args where
  cq := m ((c : Thread nD τ).loc main_arg0)
  co := m ((c : Thread nD τ).loc main_arg1)
  si := m ((c : Thread nD τ).loc main_arg2)
  ck := m ((c : Thread nD τ).loc main_arg3)
  kr := m ((c : Thread nD τ).loc main_arg4)
  sz := m ((c : Thread nD τ).loc main_arg5)
  wq := m ((c : Thread nD τ).loc main_arg6)
  wk := m ((c : Thread nD τ).loc main_arg7)
  wv := m ((c : Thread nD τ).loc main_arg8)

/-- Column `256 + k` and column `384 + k` of a query or a key. -/
abbrev c256 (k : Fin 128) : Fin 512 := ⟨256 + k.val, by have := k.isLt; omega⟩

abbrev c384 (k : Fin 128) : Fin 512 := ⟨384 + k.val, by have := k.isLt; omega⟩

abbrev c0 (k : Fin 256) : Fin 512 := ⟨k.val, by have := k.isLt; omega⟩

abbrev lane (k : Fin 128) : Fin 32 := ⟨k.val % 32, by omega⟩

/-- What the query scratch holds for tile `i` of batch `b`. -/
structure IsQ (b i : Fin 16) (q : Vec Ideal S2048x512 .bf16) : Prop where
  lat : ∀ (h : Fin 16) (r : Fin 128) (x : Fin 256), q (ix2 (row h r) (c0 x)) = (args m c).lat b (at128 i r) h x
  ro1 : ∀ (h : Fin 16) (r k : Fin 128),
    q (ix2 (row h r) (c256 k)) = if k.val / 32 = h.val % 4 then (args m c).ro1 b (at128 i r) h (lane k) else 0
  ro2 : ∀ (h : Fin 16) (r k : Fin 128),
    q (ix2 (row h r) (c384 k)) = if k.val / 32 = h.val % 4 then (args m c).ro2 b (at128 i r) h (lane k) else 0

/-- The column of head `h` and lane `k` is `32·h + k % 32` when the lane is the head's. -/
theorem rotCol_eq (h : Fin 16) (k : Fin 128) (e : k.val / 32 = h.val % 4) :
    rotCol h k = ⟨32 * h.val + (lane k).val, by have := h.isLt; have := (lane k).isLt; omega⟩ :=
  Fin.ext (by show 128 * (h.val / 4) + k.val = 32 * h.val + k.val % 32; omega)

section
variable (b i : Fin 16) (t : Fin cfg0.N) (hb : t.val / 64 = b.val) (hi : t.val / 4 % 16 = i.val)

include hb hi in
theorem qn_at (h : Fin 16) (r n : Fin 128) :
    k0_pay7 (ins m c t).x3 (ins m c t).x8 (ix2 r (row h n)) = (args m c).qv b (at128 i r) h ⟨n.val, by have := n.isLt; omega⟩ := by
  rw [qn_apply]
  exact Finset.sum_congr rfl fun q _ => by
    rw [x3_apply m c b i t hb hi, x8_apply, V_main_arg0, wn_apply]
    rfl

include hb hi in
theorem p1_at (h : Fin 16) (r : Fin 128) (s : Fin 32) :
    (∑ q : Fin 384, (ins m c t).x3 (ix3 (0 : Fin 1) r q) * (ins m c t).x9 (ix2 q (⟨32 * h.val + s.val, by have := h.isLt; have := s.isLt; omega⟩ : Fin 512)))
      = (args m c).qv b (at128 i r) h ⟨128 + s.val, by have := s.isLt; omega⟩ :=
  Finset.sum_congr rfl fun q _ => by
    rw [x3_apply m c b i t hb hi, x9_apply, V_main_arg0, wr1_apply]
    rfl

include hb hi in
theorem p2_at (h : Fin 16) (r : Fin 128) (s : Fin 32) :
    (∑ q : Fin 384, (ins m c t).x3 (ix3 (0 : Fin 1) r q) * (ins m c t).x10 (ix2 q (⟨32 * h.val + s.val, by have := h.isLt; have := s.isLt; omega⟩ : Fin 512)))
      = (args m c).qv b (at128 i r) h ⟨160 + s.val, by have := s.isLt; omega⟩ :=
  Finset.sum_congr rfl fun q _ => by
    rw [x3_apply m c b i t hb hi, x10_apply, V_main_arg0, wr2_apply]
    rfl

include hb hi in
/-- The start of a tile stores its queries. -/
theorem isQ_start (s : St Ideal) : IsQ m c b i (s.start (ins m c t)).q where
  lat h r x := by
    refine (qAll_lat _ _ _ _ _ h r x rfl rfl).trans ?_
    rw [headLat_apply]
    refine Finset.sum_congr rfl fun n _ => ?_
    rw [qn_at m c b i t hb hi, x11_apply, wuk_apply, mul_comm]
    rfl
  ro1 h r k := by
    refine (qAll_rot1 _ _ _ _ _ h r k rfl rfl).trans ?_
    rw [headRot_apply]
    refine if_ctx_congr Iff.rfl (fun e => ?_) fun _ => rfl
    rw [rotCol_eq h k e, rot1_apply, x4_apply m c i t hi, x5_apply m c i t hi, cos_apply, sin_apply,
      p1_at m c b i t hb hi, p2_at m c b i t hb hi]
    rfl
  ro2 h r k := by
    refine (qAll_rot2 _ _ _ _ _ h r k rfl rfl).trans ?_
    rw [headRot_apply]
    refine if_ctx_congr Iff.rfl (fun e => ?_) fun _ => rfl
    rw [rotCol_eq h k e, rot2_apply, x4_apply m c i t hi, x5_apply m c i t hi, cos_apply, sin_apply,
      p1_at m c b i t hb hi, p2_at m c b i t hb hi]
    rfl

end

/-! ## Scores -/

/-- A sum over 512 columns is the sum over the first 256, the next 128 and the last 128. -/
theorem sum_cols (f : Fin 512 → EReal) :
    ∑ d : Fin 512, f d = ∑ x : Fin 256, f (c0 x) + (∑ k : Fin 128, f (c256 k) + ∑ k : Fin 128, f (c384 k)) := by
  rw [show (∑ d : Fin 512, f d) = ∑ x : Fin 256, f (c0 x) + ∑ y : Fin 256, f ⟨256 + y.val, by have := y.isLt; omega⟩ from
    Fin.sum_univ_add (a := 256) (b := 256) f]
  congr 1
  rw [show (∑ y : Fin 256, f ⟨256 + y.val, by have := y.isLt; omega⟩) = _ from
    Fin.sum_univ_add (a := 128) (b := 128) fun y : Fin 256 => f ⟨256 + y.val, by have := y.isLt; omega⟩]
  congr 1

/-- A sum over 128 lanes of which only those of one group of 32 count. -/
theorem sum_lanes (g : ℕ) (hg : g < 4) (a w : Fin 32 → EReal) :
    ∑ k : Fin 128, (if k.val / 32 = g then a (lane k) else 0) * w (lane k) = ∑ x : Fin 32, w x * a x := by
  rw [← Equiv.sum_comp (finProdFinEquiv (m := 4) (n := 32)), Fintype.sum_prod_type,
    Finset.sum_eq_single (⟨g, hg⟩ : Fin 4)]
  · refine Finset.sum_congr rfl fun x _ => ?_
    have hx := x.isLt
    have e : lane (finProdFinEquiv (m := 4) (n := 32) (⟨g, hg⟩, x)) = x := Fin.ext (by
      show (x.val + 32 * g) % 32 = x.val; omega)
    have e' : (finProdFinEquiv (m := 4) (n := 32) (⟨g, hg⟩, x)).val / 32 = g := by
      show (x.val + 32 * g) / 32 = g; omega
    rw [e, if_pos e', mul_comm]
  · intro p _ hp
    refine Finset.sum_eq_zero fun x _ => ?_
    have hx := x.isLt
    have e' : ¬ (finProdFinEquiv (m := 4) (n := 32) (p, x)).val / 32 = g := by
      show ¬ (x.val + 32 * p.val) / 32 = g
      have : p.val ≠ g := fun h => hp (Fin.ext h)
      omega
    rw [if_neg e', zero_mul]
  · intro h; exact absurd (Finset.mem_univ _) h

section
variable (b i : Fin 16) (t : Fin cfg0.N) (hb : t.val / 64 = b.val) (hi : t.val / 4 % 16 = i.val)
  (j : Fin 4) (hj : t.val % 4 = j.val) (hji : j.val ≤ i.val / 4)

include hb hi hj hji in
/-- The raw score of a row and a key of block `j`. -/
theorem score_at {q : Vec Ideal S2048x512 .bf16} (hq : IsQ m c b i q) (h : Fin 16) (r : Fin 128) (k : Fin 512) :
    (∑ d : Fin 512, q (ix2 (row h r) d) * (ins m c t).x6 (ix3 (0 : Fin 1) k d)) * Ideal.ofBits .f32 0x3D93CD3A#32
      = (args m c).score b (at128 i r) h (at512 j k) := by
  simp only [x6_apply m c b i t hb hi j hj hji]
  rw [sum_cols]
  simp only [hq.lat, hq.ro1, hq.ro2]
  refine congrArg₂ (· * ·) (congrArg₂ (· + ·) (Finset.sum_congr rfl fun x _ => ?_) (congrArg₂ (· + ·) ?_ ?_)) rfl
  · exact (congrArg _ (kc_lat m c b (at512 j k) x)).trans (mul_comm _ _)
  · exact (Finset.sum_congr rfl fun x _ => congrArg _ (kc_rot1 m c b (at512 j k) x)).trans
      (sum_lanes (h.val % 4) (Nat.mod_lt _ (by decide)) ((args m c).ro1 b (at128 i r) h)
        fun x => (args m c).kr (ix3 b (at512 j k) (⟨x.val, by have := x.isLt; omega⟩ : Fin 64)))
  · exact (Finset.sum_congr rfl fun x _ => congrArg _ (kc_rot2 m c b (at512 j k) x)).trans
      (sum_lanes (h.val % 4) (Nat.mod_lt _ (by decide)) ((args m c).ro2 b (at128 i r) h)
        fun x => (args m c).kr (ix3 b (at512 j k) (⟨32 + x.val, by have := x.isLt; omega⟩ : Fin 64)))

include hb hi hj hji in
/-- The values of block `j`. -/
theorem val_at (x : Fin 256) (k : Fin 512) : k0_pay96 (ins m c t).x6 (ix2 k x) = (args m c).val b x (512 * j.val + k.val) := by
  rw [vals_apply, x6_apply m c b i t hb hi j hj hji]
  exact (kc_lat m c b (at512 j k) x).trans ((args m c).val_fin b x (at512 j k)).symm

end

end Cert.KernelIdeal.Attn

end
-- ==== Proof.Tile.lean ====
/-
  A whole tile, over the extended reals: after its last key block the carried arrays are the softmax of every
  key that the mask keeps, and its output tile is the attention's result.
-/
module

public import proofs.«01_k».proof.Proof.Query

@[expose] public section

noncomputable section

namespace Cert.KernelIdeal.Attn

open Cert.KernelIdeal.Gen Cert.Flash
open Idealize.ShloMosaic Idealize.ShloMosaic.TcCoe
open Idealize.ShloMosaic (ix1 ix2 ix3 ix4)

variable (m : (ℓ : Loc nD τ sig) → Buf (Elt Ideal) ℓ) (c : Dev nD)

/-- The head and the place of a row. -/
abbrev hd (R : Fin 2048) : Fin 16 := ⟨R.val / 128, by have := R.isLt; omega⟩

abbrev pl (R : Fin 2048) : Fin 128 := ⟨R.val % 128, Nat.mod_lt _ (by decide)⟩

theorem row_hd (R : Fin 2048) : row (hd R) (pl R) = R := Fin.ext (by show 128 * (R.val / 128) + R.val % 128 = R.val; omega)

/-- The scores of a tile by row and key, and its values. -/
abbrev tS (b i : Fin 16) (R : Fin 2048) : ℕ → EReal := (args m c).S b (at128 i (pl R)) (hd R)

abbrev tV (b : Fin 16) : Fin 256 → ℕ → EReal := (args m c).val b

/-- A tile so far: its queries, and the running softmax of its first `n` keys. -/
structure Sofar (b i : Fin 16) (n : ℕ) (s : St Ideal) : Prop where
  q : IsQ m c b i s.q
  h : Holds (tS m c b i) (tV m c b) n s

section
variable (b i : Fin 16) (t : Fin cfg0.N) (hb : t.val / 64 = b.val) (hi : t.val / 4 % 16 = i.val)
  (j : Fin 4) (hj : t.val % 4 = j.val) (hji : j.val ≤ i.val / 4)

include hb hi hj hji in
/-- The scores of a block at a row and a key: plain ones lie under the diagonal. -/
theorem plain_at {q : Vec Ideal S2048x512 .bf16} (hq : IsQ m c b i q) (hlt : j.val < i.val / 4) (R : Fin 2048) (k : Fin 512) :
    scPlain (ins m c t).x6 q (blk R) (ix2 (pos R) k) = tS m c b i R (512 * j.val + k.val) := by
  unfold scPlain
  rw [plain_apply]
  simp only [rows_apply]
  have e := score_at m c b i t hb hi j hj hji hq (hd R) (pl R) k
  rw [row_hd] at e
  rw [e]
  refine Eq.symm (((args m c).S_fin b _ _ (at512 j k)).trans (if_pos ?_))
  have := k.isLt
  show 512 * j.val + k.val ≤ 128 * i.val + R.val % 128
  omega

include hb hi hj hji in
/-- Masked ones are `⊥` past the diagonal. -/
theorem masked_at {q : Vec Ideal S2048x512 .bf16} (hq : IsQ m c b i q) (R : Fin 2048) (k : Fin 512) :
    scMask (BitVec.ofNat 32 (grid0.coords t 1).val) (BitVec.ofNat 32 (grid0.coords t 2).val) (ins m c t).x6 q (blk R) (ix2 (pos R) k)
      = tS m c b i R (512 * j.val + k.val) := by
  unfold scMask
  rw [masked_apply, coords_1, coords_2, hi, hj]
  simp only [rows_apply]
  have e := score_at m c b i t hb hi j hj hji hq (hd R) (pl R) k
  rw [row_hd] at e
  rw [e]
  refine Eq.trans ?_ ((args m c).S_fin b _ _ (at512 j k)).symm
  refine if_congr ((keep_iff i.val j.val i.isLt j.isLt (pos R) k).trans ?_) rfl rfl
  show 512 * j.val + k.val ≤ 128 * i.val + R.val % 256 % 128 ↔ 512 * j.val + k.val ≤ 128 * i.val + R.val % 128
  omega

include hb hi hj hji in
/-- One point of a tile, up to its last block: one more block of keys. -/
theorem sofar_step (s : St Ideal) (h : j.val ≠ 0 → Sofar m c b i (512 * j.val) s) :
    Sofar m c b i (512 * j.val + 512) (stepAt m c t s) := by
  have h1 : Sofar m c b i (512 * j.val) (if t.val % 4 = 0 then s.start (ins m c t) else s) := by
    by_cases e : t.val % 4 = 0
    · rw [if_pos e, show j.val = 0 from hj ▸ e]
      exact ⟨isQ_start m c b i t hb hi s, holds_start _ _ _ s⟩
    · rw [if_neg e]
      exact h (fun h0 => e (hj.trans h0))
  unfold stepAt St.step
  dsimp only
  by_cases e : i.val / 4 = j.val
  · have e1 : t.val / 4 % 16 / 4 = t.val % 4 := by rw [hi, hj]; exact e
    rw [if_pos e1]
    exact ⟨h1.q, holds_take h1.h _ _ (masked_at m c b i t hb hi j hj hji h1.q) (val_at m c b i t hb hi j hj hji)⟩
  · have e1 : ¬ t.val / 4 % 16 / 4 = t.val % 4 := by rw [hi, hj]; exact e
    have e2 : t.val % 4 < t.val / 4 % 16 / 4 := by rw [hi, hj]; omega
    rw [if_neg e1, if_pos e2]
    exact ⟨h1.q, holds_take h1.h _ _ (plain_at m c b i t hb hi j hj hji h1.q (by omega)) (val_at m c b i t hb hi j hj hji)⟩

include hb hi hj in
/-- The last block's point leaves the tile's output, of the sums that it leaves. -/
theorem out_step (s : St Ideal) (e : i.val / 4 = j.val) :
    (stepAt m c t s).o = outTile (ins m c t).x12 (ins m c t).x7 (stepAt m c t s).l (stepAt m c t s).a := by
  have e1 : t.val / 4 % 16 / 4 = t.val % 4 := by rw [hi, hj]; exact e
  unfold stepAt St.step
  dsimp only
  rw [if_pos e1]
  rfl

end

/-- Point `j` of tile `i` of batch `b`. -/
abbrev pt (b i : Fin 16) (j : Fin 4) : Fin cfg0.N :=
  ⟨64 * b.val + 4 * i.val + j.val, by have := b.isLt; have := i.isLt; have := j.isLt; rw [N_eq]; omega⟩

theorem pt_b (b i : Fin 16) (j : Fin 4) : (pt b i j).val / 64 = b.val := by
  have := i.isLt; have := j.isLt
  show (64 * b.val + 4 * i.val + j.val) / 64 = b.val; omega

theorem pt_i (b i : Fin 16) (j : Fin 4) : (pt b i j).val / 4 % 16 = i.val := by
  have := i.isLt; have := j.isLt
  show (64 * b.val + 4 * i.val + j.val) / 4 % 16 = i.val; omega

theorem pt_j (b i : Fin 16) (j : Fin 4) : (pt b i j).val % 4 = j.val := by
  have := j.isLt
  show (64 * b.val + 4 * i.val + j.val) % 4 = j.val; omega

/-- The state after a point is that point's step from some state, and past the first point from the state before. -/
theorem st_step (t : Fin cfg0.N) : ∃ s, st m c t.val = stepAt m c t s ∧ (t.val ≠ 0 → s = st m c (t.val - 1)) := by
  by_cases h : t.val = 0
  · exact ⟨st m c 0, st_first m c t h _, fun h' => absurd h h'⟩
  · exact ⟨_, st_succ m c t h, fun _ => rfl⟩

/-- Up to its last block, point `j` of a tile leaves the softmax of `512·(j + 1)` keys. -/
theorem sofar_at (b i : Fin 16) (n : ℕ) (hn : n < 4) (hni : n ≤ i.val / 4) :
    Sofar m c b i (512 * n + 512) (st m c (pt b i ⟨n, hn⟩).val) := by
  induction n with
  | zero =>
    obtain ⟨s, e, -⟩ := st_step m c (pt b i ⟨0, hn⟩)
    rw [e]
    exact sofar_step m c b i _ (pt_b ..) (pt_i ..) ⟨0, hn⟩ (pt_j ..) hni s fun h => absurd rfl h
  | succ n ih =>
    obtain ⟨s, e, hs⟩ := st_step m c (pt b i ⟨n + 1, hn⟩)
    rw [e]
    refine sofar_step m c b i _ (pt_b ..) (pt_i ..) ⟨n + 1, hn⟩ (pt_j ..) hni s fun _ => ?_
    rw [hs (Nat.succ_ne_zero _)]
    exact ih (by omega) (by omega)

/-- The points of a tile past its last block leave the state. -/
theorem st_stay (b i : Fin 16) (n : ℕ) (hn : n < 4) (hni : i.val / 4 ≤ n) :
    st m c (pt b i ⟨n, hn⟩).val = st m c (pt b i ⟨i.val / 4, by have := i.isLt; omega⟩).val := by
  induction n, hni using Nat.le_induction with
  | base => rfl
  | succ n h ih =>
    rw [st_past m c (pt b i ⟨n + 1, hn⟩) (by rw [pt_i, pt_j]; exact Nat.lt_succ_of_le h)]
    exact ih (by omega)

/-- What the tile's last point leaves in the output window. -/
theorem tile_out (b i : Fin 16) (h : Fin 16) (r v : Fin 128) :
    (st m c (pt b i 3).val).o (ix3 (0 : Fin 1) r (row h v)) = (args m c).out b (at128 i r) h v := by
  have hi4 : i.val / 4 < 4 := by have := i.isLt; omega
  rw [show pt b i 3 = pt b i ⟨3, by decide⟩ from rfl, st_stay m c b i 3 (by decide) (by omega)]
  have S := sofar_at m c b i (i.val / 4) hi4 le_rfl
  obtain ⟨s, e, -⟩ := st_step m c (pt b i ⟨i.val / 4, hi4⟩)
  have eo := out_step m c b i (pt b i ⟨i.val / 4, hi4⟩) (pt_b ..) (pt_i ..) ⟨i.val / 4, hi4⟩ (pt_j ..) s rfl
  rw [← e] at eo
  rw [eo, outTile_apply, x7_apply m c b i _ (pt_b ..) (pt_i ..), V_main_arg5]
  have hd_row : hd (row h r) = h := Fin.ext (by show (128 * h.val + r.val) / 128 = h.val; omega)
  have pl_row : pl (row h r) = r := Fin.ext (by show (128 * h.val + r.val) % 128 = r.val; omega)
  obtain ⟨-, hl, ha⟩ := S.h (row h r)
  have hm : ∀ n, 512 * (i.val / 4) + 512 ≤ n → tS m c b i (row h r) n = ⊥ := fun n hn => by
    show (args m c).S b (at128 i (pl (row h r))) _ n = ⊥
    unfold Cert.Attn.Args.S
    split_ifs with h1 h2
    · exfalso
      have hp := (pl (row h r)).isLt
      have h2 : n ≤ 128 * i.val + (pl (row h r)).val := h2
      omega
    · rfl
    · rfl
  have hle : 512 * (i.val / 4) + 512 ≤ 2048 := by omega
  unfold Cert.Attn.Args.out
  refine congrArg₂ (· * ·) (Finset.sum_congr rfl fun x _ => ?_) rfl
  rw [x12_apply, wuv_apply, hl, ha, ← top_mask _ hle hm, ← mass_mask _ _ hle hm, ← mix_mask _ _ _ hle hm, mul_comm]
  have hS : tS m c b i (row h r) = (args m c).S b (at128 i r) h := by
    show (args m c).S b (at128 i (pl (row h r))) (hd (row h r)) = _
    rw [hd_row, pl_row]
  rw [hS]
  rfl

end Cert.KernelIdeal.Attn

end
-- ==== Proof.Ref.lean ====
/-
  The reference's composed term over the extended reals, at an index: in four named pieces.
-/
module

public import proofs.«01_k».proof.Proof.Gen.ReferenceIdeal.Run
public import proofs.«01_k».proof.Proof.Spec
public import Idealize.ShloMosaic.Lib.Pointwise
public import Idealize.ShloMosaic.Lib.WordCmp

@[expose] public section

set_option maxRecDepth 8192

noncomputable section

namespace Cert.ReferenceIdeal.Attn

open Cert.ReferenceIdeal Cert.ReferenceIdeal.Gen Cert.Flash
open Idealize.ShloMosaic Idealize.ShloMosaic.TcCoe Idealize.ShloMosaic.WordCmp
open Idealize.SL
open Idealize.ShloMosaic (ix0 ix1 ix2 ix3 ix4)

variable (m : (ℓ : Loc nD τ sig) → Buf (Elt Ideal) ℓ) (c : Dev nD)

/-- The nine arguments in the memory that the run starts from. -/
def args : Cert.Attn.Args where
  cq := m ((c : Thread nD τ).loc main_arg0)
  co := m ((c : Thread nD τ).loc main_arg1)
  si := m ((c : Thread nD τ).loc main_arg2)
  ck := m ((c : Thread nD τ).loc main_arg3)
  kr := m ((c : Thread nD τ).loc main_arg4)
  sz := m ((c : Thread nD τ).loc main_arg5)
  wq := m ((c : Thread nD τ).loc main_arg6)
  wk := m ((c : Thread nD τ).loc main_arg7)
  wv := m ((c : Thread nD τ).loc main_arg8)

theorem ofBits_bot : Ideal.ofBits .f32 0xFF800000#32 = ⊥ := by simp [Ideal.ofBits, Ideal.ieee]

/-- The causal mask at an index. -/
theorem mask_apply (x t : Fin 2048) (a : EReal) :
    Scalar.select (IntOp.cmpi CmpIPredicate.sle (BitVec.ofNat 32 x.val) (BitVec.ofNat 32 t.val)) a
      (id (constant (F := Ideal) S_ FTy.f32 0xFF800000#32) ix0) = if x.val ≤ t.val then a else ⊥ := by
  have hx := x.isLt; have ht := t.isLt
  have hc : (id (constant (F := Ideal) S_ FTy.f32 0xFF800000#32) ix0 : EReal) = ⊥ := ofBits_bot
  rw [hc]
  exact if_congr (cmpi_sle_ofNat_eq_one_iff (w := 32) (by omega) (by omega)) rfl rfl

/-- The queries. -/
def queries : FVec Ideal S16x2048x16x192 .f32 :=
  Host.dotGeneral (φ₁ := .f32) (φ₂ := .f32) dot_S16x2048x384_S384x16x192_S16x2048x16x192_2_0_01_12_n_n none (extf .f32 (m ((c.tc : Thread nD τ).loc main_arg0) : FVec Ideal S16x2048x384 .bf16) bitsLt_bf16_f32) (m ((c.tc : Thread nD τ).loc main_arg6) : FVec Ideal S384x16x192 .f32)

/-- The masked scores. -/
def scores : FVec Ideal S16x16x2048x2048 .f32 :=
  select (broadcastInDim S16x16x2048x2048 ![2, 3] bcast_S2048x2048_S16x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (transpose S16x16x2048x2048 [0, 3, 2, 1] (Host.dotGeneral (φ₁ := .f32) (φ₂ := .f32) dot_S16x2048x256_S16x2048x16x256_S16x2048x2048x16_2_3_1_12_0_0 none (m ((c.tc : Thread nD τ).loc main_arg3) : FVec Ideal S16x2048x256 .f32) (transpose S16x2048x16x256 [2, 3, 0, 1] (Host.dotGeneral (φ₁ := .f32) (φ₂ := .f32) dot_S256x16x128_S16x2048x16x128_S16x256x16x2048_2_3_0_01_1_2 none (m ((c.tc : Thread nD τ).loc main_arg7) : FVec Ideal S256x16x128 .f32) (extractStridedSlice S16x2048x16x128 ![0, 0, 0, 0] (queries m c) slices_S16x2048x16x192_S16x2048x16x128_0_0_0_0)) transposes_S16x256x16x2048_S16x2048x16x256_2_3_0_1)) transposes_S16x2048x2048x16_S16x16x2048x2048_0_3_2_1) (transpose S16x16x2048x2048 [0, 3, 2, 1] (Host.dotGeneral (φ₁ := .f32) (φ₂ := .f32) dot_S16x2048x64_S16x2048x16x64_S16x2048x2048x16_2_3_1_12_0_0 none (m ((c.tc : Thread nD τ).loc main_arg4) : FVec Ideal S16x2048x64 .f32) (concatenate S16x2048x16x64 3 [⟨S16x2048x16x32, (subf (mulf (extractStridedSlice S16x2048x16x32 ![0, 0, 0, 128] (queries m c) slices_S16x2048x16x192_S16x2048x16x32_0_0_0_128) (broadcastInDim S16x2048x16x32 ![0, 1, 2, 3] bcast_S1x2048x1x32_S16x2048x16x32_0_1_2_3 (broadcastInDim S1x2048x1x32 ![1, 2, 3] bcast_S2048x1x32_S1x2048x1x32_1_2_3 (broadcastInDim S2048x1x32 ![0, 2] bcast_S2048x32_S2048x1x32_0_2 (m ((c.tc : Thread nD τ).loc main_arg1) : FVec Ideal S2048x32 .f32))))) (mulf (extractStridedSlice S16x2048x16x32 ![0, 0, 0, 160] (queries m c) slices_S16x2048x16x192_S16x2048x16x32_0_0_0_160) (broadcastInDim S16x2048x16x32 ![0, 1, 2, 3] bcast_S1x2048x1x32_S16x2048x16x32_0_1_2_3 (broadcastInDim S1x2048x1x32 ![1, 2, 3] bcast_S2048x1x32_S1x2048x1x32_1_2_3 (broadcastInDim S2048x1x32 ![0, 2] bcast_S2048x32_S2048x1x32_0_2 (m ((c.tc : Thread nD τ).loc main_arg2) : FVec Ideal S2048x32 .f32))))))⟩, ⟨S16x2048x16x32, (addf (mulf (extractStridedSlice S16x2048x16x32 ![0, 0, 0, 128] (queries m c) slices_S16x2048x16x192_S16x2048x16x32_0_0_0_128) (broadcastInDim S16x2048x16x32 ![0, 1, 2, 3] bcast_S1x2048x1x32_S16x2048x16x32_0_1_2_3 (broadcastInDim S1x2048x1x32 ![1, 2, 3] bcast_S2048x1x32_S1x2048x1x32_1_2_3 (broadcastInDim S2048x1x32 ![0, 2] bcast_S2048x32_S2048x1x32_0_2 (m ((c.tc : Thread nD τ).loc main_arg2) : FVec Ideal S2048x32 .f32))))) (mulf (extractStridedSlice S16x2048x16x32 ![0, 0, 0, 160] (queries m c) slices_S16x2048x16x192_S16x2048x16x32_0_0_0_160) (broadcastInDim S16x2048x16x32 ![0, 1, 2, 3] bcast_S1x2048x1x32_S16x2048x16x32_0_1_2_3 (broadcastInDim S1x2048x1x32 ![1, 2, 3] bcast_S2048x1x32_S1x2048x1x32_1_2_3 (broadcastInDim S2048x1x32 ![0, 2] bcast_S2048x32_S2048x1x32_0_2 (m ((c.tc : Thread nD τ).loc main_arg1) : FVec Ideal S2048x32 .f32))))))⟩] concatenates_S16x2048x16x32_S16x2048x16x32_S16x2048x16x64_d3)) transposes_S16x2048x2048x16_S16x16x2048x2048_0_3_2_1)) (broadcastInDim S16x16x2048x2048 ![] bcast_S_S16x16x2048x2048 (constant S_ .f32 0x3D93CD3A#32))) (broadcastInDim S16x16x2048x2048 ![] bcast_S_S16x16x2048x2048 (id (constant S_ .f32 0xFF800000#32)))

/-- A number for each row, spread along it. -/
def spread (r : FVec Ideal S16x16x2048 .f32) : FVec Ideal S16x16x2048x2048 .f32 :=
  broadcastInDim S16x16x2048x2048 ![0, 1, 2, 3] bcast_S16x16x2048x1_S16x16x2048x2048_0_1_2_3 (broadcastInDim S16x16x2048x1 ![0, 1, 2] bcast_S16x16x2048_S16x16x2048x1_0_1_2 r)

/-- The maximum of each row. -/
def rowMax (s : FVec Ideal S16x16x2048x2048 .f32) : FVec Ideal S16x16x2048 .f32 :=
  maximumf (broadcastInDim S16x16x2048 ![] bcast_S_S16x16x2048 (constant S_ .f32 0xFF800000#32)) (Host.reduce FloatOps.maximumf s (constant S_ .f32 0xFF800000#32) reducesTo_S16x16x2048x2048_S16x16x2048_d3 h_S_)

/-- The sum of each row. -/
def rowSum (s : FVec Ideal S16x16x2048x2048 .f32) : FVec Ideal S16x16x2048 .f32 :=
  Host.reduceAdd s (constant S_ .f32 0x00000000#32) reducesTo_S16x16x2048x2048_S16x16x2048_d3 h_S_

/-- The weights of scores, before they are divided by their sum. -/
def weights (s : FVec Ideal S16x16x2048x2048 .f32) : FVec Ideal S16x16x2048x2048 .f32 :=
  Host.exp (subf s (spread (rowMax s)))

/-- The weights divided by their sum. -/
def shares (w : FVec Ideal S16x16x2048x2048 .f32) : FVec Ideal S16x16x2048x2048 .f32 :=
  Host.divf w (spread (rowSum w))

theorem res_eq : Value.res_main_v56 m c =
  truncf .bf16 (mulf (shapeCast _ (transpose S16x2048x16x128 [2, 3, 0, 1] (Host.dotGeneral (φ₁ := .f32) (φ₂ := .f32) dot_S256x16x128_S16x2048x16x256_S16x128x16x2048_0_3_2_01_1_2 none (m ((c.tc : Thread nD τ).loc main_arg8) : FVec Ideal S256x16x128 .f32) (transpose S16x2048x16x256 [0, 3, 2, 1] (Host.dotGeneral (φ₁ := .f32) (φ₂ := .f32) dot_S16x2048x256_S16x16x2048x2048_S16x256x16x2048_1_3_2_12_0_0 none (m ((c.tc : Thread nD τ).loc main_arg3) : FVec Ideal S16x2048x256 .f32) (shares (weights (scores m c)))) transposes_S16x256x16x2048_S16x2048x16x256_0_3_2_1)) transposes_S16x128x16x2048_S16x2048x16x128_2_3_0_1) shapeCasts_S16x2048x16x128_S16x2048x2048) (extf .f32 (m ((c.tc : Thread nD τ).loc main_arg5) : FVec Ideal S16x2048x2048 .bf16) bitsLt_bf16_f32)) bitsLt_bf16_f32 := by
  unfold Value.res_main_v56 shares weights rowSum rowMax spread scores queries
  rfl

theorem queries_apply (b : Fin 16) (t : Fin 2048) (h : Fin 16) (d : Fin 192) :
    queries m c (ix4 b t h d) = (args m c).qv b t h d := by
  unfold queries
  pointwise []
  rfl

theorem scores_apply (b : Fin 16) (h : Fin 16) (t l : Fin 2048) :
    scores m c (ix4 b h t l) = (args m c).S b t h l.val := by
  unfold scores
  pointwise []
  rw [mask_apply, Cert.Attn.Args.S_fin]
  simp only [queries_apply]
  rfl

theorem spread_apply (r : FVec Ideal S16x16x2048 .f32) (b : Fin 16) (h : Fin 16) (t l : Fin 2048) :
    spread r (ix4 b h t l) = r (ix3 b h t) := by
  unfold spread
  pointwise []

theorem redMax_apply (s : FVec Ideal S16x16x2048x2048 .f32) (b : Fin 16) (h : Fin 16) (t : Fin 2048) :
    Host.reduce FloatOps.maximumf s (constant (F := Ideal) S_ .f32 0xFF800000#32) reducesTo_S16x16x2048x2048_S16x16x2048_d3 h_S_ (ix3 b h t)
      = Finset.fold max (Ideal.ofBits .f32 0xFF800000#32) (fun x : Fin 2048 => s (ix4 b h t x)) Finset.univ := by
  pointwise []

theorem floor_apply (r : FVec Ideal S16x16x2048 .f32) (b : Fin 16) (h : Fin 16) (t : Fin 2048) :
    maximumf (broadcastInDim S16x16x2048 ![] bcast_S_S16x16x2048 (constant S_ .f32 0xFF800000#32)) r (ix3 b h t)
      = max (Ideal.ofBits .f32 0xFF800000#32) (r (ix3 b h t)) := by
  pointwise []

theorem rowMax_apply (s : FVec Ideal S16x16x2048x2048 .f32) (b : Fin 16) (h : Fin 16) (t : Fin 2048) :
    rowMax s (ix3 b h t) = Finset.fold max ⊥ (fun x : Fin 2048 => s (ix4 b h t x)) Finset.univ := by
  unfold rowMax
  rw [floor_apply, redMax_apply, ofBits_bot, max_eq_right bot_le]

theorem rowSum_apply (s : FVec Ideal S16x16x2048x2048 .f32) (b : Fin 16) (h : Fin 16) (t : Fin 2048) :
    rowSum s (ix3 b h t) = ∑ x : Fin 2048, s (ix4 b h t x) := by
  unfold rowSum
  pointwise []

theorem weights_split (s : FVec Ideal S16x16x2048x2048 .f32) (b : Fin 16) (h : Fin 16) (t l : Fin 2048) :
    weights s (ix4 b h t l) = Ideal.exp (s (ix4 b h t l) - spread (rowMax s) (ix4 b h t l)) := by
  unfold weights
  generalize spread (rowMax s) = r
  pointwise []

theorem shares_split (w : FVec Ideal S16x16x2048x2048 .f32) (b : Fin 16) (h : Fin 16) (t l : Fin 2048) :
    shares w (ix4 b h t l) = Ideal.div (w (ix4 b h t l)) (spread (rowSum w) (ix4 b h t l)) := by
  unfold shares
  generalize spread (rowSum w) = r
  pointwise []

theorem weights_apply (b : Fin 16) (h : Fin 16) (t l : Fin 2048) :
    weights (scores m c) (ix4 b h t l) = Ideal.exp ((args m c).S b t h l.val - top ((args m c).S b t h) 2048) := by
  rw [weights_split, spread_apply, rowMax_apply, scores_apply, Cert.Attn.Args.top_fin]
  simp only [scores_apply]

theorem shares_apply (b : Fin 16) (h : Fin 16) (t l : Fin 2048) :
    shares (weights (scores m c)) (ix4 b h t l) = Ideal.div (Ideal.exp ((args m c).S b t h l.val - top ((args m c).S b t h) 2048))
      (mass ((args m c).S b t h) (top ((args m c).S b t h) 2048) 2048) := by
  rw [shares_split, spread_apply, rowSum_apply, weights_apply, Cert.Attn.Args.mass_fin]
  simp only [weights_apply]

/-- The reference's result. -/
theorem out_apply (R : (args m c).Real) (b : Fin 16) (t : Fin 2048) (h : Fin 16) (v : Fin 128) :
    Value.res_main_v56 m c (ix3 b t (⟨128 * h.val + v.val, by have := h.isLt; have := v.isLt; omega⟩ : Fin 2048)) = (args m c).out b t h v := by
  rw [res_eq]
  generalize hs : shares (weights (scores m c)) = p
  pointwise []
  subst hs
  simp only [shares_apply]
  unfold Cert.Attn.Args.out
  refine congrArg₂ (· * ·) (Finset.sum_congr rfl fun x _ => congrArg₂ (· * ·) rfl ?_) rfl
  rw [← div_mix _ _ _ _ _ (mass_nonneg _ _ _) (R.mass_ne_zero b t h), Finset.sum_range]
  exact Finset.sum_congr rfl fun l _ => congrArg₂ (· * ·) ((args m c).val_fin b x l).symm rfl

end Cert.ReferenceIdeal.Attn

end
-- ==== Proof.Finite.lean ====
/-
  What the precondition says of the arguments over the extended reals: every element of each bounded
  array is a real number.
-/
module

public import proofs.«01_k».proof.Defs
public import Idealize.ShloMosaic.PureOps
public import Idealize.ShloMosaic.Lib.Pointwise

@[expose] public section

noncomputable section

namespace Cert.Pre_finite

open Idealize.ShloMosaic
open Idealize.ShloMosaic (ix1 ix2 ix3 ix4)

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- A number of absolute value below infinity is real. -/
theorem real_of_abs {x : EReal} (h : max x (-x) < ⊤) : x ≠ ⊥ ∧ x ≠ ⊤ := by
  constructor
  · rintro rfl; simp at h
  · rintro rfl; simp at h

/-- Both of two bits that hold together. -/
theorem and_one {x y : BitVec 1} (h : x &&& y = 1#1) : x = 1#1 ∧ y = 1#1 := by revert x y; decide

variable [Facts]

/-- The test on an array of three axes: passed, every element is real. -/
theorem real3 {n a b : ℕ} {x : FVec Ideal ⟨3, ![n, a, b]⟩ .f32} {hr : (⟨3, ![n, a, b]⟩ : Shape).ReducesTo [0, 1, 2] S_} {hp : 0 < S_.numel}
    (h : cmpf .olt (Host.reduce FloatOps.maximumf (Host.absf x) (constant (F := Ideal) S_ .f32 0xFF800000#32) hr hp) (constant (F := Ideal) S_ .f32 0x7F800000#32) ix0 = 1#1)
    (i : Fin n) (j : Fin a) (k : Fin b) : x (ix3 i j k) ≠ ⊥ ∧ x (ix3 i j k) ≠ ⊤ := by
  revert h
  pointwise []
  rw [ofBits_bot, ofBits_top]
  intro h
  have h' : Finset.fold max (⊥ : EReal) (fun k : Fin n × Fin a × Fin b => (FloatOps.absf (x (ix3 k.1 k.2.1 k.2.2)) : EReal)) Finset.univ < ⊤ := by
    by_contra hc
    simp [hc] at h
  refine real_of_abs (x := x (ix3 i j k)) (((Finset.fold_max_lt _).mp h').2 (i, j, k) (Finset.mem_univ _))

/-- The test on an array of two axes. -/
theorem real2 {n a : ℕ} {x : FVec Ideal ⟨2, ![n, a]⟩ .f32} {hr : (⟨2, ![n, a]⟩ : Shape).ReducesTo [0, 1] S_} {hp : 0 < S_.numel}
    (h : cmpf .olt (Host.reduce FloatOps.maximumf (Host.absf x) (constant (F := Ideal) S_ .f32 0xFF800000#32) hr hp) (constant (F := Ideal) S_ .f32 0x7F800000#32) ix0 = 1#1)
    (i : Fin n) (j : Fin a) : x (ix2 i j) ≠ ⊥ ∧ x (ix2 i j) ≠ ⊤ := by
  revert h
  pointwise []
  rw [ofBits_bot, ofBits_top]
  intro h
  have h' : Finset.fold max (⊥ : EReal) (fun k : Fin n × Fin a => (FloatOps.absf (x (ix2 k.1 k.2)) : EReal)) Finset.univ < ⊤ := by
    by_contra hc
    simp [hc] at h
  refine real_of_abs (x := x (ix2 i j)) (((Finset.fold_max_lt _).mp h').2 (i, j) (Finset.mem_univ _))

/-- What the precondition gives. -/
theorem real_of_fn {a0 : FVec Ideal S16x2048x384 .bf16} {a1 a2 : FVec Ideal S2048x32 .f32} {a3 : FVec Ideal S16x2048x256 .f32} {a4 : FVec Ideal S16x2048x64 .f32}
    {a5 : FVec Ideal S16x2048x2048 .bf16} {a6 : FVec Ideal S384x16x192 .f32} {a7 a8 : FVec Ideal S256x16x128 .f32}
    (h : fn a0 a1 a2 a3 a4 a5 a6 a7 a8 = fun _ => 1#1) :
    (∀ i j k, a0 (ix3 i j k) ≠ ⊥ ∧ a0 (ix3 i j k) ≠ ⊤) ∧ (∀ i j, a1 (ix2 i j) ≠ ⊥ ∧ a1 (ix2 i j) ≠ ⊤) ∧ (∀ i j, a2 (ix2 i j) ≠ ⊥ ∧ a2 (ix2 i j) ≠ ⊤)
      ∧ (∀ i j k, a3 (ix3 i j k) ≠ ⊥ ∧ a3 (ix3 i j k) ≠ ⊤) ∧ (∀ i j k, a4 (ix3 i j k) ≠ ⊥ ∧ a4 (ix3 i j k) ≠ ⊤)
      ∧ (∀ i j k, a6 (ix3 i j k) ≠ ⊥ ∧ a6 (ix3 i j k) ≠ ⊤) ∧ (∀ i j k, a7 (ix3 i j k) ≠ ⊥ ∧ a7 (ix3 i j k) ≠ ⊤) := by
  have h0 := congrFun h ix0
  obtain ⟨h, h7⟩ := and_one h0
  obtain ⟨h, h6⟩ := and_one h
  obtain ⟨h, h4⟩ := and_one h
  obtain ⟨h, h3⟩ := and_one h
  obtain ⟨h, h2⟩ := and_one h
  obtain ⟨h0, h1⟩ := and_one h
  exact ⟨real3 h0, real2 h1, real2 h2, real3 h3, real3 h4, real3 h6, real3 h7⟩

end Cert.Pre_finite

end
-- ==== Proof.Value.lean ====
/-
  The kernel's result is the attention of its arguments: what each tile's last point leaves is written to the tile's
  block of the result, and these blocks cover it. The reference's result is the same function of equal arguments.
-/
module

public import proofs.«01_k».proof.Defs
public import proofs.«01_k».proof.Proof.Tile
public import proofs.«01_k».proof.Proof.Ref
public import proofs.«01_k».proof.Proof.Finite
public import proofs.«01_k».proof.Proof.Frames
public import Idealize.ShloMosaic.Lib.Pipeline.ValueKit
public import Idealize.ShloMosaic.Lib.Claim

@[expose] public section

noncomputable section

open Idealize.ShloMosaic Idealize.ShloMosaic.TcCoe Idealize.SL.Sem Idealize.ShloMosaic.Pipeline
open Idealize.ShloMosaic (ix1 ix2 ix3 ix4)

namespace Cert.Attn

/-- The attention as an array of three axes: the last axis is 16 heads of 128. -/
def Args.res (A : Args) : FVec Ideal ⟨3, ![16, 2048, 2048]⟩ .bf16 := fun y =>
  A.out (y 0) (y 1) ⟨(y 2).val / 128, by have := (y 2).isLt; have : (y 2).val < 2048 := this; omega⟩ ⟨(y 2).val % 128, Nat.mod_lt _ (by decide)⟩

theorem Args.res_apply (A : Args) (b : Fin 16) (t : Fin 2048) (h : Fin 16) (v : Fin 128) (l : Fin 2048) (e : l.val = 128 * h.val + v.val) :
    A.res (ix3 b t l) = A.out b t h v := by
  have h1 : (⟨l.val / 128, by have := l.isLt; omega⟩ : Fin 16) = h := Fin.ext (by have := v.isLt; show l.val / 128 = h.val; omega)
  have h2 : (⟨l.val % 128, Nat.mod_lt _ (by decide)⟩ : Fin 128) = v := Fin.ext (by have := v.isLt; show l.val % 128 = v.val; omega)
  show A.out b t ⟨l.val / 128, _⟩ ⟨l.val % 128, _⟩ = _
  rw [h1, h2]

end Cert.Attn

namespace Cert.KernelIdeal.Attn

open Cert.KernelIdeal.Gen

variable (m : (ℓ : Loc nD τ sig) → Buf (Elt Ideal) ℓ) (c : Dev nD)

/-- What the tile's last point leaves, at each place of the tile's block of the result. -/
theorem block_out (b i : Fin 16) (t : Fin cfg0.N) (hb : t.val / 64 = b.val) (hi : t.val / 4 % 16 = i.val) (ht : t = pt b i 3)
    (y : Shape.Idx ⟨3, ![1, 128, 2048]⟩) :
    (st m c t.val).o y = (args m c).res ((win0_10.blk t).view.emb y) := by
  obtain ⟨z, r, l, rfl⟩ : ∃ (z : Fin 1) (r : Fin 128) (l : Fin 2048), y = ix3 z r l := ⟨y 0, y 1, y 2, by funext d; fin_cases d <;> rfl⟩
  obtain rfl : z = 0 := Subsingleton.elim _ _
  have hl : l = row ⟨l.val / 128, by have := l.isLt; omega⟩ ⟨l.val % 128, Nat.mod_lt _ (by decide)⟩ :=
    Fin.ext (by show l.val = 128 * (l.val / 128) + l.val % 128; omega)
  have hy : (win0_10.blk t).view.emb (ix3 (0 : Fin 1) r l) = ix3 b (at128 i r) l := by
    blk_ext [index_10]
  rw [hy, Cert.Attn.Args.res_apply _ b (at128 i r) _ _ l (congrArg Fin.val hl), ← tile_out m c b i, ← hl, ht]

/-- The result is the attention of the arguments. -/
theorem arr_out : (dats m 0 c).arrAt 10 cfg0.N = (args m c).res := by
  refine Dat.arrAt_eq_of_covers (dats m 0 c) 10 ((args m c).res : FVec Ideal ⟨3, ![16, 2048, 2048]⟩ .bf16) (by decide +kernel) fun t hf y => ?_
  blk_simp
  rw [after_10]
  have h3 := (flush0_10 t).1 hf
  have hN : t.val < 1024 := Nat.lt_of_lt_of_eq t.isLt N_eq
  obtain ⟨b, hb⟩ : ∃ b : Fin 16, t.val / 64 = b.val := ⟨⟨t.val / 64, by omega⟩, rfl⟩
  obtain ⟨i, hi⟩ : ∃ i : Fin 16, t.val / 4 % 16 = i.val := ⟨⟨t.val / 4 % 16, by omega⟩, rfl⟩
  have ht : t = pt b i 3 := Fin.ext (by show t.val = 64 * b.val + 4 * i.val + 3; omega)
  exact block_out m c b i t hb hi ht y

/-- Every run ends with the attention of the arguments in the result, and the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v29) = (args m c).res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1.1 c).1 10).trans (arr_out m c), h.2.1 c⟩) (θ_run_and (run m ρ) (frame_run m ρ))

end Cert.KernelIdeal.Attn

namespace Cert.Proof

/-- Both programs compute the attention of their arguments, when those that scores are made of are real. -/
theorem algebraic :
    Cert.algebraic_KernelIdeal_ReferenceIdeal_pre_finite (hKernelIdeal := Cert.KernelIdeal.Gen.facts)
      (hReferenceIdeal := Cert.ReferenceIdeal.Gen.facts) (hPre_finite := pre_facts) := by
  intro m g m' g' hpre hagree
  refine ⟨_, Cert.KernelIdeal.Attn.value_run m g, ?_⟩
  refine (θ_run Cert.ReferenceIdeal.defs _ _).mono (fun _ h c => ⟨(h c).1.trans ?_, (h c).2⟩)
    (Cert.ReferenceIdeal.Value.run (F := Ideal) m' g')
  have hargs : Cert.ReferenceIdeal.Attn.args m' c = Cert.KernelIdeal.Attn.args m c := by
    obtain ⟨h0, h1, h2, h3, h4, h5, h6, h7, h8⟩ := hagree c
    unfold Cert.ReferenceIdeal.Attn.args Cert.KernelIdeal.Attn.args
    congr 1
  have hreal : (Cert.ReferenceIdeal.Attn.args m' c).Real := by
    rw [hargs]
    obtain ⟨h0, h1, h2, h3, h4, h6, h7⟩ := @Cert.Pre_finite.real_of_fn pre_facts _ _ _ _ _ _ _ _ _ (hpre c)
    exact ⟨h0, h1, h2, h3, h4, h6, h7⟩
  funext y
  obtain ⟨b, t, l, rfl⟩ : ∃ (b : Fin 16) (t l : Fin 2048), y = ix3 b t l := ⟨y 0, y 1, y 2, by funext d; fin_cases d <;> rfl⟩
  have hl : l = ⟨128 * (l.val / 128) + l.val % 128, by have := l.isLt; omega⟩ := Fin.ext (by show l.val = 128 * (l.val / 128) + l.val % 128; omega)
  have e := Cert.ReferenceIdeal.Attn.out_apply m' c hreal b t ⟨l.val / 128, by have := l.isLt; omega⟩ ⟨l.val % 128, Nat.mod_lt _ (by decide)⟩
  rw [hargs, ← hl] at e
  exact e

end Cert.Proof

end
-- ==== Proof.GluProj.lean ====
/-
  The input projection of a convolution layer: each row is normalised and scaled once, at the first of the four grid points
  that share it, and kept for the other three. Each point multiplies the kept 512 rows by 512 columns of each third of the
  weights and adds the bias; the first product is gated by the second, the third passes through the sigmoid-weighted unit.
-/
module

public import proofs.«01_k».proof.Defs
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Quiescent
public import Idealize.ShloMosaic.Lib.Claim

@[expose] public section

noncomputable section

open Idealize.ShloMosaic Idealize.ShloMosaic.TcCoe Idealize.ShloMosaic.Pipeline Idealize.ShloMosaic.StableHlo Idealize.SL.Sem
open Idealize.ShloMosaic (ix1 ix2 ix3 ix4)

namespace Cert.GluProj

variable (x : FVec Ideal ⟨3, ![16, 2048, 1024]⟩ .f32) (n : FVec Ideal ⟨1, ![1024]⟩ .f32) (w : FVec Ideal ⟨2, ![1024, 6144]⟩ .f32)
  (b : FVec Ideal ⟨1, ![6144]⟩ .f32)

/-- Row `r` of the input: position `r % 2048` of batch `r / 2048`. -/
def inp (r : Fin 32768) (k : Fin 1024) : EReal :=
  x (ix3 ⟨r.val / 2048, by have := r.isLt; omega⟩ ⟨r.val % 2048, by omega⟩ k)

/-- The normalised and scaled row. -/
def row (r : Fin 32768) (k : Fin 1024) : EReal :=
  inp x r k * Ideal.rsqrt (Ideal.div (∑ j : Fin 1024, inp x r j * inp x r j) (Ideal.ofBits .f32 0x44800000#32)
      + Ideal.ofBits .f32 0x358637BD#32) * n (ix1 k)

/-- Its product with a column of the weights, plus the bias. -/
def prod (r : Fin 32768) (j : Fin 6144) : EReal := ∑ k : Fin 1024, row x n r k * w (ix2 k j) + b (ix1 j)

/-- The first result. -/
def u (r : Fin 32768) (q : Fin 2048) : EReal :=
  prod x n w b r ⟨q.val, by omega⟩ * Ideal.div 1 (1 + Ideal.exp (0 - prod x n w b r ⟨2048 + q.val, by omega⟩))

/-- The second result. -/
def z (r : Fin 32768) (q : Fin 2048) : EReal :=
  prod x n w b r ⟨4096 + q.val, by omega⟩ * Ideal.div 1 (1 + Ideal.exp (0 - prod x n w b r ⟨4096 + q.val, by omega⟩))

/-- Position `j` of batch `i` among the rows. -/
abbrev pos (i : Fin 16) (j : Fin 2048) : Fin 32768 := ⟨i.val * 2048 + j.val, by have := i.isLt; have := j.isLt; omega⟩

theorem inp_pos (i : Fin 16) (j : Fin 2048) (k : Fin 1024) : inp x (pos i j) k = x (ix3 i j k) := by
  unfold inp
  congr 2
  · exact Fin.ext (show (i.val * 2048 + j.val) / 2048 = i.val by omega)
  · exact Fin.ext (show (i.val * 2048 + j.val) % 2048 = j.val by omega)

end Cert.GluProj

namespace Cert.Kernel2Ideal.Out

open Cert.Kernel2Ideal.Gen

variable (m : (ℓ : Loc nD τ sig) → Buf (Elt Ideal) ℓ) (c : Dev nD)

theorem host0_apply (r : Fin 32768) (k : Fin 1024) : V m c main_v0 (ix2 r k)
    = Cert.GluProj.inp (m ((c : Thread nD τ).loc main_arg0)) r k := by
  unfold V Cert.GluProj.inp
  after_reads_at

theorem host1_apply (k : Fin 1024) : V m c main_v2 (ix2 (0 : Fin 1) k) = m ((c : Thread nD τ).loc main_arg1) (ix1 k) := by
  unfold V
  after_reads_at

theorem host2_apply (k : Fin 1024) (j : Fin 6144) : V m c main_v3 (ix2 k j) = m ((c : Thread nD τ).loc main_arg2) (ix2 k j) := by
  unfold V
  after_reads_at

theorem host3_apply (j : Fin 6144) : V m c main_v1 (ix2 (0 : Fin 1) j) = m ((c : Thread nD τ).loc main_arg3) (ix1 j) := by
  unfold V
  after_reads_at

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![0, 0] :=
  (by decide +kernel : ∀ t : Fin grid0.N, win0_1.index t = ![0, 0])
theorem index_2 : ∀ t : Fin cfg0.N, win0_2.index t = ![0, t.val % 4] :=
  (by decide +kernel : ∀ t : Fin grid0.N, win0_2.index t = ![0, t.val % 4])
theorem index_3 : ∀ t : Fin cfg0.N, win0_3.index t = ![0, t.val % 4 + 4] :=
  (by decide +kernel : ∀ t : Fin grid0.N, win0_3.index t = ![0, t.val % 4 + 4])
theorem index_4 : ∀ t : Fin cfg0.N, win0_4.index t = ![0, t.val % 4 + 8] :=
  (by decide +kernel : ∀ t : Fin grid0.N, win0_4.index t = ![0, t.val % 4 + 8])
theorem index_5 : ∀ t : Fin cfg0.N, win0_5.index t = ![0, t.val % 4] :=
  (by decide +kernel : ∀ t : Fin grid0.N, win0_5.index t = ![0, t.val % 4])
theorem index_6 : ∀ t : Fin cfg0.N, win0_6.index t = ![0, t.val % 4 + 4] :=
  (by decide +kernel : ∀ t : Fin grid0.N, win0_6.index t = ![0, t.val % 4 + 4])
theorem index_7 : ∀ t : Fin cfg0.N, win0_7.index t = ![0, t.val % 4 + 8] :=
  (by decide +kernel : ∀ t : Fin grid0.N, win0_7.index t = ![0, t.val % 4 + 8])
theorem index_8 : ∀ t : Fin cfg0.N, win0_8.index t = ![t.val / 4, t.val % 4] :=
  (by decide +kernel : ∀ t : Fin grid0.N, win0_8.index t = ![t.val / 4, t.val % 4])
theorem index_9 : ∀ t : Fin cfg0.N, win0_9.index t = ![t.val / 4, t.val % 4] :=
  (by decide +kernel : ∀ t : Fin grid0.N, win0_9.index t = ![t.val / 4, t.val % 4])

variable (t : Fin cfg0.N)

theorem lt256 : t.val < 256 := Nat.lt_of_lt_of_eq t.isLt (by decide +kernel : cfg0.N = 256)

/-- Row `r` of point `t`'s block. -/
abbrev row512 (r : Fin 512) : Fin 32768 := ⟨512 * (t.val / 4) + r.val, by
  have h := lt256 t
  have := r.isLt; omega⟩

/-- Column `q` of point `t`'s block. -/
abbrev col512 (q : Fin 512) : Fin 2048 := ⟨512 * (t.val % 4) + q.val, by have := q.isLt; omega⟩

theorem x0_apply (r : Fin 512) (k : Fin 1024) : iblk m c 0 t (ix2 r k)
    = Cert.GluProj.inp (m ((c : Thread nD τ).loc main_arg0)) (row512 t r) k := by
  rw [← host0_apply m c]
  blk_simp [iblk]
  congr 1
  blk_ext [index_0]

theorem x1_apply (k : Fin 1024) : iblk m c 1 t (ix2 (0 : Fin 1) k) = m ((c : Thread nD τ).loc main_arg1) (ix1 k) := by
  rw [← host1_apply m c]
  blk_simp [iblk]
  congr 1
  blk_ext [index_1]

theorem x2_apply (k : Fin 1024) (q : Fin 512) : iblk m c 2 t (ix2 k q)
    = m ((c : Thread nD τ).loc main_arg2) (ix2 k ⟨(col512 t q).val, by omega⟩) := by
  rw [← host2_apply m c]
  blk_simp [iblk]
  congr 1
  blk_ext [index_2]

theorem x5_apply (q : Fin 512) : iblk m c 5 t (ix2 (0 : Fin 1) q)
    = m ((c : Thread nD τ).loc main_arg3) (ix1 ⟨(col512 t q).val, by omega⟩) := by
  rw [← host3_apply m c]
  blk_simp [iblk]
  congr 1
  blk_ext [index_5]

theorem x3_apply (k : Fin 1024) (q : Fin 512) : iblk m c 3 t (ix2 k q)
    = m ((c : Thread nD τ).loc main_arg2) (ix2 k ⟨2048 + (col512 t q).val, by omega⟩) := by
  rw [← host2_apply m c]
  blk_simp [iblk]
  congr 1
  blk_ext [index_3]

theorem x6_apply (q : Fin 512) : iblk m c 6 t (ix2 (0 : Fin 1) q)
    = m ((c : Thread nD τ).loc main_arg3) (ix1 ⟨2048 + (col512 t q).val, by omega⟩) := by
  rw [← host3_apply m c]
  blk_simp [iblk]
  congr 1
  blk_ext [index_6]

theorem x4_apply (k : Fin 1024) (q : Fin 512) : iblk m c 4 t (ix2 k q)
    = m ((c : Thread nD τ).loc main_arg2) (ix2 k ⟨4096 + (col512 t q).val, by omega⟩) := by
  rw [← host2_apply m c]
  blk_simp [iblk]
  congr 1
  blk_ext [index_4]

theorem x7_apply (q : Fin 512) : iblk m c 7 t (ix2 (0 : Fin 1) q)
    = m ((c : Thread nD τ).loc main_arg3) (ix1 ⟨4096 + (col512 t q).val, by omega⟩) := by
  rw [← host3_apply m c]
  blk_simp [iblk]
  congr 1
  blk_ext [index_7]

theorem kept_pay_apply (r : Fin 512) (k : Fin 1024) : k0_pay2 (iblk m c 0 t) (iblk m c 1 t) (ix2 r k)
    = Cert.GluProj.row (m ((c : Thread nD τ).loc main_arg0)) (m ((c : Thread nD τ).loc main_arg1)) (row512 t r) k := by
  unfold k0_pay2 Cert.GluProj.row
  pointwise []
  simp only [x0_apply, x1_apply]

theorem kept_first (h : t.val % 4 = 0) : (outsAt0 m c t.val t.isLt).2.2 = k0_pay2 (iblk m c 0 t) (iblk m c 1 t) := by
  rw [outsAt0_A m c t h]
  frame_out

theorem kept_later (h : ¬t.val % 4 = 0) : (outsAt0 m c t.val t.isLt).2.2
    = (outsAt0 m c (t.val - 1) (Nat.lt_of_le_of_lt (Nat.sub_le _ _) t.isLt)).2.2 := by
  rw [outsAt0_B m c t h]
  rfl

theorem out_first (t : Fin cfg0.N) : (outsAt0 m c t.val t.isLt).1 = k0_pay4 (outsAt0 m c t.val t.isLt).2.2 (iblk m c 2 t) (iblk m c 3 t) (iblk m c 5 t) (iblk m c 6 t) := by
  by_cases h : t.val % 4 = 0
  · rw [kept_first m c t h, outsAt0_A m c t h]
    frame_out
  · rw [kept_later m c t h, outsAt0_B m c t h]
    frame_out
    rw [read_unread_whole]

theorem out_second (t : Fin cfg0.N) : (outsAt0 m c t.val t.isLt).2.1 = k0_pay1 (k0_pay3 (outsAt0 m c t.val t.isLt).2.2 (iblk m c 4 t) (iblk m c 7 t)) k0_pay5 := by
  by_cases h : t.val % 4 = 0
  · rw [kept_first m c t h, outsAt0_A m c t h]
    frame_out
  · rw [kept_later m c t h, outsAt0_B m c t h]
    frame_out
    rw [read_unread_whole]

/-- The kept rows after a point are the normalised rows of its block. -/
theorem kept_apply : ∀ (n : Nat) (hn : n < cfg0.N) (r : Fin 512) (k : Fin 1024), (outsAt0 m c n hn).2.2 (ix2 r k)
    = Cert.GluProj.row (m ((c : Thread nD τ).loc main_arg0)) (m ((c : Thread nD τ).loc main_arg1)) (row512 ⟨n, hn⟩ r) k := by
  intro n
  induction n with
  | zero => intro hn r k; rw [kept_first m c ⟨0, hn⟩ rfl, kept_pay_apply]
  | succ n ih =>
    intro hn r k
    by_cases h : (n + 1) % 4 = 0
    · rw [kept_first m c ⟨n + 1, hn⟩ h, kept_pay_apply]
    · rw [kept_later m c ⟨n + 1, hn⟩ h]
      refine (ih (by omega) r k).trans ?_
      congr 1
      exact Fin.ext (show 512 * (n / 4) + r.val = 512 * ((n + 1) / 4) + r.val by omega)

theorem u_apply (r q : Fin 512) : (outsAt0 m c t.val t.isLt).1 (ix2 r q)
    = Cert.GluProj.u (m ((c : Thread nD τ).loc main_arg0)) (m ((c : Thread nD τ).loc main_arg1)) (m ((c : Thread nD τ).loc main_arg2)) (m ((c : Thread nD τ).loc main_arg3)) (row512 t r) (col512 t q) := by
  rw [out_first]
  unfold k0_pay4 Cert.GluProj.u Cert.GluProj.prod
  pointwise []
  simp only [kept_apply, x2_apply, x3_apply, x5_apply, x6_apply]

theorem z_apply (r q : Fin 512) : (outsAt0 m c t.val t.isLt).2.1 (ix2 r q)
    = Cert.GluProj.z (m ((c : Thread nD τ).loc main_arg0)) (m ((c : Thread nD τ).loc main_arg1)) (m ((c : Thread nD τ).loc main_arg2)) (m ((c : Thread nD τ).loc main_arg3)) (row512 t r) (col512 t q) := by
  rw [out_second]
  unfold k0_pay1 k0_pay3 k0_pay5 Cert.GluProj.z Cert.GluProj.prod
  pointwise []
  simp only [kept_apply, x4_apply, x7_apply]

theorem arr_u : (dats m 0 c).arrAt 8 cfg0.N = fun y => Cert.GluProj.u (m ((c : Thread nD τ).loc main_arg0)) (m ((c : Thread nD τ).loc main_arg1)) (m ((c : Thread nD τ).loc main_arg2)) (m ((c : Thread nD τ).loc main_arg3)) (y 0) (y 1) := by
  refine Dat.arrAt_eq_of_covers (dats m 0 c) 8 _ (by decide +kernel) fun t hf y => ?_
  blk_simp
  rw [after0_8]
  obtain ⟨r, q, rfl⟩ : ∃ (r : Fin 512) (q : Fin 512), y = ix2 r q := ⟨y 0, y 1, by funext d; fin_cases d <;> rfl⟩
  have hy : (win0_8.blk t).view.emb (ix2 r q) = ix2 (row512 t r) (col512 t q) := by blk_ext [index_8]
  rw [hy]
  exact u_apply m c t r q

theorem arr_z : (dats m 0 c).arrAt 9 cfg0.N = fun y => Cert.GluProj.z (m ((c : Thread nD τ).loc main_arg0)) (m ((c : Thread nD τ).loc main_arg1)) (m ((c : Thread nD τ).loc main_arg2)) (m ((c : Thread nD τ).loc main_arg3)) (y 0) (y 1) := by
  refine Dat.arrAt_eq_of_covers (dats m 0 c) 9 _ (by decide +kernel) fun t hf y => ?_
  blk_simp
  rw [after0_9]
  obtain ⟨r, q, rfl⟩ : ∃ (r : Fin 512) (q : Fin 512), y = ix2 r q := ⟨y 0, y 1, by funext d; fin_cases d <;> rfl⟩
  have hy : (win0_9.blk t).view.emb (ix2 r q) = ix2 (row512 t r) (col512 t q) := by blk_ext [index_9]
  rw [hy]
  exact z_apply m c t r q

/-- The first result. -/
def val_u : FVec Ideal ⟨3, ![16, 2048, 2048]⟩ .f32 := fun y => Cert.GluProj.u (m ((c : Thread nD τ).loc main_arg0)) (m ((c : Thread nD τ).loc main_arg1)) (m ((c : Thread nD τ).loc main_arg2)) (m ((c : Thread nD τ).loc main_arg3)) (Cert.GluProj.pos (y 0) (y 1)) (y 2)

theorem res_u : afterTail₀ cfgs (dats m) 0 (V0 m) [hostOps1] c main_v5 = val_u m c := by
  have hW := Dat.withArrays_arrAt (dats m 0 c) launch₀0.sharedIn (V0 m c) (A_eq m c) 8
  rw [arr_u] at hW
  unfold afterTail₀
  generalize withArrays (cfgs 0).spec c (V0 m c) (fun w => (dats m 0 c).arrAt w (cfgs 0).N) = W at hW ⊢
  replace hW : W (Proc.devRef .tc main_v4_0) = _ := hW
  funext y
  obtain ⟨i, j, q, rfl⟩ : ∃ (i : Fin 16) (j : Fin 2048) (q : Fin 2048), y = ix3 i j q := ⟨y 0, y 1, y 2, by funext d; fin_cases d <;> rfl⟩
  show StableHlo.after hostOps1 W (Proc.devRef .tc main_v5) (ix3 i j q) = _
  after_reads_at
  rw [hW]
  rfl

/-- The second result. -/
def val_z : FVec Ideal ⟨3, ![16, 2048, 2048]⟩ .bf16 := fun y => Cert.GluProj.z (m ((c : Thread nD τ).loc main_arg0)) (m ((c : Thread nD τ).loc main_arg1)) (m ((c : Thread nD τ).loc main_arg2)) (m ((c : Thread nD τ).loc main_arg3)) (Cert.GluProj.pos (y 0) (y 1)) (y 2)

theorem res_z : afterTail₀ cfgs (dats m) 0 (V0 m) [hostOps1] c main_v6 = val_z m c := by
  have hW := Dat.withArrays_arrAt (dats m 0 c) launch₀0.sharedIn (V0 m c) (A_eq m c) 9
  rw [arr_z] at hW
  unfold afterTail₀
  generalize withArrays (cfgs 0).spec c (V0 m c) (fun w => (dats m 0 c).arrAt w (cfgs 0).N) = W at hW ⊢
  replace hW : W (Proc.devRef .tc main_v4_1) = _ := hW
  funext y
  obtain ⟨i, j, q, rfl⟩ : ∃ (i : Fin 16) (j : Fin 2048) (q : Fin 2048), y = ix3 i j q := ⟨y 0, y 1, y 2, by funext d; fin_cases d <;> rfl⟩
  show StableHlo.after hostOps1 W (Proc.devRef .tc main_v6) (ix3 i j q) = _
  after_reads_at
  rw [hW]
  rfl

/-- The third result: the first at the last thirty positions. -/
def val_last : FVec Ideal ⟨3, ![16, 30, 2048]⟩ .f32 := fun y => Cert.GluProj.u (m ((c : Thread nD τ).loc main_arg0)) (m ((c : Thread nD τ).loc main_arg1)) (m ((c : Thread nD τ).loc main_arg2)) (m ((c : Thread nD τ).loc main_arg3)) (Cert.GluProj.pos (y 0) ⟨2018 + (y 1).val, by have := (y 1).isLt; dsimp at this; omega⟩) (y 2)

theorem res_last : afterTail₀ cfgs (dats m) 0 (V0 m) [hostOps1] c main_v7 = val_last m c := by
  have hW := Dat.withArrays_arrAt (dats m 0 c) launch₀0.sharedIn (V0 m c) (A_eq m c) 8
  rw [arr_u] at hW
  unfold afterTail₀
  generalize withArrays (cfgs 0).spec c (V0 m c) (fun w => (dats m 0 c).arrAt w (cfgs 0).N) = W at hW ⊢
  replace hW : W (Proc.devRef .tc main_v4_0) = _ := hW
  funext y
  obtain ⟨i, j, q, rfl⟩ : ∃ (i : Fin 16) (j : Fin 30) (q : Fin 2048), y = ix3 i j q := ⟨y 0, y 1, y 2, by funext d; fin_cases d <;> rfl⟩
  show StableHlo.after hostOps1 W (Proc.devRef .tc main_v7) (ix3 i j q) = _
  after_reads_at
  rw [hW]
  rfl

/-- The run: the three results and the arguments. -/
theorem run (g : Dev nD → PrngReg) : θ_run defs (onTc (τ := τ) (main (F := Ideal))) ⟨m, fun _ => 0, g⟩ (fun r => ∀ c : Dev nD,
    r.2.mem ((c.tc : Thread nD τ).loc main_v5) = val_u m c ∧ r.2.mem ((c.tc : Thread nD τ).loc main_v6) = val_z m c
      ∧ r.2.mem ((c.tc : Thread nD τ).loc main_v7) = val_last m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v5 (mem_restRefs_of main_v5 (by decide) (by decide))).trans (res_u m c),
     ((h.1 c).2 main_v6 (mem_restRefs_of main_v6 (by decide) (by decide))).trans (res_z m c),
     ((h.1 c).2 main_v7 (mem_restRefs_of main_v7 (by decide) (by decide))).trans (res_last m c), h.2 c⟩)
    (θ_run_and (run_main m g) (unchanged m g))

end Cert.Kernel2Ideal.Out

namespace Cert.Proof

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Kernel and reference compute the same input projection. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨_, _, _, Cert.Kernel2Ideal.Out.run m g, ?_⟩
  refine (θ_run Cert.Reference2Ideal.defs _ _).mono (fun _ h c => ⟨(h c).1.trans ?_, (h c).2.1.trans ?_, (h c).2.2.1.trans ?_, (h c).2.2.2⟩)
    (Cert.Reference2Ideal.Value.run (F := Ideal) m' g')
  all_goals
    obtain ⟨h0, h1, h2, h3⟩ := hagree c
    rw [h0, h1, h2, h3]
  · funext y
    obtain ⟨i, j, q, rfl⟩ : ∃ (i : Fin 16) (j : Fin 2048) (q : Fin 2048), y = ix3 i j q := ⟨y 0, y 1, y 2, by funext d; fin_cases d <;> rfl⟩
    unfold Cert.Kernel2Ideal.Out.val_u Cert.GluProj.u Cert.GluProj.prod Cert.GluProj.row
    dsimp only [ix3]
    simp only [Cert.GluProj.inp_pos]
    pointwise [zero_sub]
  · funext y
    obtain ⟨i, j, q, rfl⟩ : ∃ (i : Fin 16) (j : Fin 2048) (q : Fin 2048), y = ix3 i j q := ⟨y 0, y 1, y 2, by funext d; fin_cases d <;> rfl⟩
    unfold Cert.Kernel2Ideal.Out.val_z Cert.GluProj.z Cert.GluProj.prod Cert.GluProj.row
    dsimp only [ix3]
    simp only [Cert.GluProj.inp_pos]
    pointwise [zero_sub]
  · funext y
    obtain ⟨i, j, q, rfl⟩ : ∃ (i : Fin 16) (j : Fin 30) (q : Fin 2048), y = ix3 i j q := ⟨y 0, y 1, y 2, by funext d; fin_cases d <;> rfl⟩
    unfold Cert.Kernel2Ideal.Out.val_last Cert.GluProj.u Cert.GluProj.prod Cert.GluProj.row
    dsimp only [ix3]
    simp only [Cert.GluProj.inp_pos]
    pointwise [zero_sub]

end Cert.Proof

end
-- ==== Proof.OutProj.lean ====
/-
  The output projection: each row of the gated branch is multiplied by the weights, normalised, scaled and added to the
  row of the residual stream. Each grid point does this for 512 rows.
-/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.StableHlo.ReadAt
public import Idealize.ShloMosaic.Lib.Quiescent
public import Idealize.ShloMosaic.Lib.Claim

@[expose] public section

noncomputable section

open Idealize.ShloMosaic Idealize.ShloMosaic.TcCoe Idealize.ShloMosaic.Pipeline Idealize.ShloMosaic.StableHlo Idealize.SL.Sem
open Idealize.ShloMosaic (ix1 ix2 ix3 ix4)

namespace Cert.OutProj

/-- The result, at a row and a column. -/
def res (g : FVec Ideal ⟨2, ![32768, 2048]⟩ .bf16) (w : FVec Ideal ⟨2, ![2048, 1024]⟩ .f32) (n : FVec Ideal ⟨1, ![1024]⟩ .f32)
    (x : FVec Ideal ⟨2, ![32768, 1024]⟩ .f32) (r : Fin 32768) (q : Fin 1024) : EReal :=
  x (ix2 r q) + (∑ k, g (ix2 r k) * w (ix2 k q))
    * Ideal.rsqrt (Ideal.div (∑ j : Fin 1024, (∑ k : Fin 2048, g (ix2 r k) * w (ix2 k j)) * ∑ k, g (ix2 r k) * w (ix2 k j)) (Ideal.ofBits .f32 0x44800000#32)
      + Ideal.ofBits .f32 0x358637BD#32) * n (ix1 q)

end Cert.OutProj

namespace Cert.Kernel3Ideal.Out

open Cert.Kernel3Ideal.Gen

variable (m : (ℓ : Loc nD τ sig) → Buf (Elt Ideal) ℓ) (c : Dev nD)

theorem w_apply (k : Fin 2048) (q : Fin 1024) : V m c main_v0 (ix2 k q) = m ((c : Thread nD τ).loc main_arg1) (ix2 k q) := by
  unfold V
  after_reads_at

theorem n_apply (q : Fin 1024) : V m c main_v1 (ix2 (0 : Fin 1) q) = m ((c : Thread nD τ).loc main_arg2) (ix1 q) := by
  unfold V
  after_reads_at

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![t.val, 0] :=
  (by decide +kernel : ∀ t : Fin grid0.N, win0_3.index t = ![t.val, 0])
theorem index_4 : ∀ t : Fin cfg0.N, win0_4.index t = ![t.val, 0] :=
  (by decide +kernel : ∀ t : Fin grid0.N, win0_4.index t = ![t.val, 0])

variable (t : Fin cfg0.N) (r : Fin 512)

/-- Row `r` of point `t`'s block. -/
abbrev at512 : Fin 32768 := ⟨512 * t.val + r.val, by
  have h : t.val < 64 := Nat.lt_of_lt_of_eq t.isLt (by decide +kernel : cfg0.N = 64)
  have := r.isLt; omega⟩

theorem x0_apply (k : Fin 2048) : iblk m c 0 t (ix2 r k) = m ((c : Thread nD τ).loc main_arg0) (ix2 (at512 t r) k) := by
  rw [← V_main_arg0 m c]
  blk_simp [iblk]
  congr 1
  blk_ext [index_0]

theorem x1_apply (k : Fin 2048) (q : Fin 1024) : iblk m c 1 t (ix2 k q) = m ((c : Thread nD τ).loc main_arg1) (ix2 k q) := by
  rw [← w_apply m c]
  blk_simp [iblk]
  congr 1
  blk_ext [index_1]

theorem x2_apply (q : Fin 1024) : iblk m c 2 t (ix2 (0 : Fin 1) q) = m ((c : Thread nD τ).loc main_arg2) (ix1 q) := by
  rw [← n_apply m c]
  blk_simp [iblk]
  congr 1
  blk_ext [index_2]

theorem x3_apply (q : Fin 1024) : iblk m c 3 t (ix2 r q) = m ((c : Thread nD τ).loc main_arg3) (ix2 (at512 t r) q) := by
  rw [← V_main_arg3 m c]
  blk_simp [iblk]
  congr 1
  blk_ext [index_3]

/-- A point's result is its rows of the whole. -/
theorem out_apply (q : Fin 1024) : out0_4 (iblk m c 0 t) (iblk m c 1 t) (iblk m c 2 t) (iblk m c 3 t) (ix2 r q)
    = Cert.OutProj.res (m ((c : Thread nD τ).loc main_arg0)) (m ((c : Thread nD τ).loc main_arg1)) (m ((c : Thread nD τ).loc main_arg2))
        (m ((c : Thread nD τ).loc main_arg3)) (at512 t r) q := by
  have e : out0_4 (iblk m c 0 t) (iblk m c 1 t) (iblk m c 2 t) (iblk m c 3 t) = k0_pay1 (iblk m c 0 t) (iblk m c 1 t) (iblk m c 3 t) (iblk m c 2 t) := by
    unfold out0_4
    rw [View.canon_unit_zero (by decide), View.ld_unit_zero (by decide), View.ld_unit_zero (by decide), View.ld_unit_zero (by decide), View.ld_unit_zero (by decide)]
  rw [e]
  unfold k0_pay1 Cert.OutProj.res
  pointwise []
  simp only [x0_apply, x1_apply, x2_apply, x3_apply]

/-- The final array. -/
theorem arr_out : (dats m 0 c).arrAt 4 cfg0.N
    = fun y => Cert.OutProj.res (m ((c : Thread nD τ).loc main_arg0)) (m ((c : Thread nD τ).loc main_arg1)) (m ((c : Thread nD τ).loc main_arg2))
        (m ((c : Thread nD τ).loc main_arg3)) (y 0) (y 1) := by
  refine Dat.arrAt_eq_of_covers (dats m 0 c) 4 _ (by decide +kernel) fun t hf y => ?_
  blk_simp
  rw [after0_4]
  obtain ⟨r, q, rfl⟩ : ∃ (r : Fin 512) (q : Fin 1024), y = ix2 r q := ⟨y 0, y 1, by funext d; fin_cases d <;> rfl⟩
  have hy : (win0_4.blk t).view.emb (ix2 r q) = ix2 (at512 t r) q := by blk_ext [index_4]
  rw [hy]
  exact out_apply m c t r q

end Cert.Kernel3Ideal.Out

namespace Cert.Proof

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference compute the same output projection. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨_, Cert.Kernel3Ideal.Value.run_blocks m g, ?_⟩
  refine (θ_run Cert.Reference3Ideal.defs _ _).mono (fun _ h c => ⟨(h c).1.trans ?_, (h c).2⟩)
    (Cert.Reference3Ideal.Value.run (F := Ideal) m' g')
  rw [Cert.Kernel3Ideal.Out.arr_out, (hagree c).1, (hagree c).2.1, (hagree c).2.2.1, (hagree c).2.2.2]
  funext y
  obtain ⟨r, q, rfl⟩ : ∃ (r : Fin 32768) (q : Fin 1024), y = ix2 r q := ⟨y 0, y 1, by funext d; fin_cases d <;> rfl⟩
  unfold Cert.OutProj.res
  pointwise []

end Cert.Proof

end
-- ==== Proof.InProj.lean ====
/-
  The input projection of a state-space layer: each row is normalised and scaled once, at the first of the four grid points
  that share it, and kept for the other three. Each point multiplies the kept 512 rows by 512 columns of each half of the
  weights; the second half's product passes through the sigmoid-weighted unit.
-/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Quiescent
public import Idealize.ShloMosaic.Lib.Claim

@[expose] public section

noncomputable section

open Idealize.ShloMosaic Idealize.ShloMosaic.TcCoe Idealize.ShloMosaic.Pipeline Idealize.ShloMosaic.StableHlo Idealize.SL.Sem
open Idealize.ShloMosaic (ix1 ix2 ix3 ix4)

namespace Cert.InProj

variable (x : FVec Ideal ⟨2, ![32768, 1024]⟩ .f32) (n : FVec Ideal ⟨1, ![1024]⟩ .f32) (w : FVec Ideal ⟨2, ![1024, 4096]⟩ .f32)

/-- The normalised and scaled row. -/
def row (r : Fin 32768) (k : Fin 1024) : EReal :=
  x (ix2 r k) * Ideal.rsqrt (Ideal.div (∑ j : Fin 1024, x (ix2 r j) * x (ix2 r j)) (Ideal.ofBits .f32 0x44800000#32)
      + Ideal.ofBits .f32 0x358637BD#32) * n (ix1 k)

/-- Its product with a column of the weights. -/
def prod (r : Fin 32768) (j : Fin 4096) : EReal := ∑ k : Fin 1024, row x n r k * w (ix2 k j)

/-- The first result. -/
def u (r : Fin 32768) (q : Fin 2048) : EReal := prod x n w r ⟨q.val, by omega⟩

/-- The second result. -/
def z (r : Fin 32768) (q : Fin 2048) : EReal :=
  prod x n w r ⟨2048 + q.val, by omega⟩ * Ideal.div 1 (1 + Ideal.exp (0 - prod x n w r ⟨2048 + q.val, by omega⟩))

end Cert.InProj

namespace Cert.Kernel4Ideal.Out

open Cert.Kernel4Ideal.Gen

variable (m : (ℓ : Loc nD τ sig) → Buf (Elt Ideal) ℓ) (c : Dev nD)

theorem host1_apply (k : Fin 1024) : V m c main_v0 (ix2 (0 : Fin 1) k) = m ((c : Thread nD τ).loc main_arg1) (ix1 k) := by
  unfold V
  after_reads_at

theorem host2_apply (k : Fin 1024) (j : Fin 4096) : V m c main_v1 (ix2 k j) = m ((c : Thread nD τ).loc main_arg2) (ix2 k j) := by
  unfold V
  after_reads_at

theorem index_0 : ∀ t : Fin cfg0.N, win0_0.index t = ![t.val / 4, 0] :=
  (by decide +kernel : ∀ t : Fin grid0.N, win0_0.index t = ![t.val / 4, 0])
theorem index_1 : ∀ t : Fin cfg0.N, win0_1.index t = ![0, 0] :=
  (by decide +kernel : ∀ t : Fin grid0.N, win0_1.index t = ![0, 0])
theorem index_2 : ∀ t : Fin cfg0.N, win0_2.index t = ![0, t.val % 4] :=
  (by decide +kernel : ∀ t : Fin grid0.N, win0_2.index t = ![0, t.val % 4])
theorem index_3 : ∀ t : Fin cfg0.N, win0_3.index t = ![0, t.val % 4 + 4] :=
  (by decide +kernel : ∀ t : Fin grid0.N, win0_3.index t = ![0, t.val % 4 + 4])
theorem index_4 : ∀ t : Fin cfg0.N, win0_4.index t = ![t.val / 4, t.val % 4] :=
  (by decide +kernel : ∀ t : Fin grid0.N, win0_4.index t = ![t.val / 4, t.val % 4])
theorem index_5 : ∀ t : Fin cfg0.N, win0_5.index t = ![t.val / 4, t.val % 4] :=
  (by decide +kernel : ∀ t : Fin grid0.N, win0_5.index t = ![t.val / 4, t.val % 4])

variable (t : Fin cfg0.N)

theorem lt256 : t.val < 256 := Nat.lt_of_lt_of_eq t.isLt (by decide +kernel : cfg0.N = 256)

/-- Row `r` of point `t`'s block. -/
abbrev row512 (r : Fin 512) : Fin 32768 := ⟨512 * (t.val / 4) + r.val, by
  have h := lt256 t
  have := r.isLt; omega⟩

/-- Column `q` of point `t`'s block. -/
abbrev col512 (q : Fin 512) : Fin 2048 := ⟨512 * (t.val % 4) + q.val, by have := q.isLt; omega⟩

theorem x0_apply (r : Fin 512) (k : Fin 1024) : iblk m c 0 t (ix2 r k) = m ((c : Thread nD τ).loc main_arg0) (ix2 (row512 t r) k) := by
  rw [← V_main_arg0 m c]
  blk_simp [iblk]
  congr 1
  blk_ext [index_0]

theorem x1_apply (k : Fin 1024) : iblk m c 1 t (ix2 (0 : Fin 1) k) = m ((c : Thread nD τ).loc main_arg1) (ix1 k) := by
  rw [← host1_apply m c]
  blk_simp [iblk]
  congr 1
  blk_ext [index_1]

theorem x2_apply (k : Fin 1024) (q : Fin 512) : iblk m c 2 t (ix2 k q)
    = m ((c : Thread nD τ).loc main_arg2) (ix2 k ⟨(col512 t q).val, by omega⟩) := by
  rw [← host2_apply m c]
  blk_simp [iblk]
  congr 1
  blk_ext [index_2]

theorem x3_apply (k : Fin 1024) (q : Fin 512) : iblk m c 3 t (ix2 k q)
    = m ((c : Thread nD τ).loc main_arg2) (ix2 k ⟨2048 + (col512 t q).val, by omega⟩) := by
  rw [← host2_apply m c]
  blk_simp [iblk]
  congr 1
  blk_ext [index_3]

theorem pay1_apply (r : Fin 512) (k : Fin 1024) : k0_pay1 (iblk m c 0 t) (iblk m c 1 t) (ix2 r k)
    = Cert.InProj.row (m ((c : Thread nD τ).loc main_arg0)) (m ((c : Thread nD τ).loc main_arg1)) (row512 t r) k := by
  unfold k0_pay1 Cert.InProj.row
  pointwise []
  simp only [x0_apply, x1_apply]

theorem kept_first (h : t.val % 4 = 0) : (outsAt0 m c t.val t.isLt).2.2 = k0_pay1 (iblk m c 0 t) (iblk m c 1 t) := by
  rw [outsAt0_A m c t h]
  frame_out

theorem kept_later (h : ¬t.val % 4 = 0) : (outsAt0 m c t.val t.isLt).2.2
    = (outsAt0 m c (t.val - 1) (Nat.lt_of_le_of_lt (Nat.sub_le _ _) t.isLt)).2.2 := by
  rw [outsAt0_B m c t h]
  rfl

theorem out_first (t : Fin cfg0.N) : (outsAt0 m c t.val t.isLt).1 = k0_pay2 (outsAt0 m c t.val t.isLt).2.2 (iblk m c 2 t) := by
  by_cases h : t.val % 4 = 0
  · rw [kept_first m c t h, outsAt0_A m c t h]
    frame_out
  · rw [kept_later m c t h, outsAt0_B m c t h]
    frame_out
    rw [read_unread_whole]

theorem out_second (t : Fin cfg0.N) : (outsAt0 m c t.val t.isLt).2.1 = k0_pay3 (outsAt0 m c t.val t.isLt).2.2 (iblk m c 3 t) := by
  by_cases h : t.val % 4 = 0
  · rw [kept_first m c t h, outsAt0_A m c t h]
    frame_out
  · rw [kept_later m c t h, outsAt0_B m c t h]
    frame_out
    rw [read_unread_whole]

/-- The kept rows after a point are the normalised rows of its block. -/
theorem kept_apply : ∀ (n : Nat) (hn : n < cfg0.N) (r : Fin 512) (k : Fin 1024), (outsAt0 m c n hn).2.2 (ix2 r k)
    = Cert.InProj.row (m ((c : Thread nD τ).loc main_arg0)) (m ((c : Thread nD τ).loc main_arg1)) (row512 ⟨n, hn⟩ r) k := by
  intro n
  induction n with
  | zero => intro hn r k; rw [kept_first m c ⟨0, hn⟩ rfl, pay1_apply]
  | succ n ih =>
    intro hn r k
    by_cases h : (n + 1) % 4 = 0
    · rw [kept_first m c ⟨n + 1, hn⟩ h, pay1_apply]
    · rw [kept_later m c ⟨n + 1, hn⟩ h]
      refine (ih (by omega) r k).trans ?_
      congr 1
      exact Fin.ext (show 512 * (n / 4) + r.val = 512 * ((n + 1) / 4) + r.val by omega)

theorem u_apply (r q : Fin 512) : (outsAt0 m c t.val t.isLt).1 (ix2 r q)
    = Cert.InProj.u (m ((c : Thread nD τ).loc main_arg0)) (m ((c : Thread nD τ).loc main_arg1)) (m ((c : Thread nD τ).loc main_arg2)) (row512 t r) (col512 t q) := by
  rw [out_first]
  unfold k0_pay2 Cert.InProj.u Cert.InProj.prod
  pointwise []
  simp only [kept_apply, x2_apply]

theorem z_apply (r q : Fin 512) : (outsAt0 m c t.val t.isLt).2.1 (ix2 r q)
    = Cert.InProj.z (m ((c : Thread nD τ).loc main_arg0)) (m ((c : Thread nD τ).loc main_arg1)) (m ((c : Thread nD τ).loc main_arg2)) (row512 t r) (col512 t q) := by
  rw [out_second]
  unfold k0_pay3 Cert.InProj.z Cert.InProj.prod
  pointwise []
  simp only [kept_apply, x3_apply]

theorem arr_u : (dats m 0 c).arrAt 4 cfg0.N = fun y => Cert.InProj.u (m ((c : Thread nD τ).loc main_arg0)) (m ((c : Thread nD τ).loc main_arg1)) (m ((c : Thread nD τ).loc main_arg2)) (y 0) (y 1) := by
  refine Dat.arrAt_eq_of_covers (dats m 0 c) 4 _ (by decide +kernel) fun t hf y => ?_
  blk_simp
  rw [after0_4]
  obtain ⟨r, q, rfl⟩ : ∃ (r : Fin 512) (q : Fin 512), y = ix2 r q := ⟨y 0, y 1, by funext d; fin_cases d <;> rfl⟩
  have hy : (win0_4.blk t).view.emb (ix2 r q) = ix2 (row512 t r) (col512 t q) := by blk_ext [index_4]
  rw [hy]
  exact u_apply m c t r q

theorem arr_z : (dats m 0 c).arrAt 5 cfg0.N = fun y => Cert.InProj.z (m ((c : Thread nD τ).loc main_arg0)) (m ((c : Thread nD τ).loc main_arg1)) (m ((c : Thread nD τ).loc main_arg2)) (y 0) (y 1) := by
  refine Dat.arrAt_eq_of_covers (dats m 0 c) 5 _ (by decide +kernel) fun t hf y => ?_
  blk_simp
  rw [after0_5]
  obtain ⟨r, q, rfl⟩ : ∃ (r : Fin 512) (q : Fin 512), y = ix2 r q := ⟨y 0, y 1, by funext d; fin_cases d <;> rfl⟩
  have hy : (win0_5.blk t).view.emb (ix2 r q) = ix2 (row512 t r) (col512 t q) := by blk_ext [index_5]
  rw [hy]
  exact z_apply m c t r q

end Cert.Kernel4Ideal.Out

namespace Cert.Proof

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference compute the same input projection. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨_, _, Cert.Kernel4Ideal.Value.run_blocks m g, ?_⟩
  refine (θ_run Cert.Reference4Ideal.defs _ _).mono (fun _ h c => ⟨(h c).1.trans ?_, (h c).2.1.trans ?_, (h c).2.2⟩)
    (Cert.Reference4Ideal.Value.run (F := Ideal) m' g')
  all_goals
    obtain ⟨h0, h1, h2⟩ := hagree c
    rw [h0, h1, h2]
  · rw [Cert.Kernel4Ideal.Out.arr_u]
    funext y
    obtain ⟨r, q, rfl⟩ : ∃ (r : Fin 32768) (q : Fin 2048), y = ix2 r q := ⟨y 0, y 1, by funext d; fin_cases d <;> rfl⟩
    unfold Cert.InProj.u Cert.InProj.prod Cert.InProj.row
    pointwise [zero_sub]
  · rw [Cert.Kernel4Ideal.Out.arr_z]
    funext y
    obtain ⟨r, q, rfl⟩ : ∃ (r : Fin 32768) (q : Fin 2048), y = ix2 r q := ⟨y 0, y 1, by funext d; fin_cases d <;> rfl⟩
    unfold Cert.InProj.z Cert.InProj.prod Cert.InProj.row
    pointwise [zero_sub]

end Cert.Proof

end
-- ==== Proof.GatedOut.lean ====
/-
  The gated output of a state-space layer: a row is gated by its own product with the square weights, then by the other
  branch, then multiplied by the output weights, normalised, scaled and added to the row of the residual stream. Each
  grid point does this for 256 rows. The rows are ordered by position, then batch; the residual stream and the result by
  batch, then position.
-/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.StableHlo.ReadAt
public import Idealize.ShloMosaic.Lib.Quiescent
public import Idealize.ShloMosaic.Lib.Claim

@[expose] public section

noncomputable section

open Idealize.ShloMosaic Idealize.ShloMosaic.TcCoe Idealize.ShloMosaic.Pipeline Idealize.ShloMosaic.StableHlo Idealize.SL.Sem
open Idealize.ShloMosaic (ix1 ix2 ix3 ix4)

namespace Cert.GatedOut

variable (g sz : FVec Ideal ⟨2, ![32768, 2048]⟩ .bf16) (wg : FVec Ideal ⟨2, ![2048, 2048]⟩ .f32) (bg : FVec Ideal ⟨1, ![2048]⟩ .f32)
  (w : FVec Ideal ⟨2, ![2048, 1024]⟩ .f32) (n : FVec Ideal ⟨1, ![1024]⟩ .f32) (x : FVec Ideal ⟨3, ![16, 2048, 1024]⟩ .f32)

/-- The gated row times the output weights. -/
def prod (r : Fin 32768) (q : Fin 1024) : EReal :=
  ∑ j : Fin 2048, g (ix2 r j) * Ideal.div 1 (1 + Ideal.exp (0 - (∑ k : Fin 2048, g (ix2 r k) * wg (ix2 k j) + bg (ix1 j))))
    * sz (ix2 r j) * w (ix2 j q)

/-- The row of the residual stream: position `r / 16` of batch `r % 16`. -/
def inp (r : Fin 32768) (q : Fin 1024) : EReal :=
  x (ix3 ⟨r.val % 16, by omega⟩ ⟨r.val / 16, by have := r.isLt; omega⟩ q)

/-- The result, at a row and a column. -/
def res (r : Fin 32768) (q : Fin 1024) : EReal :=
  inp x r q + prod g sz wg bg w r q
    * Ideal.rsqrt (Ideal.div (∑ j : Fin 1024, prod g sz wg bg w r j * prod g sz wg bg w r j) (Ideal.ofBits .f32 0x44800000#32)
      + Ideal.ofBits .f32 0x358637BD#32) * n (ix1 q)

/-- Position `j` of batch `i` among the rows. -/
abbrev pos (i : Fin 16) (j : Fin 2048) : Fin 32768 := ⟨j.val * 16 + i.val, by have := i.isLt; have := j.isLt; omega⟩

theorem inp_pos (i : Fin 16) (j : Fin 2048) (q : Fin 1024) : inp x (pos i j) q = x (ix3 i j q) := by
  unfold inp
  congr 2
  · exact Fin.ext (show (j.val * 16 + i.val) % 16 = i.val by omega)
  · exact Fin.ext (show (j.val * 16 + i.val) / 16 = j.val by omega)

end Cert.GatedOut

namespace Cert.Kernel5Ideal.Out

open Cert.Kernel5Ideal.Gen

variable (m : (ℓ : Loc nD τ sig) → Buf (Elt Ideal) ℓ) (c : Dev nD)

theorem host2_apply (k j : Fin 2048) : V m c main_v2 (ix2 k j) = m ((c : Thread nD τ).loc main_arg2) (ix2 k j) := by
  unfold V
  after_reads_at

theorem host3_apply (j : Fin 2048) : V m c main_v3 (ix2 (0 : Fin 1) j) = m ((c : Thread nD τ).loc main_arg3) (ix1 j) := by
  unfold V
  after_reads_at

theorem host4_apply (k : Fin 2048) (q : Fin 1024) : V m c main_v4 (ix2 k q) = m ((c : Thread nD τ).loc main_arg4) (ix2 k q) := by
  unfold V
  after_reads_at

theorem host5_apply (q : Fin 1024) : V m c main_v5 (ix2 (0 : Fin 1) q) = m ((c : Thread nD τ).loc main_arg5) (ix1 q) := by
  unfold V
  after_reads_at

theorem host6_apply (r : Fin 32768) (q : Fin 1024) : V m c main_v1 (ix2 r q)
    = Cert.GatedOut.inp (m ((c : Thread nD τ).loc main_arg6)) r q := by
  unfold V Cert.GatedOut.inp
  after_reads_at

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![t.val, 0] :=
  (by decide +kernel : ∀ t : Fin grid0.N, win0_6.index t = ![t.val, 0])
theorem index_7 : ∀ t : Fin cfg0.N, win0_7.index t = ![t.val, 0] :=
  (by decide +kernel : ∀ t : Fin grid0.N, win0_7.index t = ![t.val, 0])

/-- Row `r` of point `t`'s block. -/
abbrev row256 (t : Fin cfg0.N) (r : Fin 256) : Fin 32768 := ⟨256 * t.val + r.val, by
  have h : t.val < 128 := Nat.lt_of_lt_of_eq t.isLt (by decide +kernel : cfg0.N = 128)
  have := r.isLt; omega⟩

variable (t : Fin cfg0.N)

theorem x0_apply (r : Fin 256) (k : Fin 2048) : iblk m c 0 t (ix2 r k) = m ((c : Thread nD τ).loc main_arg0) (ix2 (row256 t r) k) := by
  rw [← V_main_arg0 m c]
  blk_simp [iblk]
  congr 1
  blk_ext [index_0]

theorem x1_apply (r : Fin 256) (k : Fin 2048) : iblk m c 1 t (ix2 r k) = m ((c : Thread nD τ).loc main_arg1) (ix2 (row256 t r) k) := by
  rw [← V_main_arg1 m c]
  blk_simp [iblk]
  congr 1
  blk_ext [index_1]

theorem x2_apply (k j : Fin 2048) : iblk m c 2 t (ix2 k j) = m ((c : Thread nD τ).loc main_arg2) (ix2 k j) := by
  rw [← host2_apply m c]
  blk_simp [iblk]
  congr 1
  blk_ext [index_2]

theorem x3_apply (j : Fin 2048) : iblk m c 3 t (ix2 (0 : Fin 1) j) = m ((c : Thread nD τ).loc main_arg3) (ix1 j) := by
  rw [← host3_apply m c]
  blk_simp [iblk]
  congr 1
  blk_ext [index_3]

theorem x4_apply (k : Fin 2048) (q : Fin 1024) : iblk m c 4 t (ix2 k q) = m ((c : Thread nD τ).loc main_arg4) (ix2 k q) := by
  rw [← host4_apply m c]
  blk_simp [iblk]
  congr 1
  blk_ext [index_4]

theorem x5_apply (q : Fin 1024) : iblk m c 5 t (ix2 (0 : Fin 1) q) = m ((c : Thread nD τ).loc main_arg5) (ix1 q) := by
  rw [← host5_apply m c]
  blk_simp [iblk]
  congr 1
  blk_ext [index_5]

theorem x6_apply (r : Fin 256) (q : Fin 1024) : iblk m c 6 t (ix2 r q) = Cert.GatedOut.inp (m ((c : Thread nD τ).loc main_arg6)) (row256 t r) q := by
  rw [← host6_apply m c]
  blk_simp [iblk]
  congr 1
  blk_ext [index_6]

/-- A point's result is its rows of the whole. -/
theorem out_apply (r : Fin 256) (q : Fin 1024) : out0_7 (iblk m c 0 t) (iblk m c 1 t) (iblk m c 2 t) (iblk m c 3 t) (iblk m c 4 t) (iblk m c 5 t) (iblk m c 6 t) (ix2 r q)
    = Cert.GatedOut.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row256 t r) q := by
  have e : out0_7 (iblk m c 0 t) (iblk m c 1 t) (iblk m c 2 t) (iblk m c 3 t) (iblk m c 4 t) (iblk m c 5 t) (iblk m c 6 t)
      = k0_pay1 (k0_pay2 (iblk m c 0 t) (iblk m c 2 t) (iblk m c 3 t) (iblk m c 1 t) (iblk m c 4 t)) (k0_pay3 (iblk m c 6 t)) (k0_pay4 (iblk m c 5 t)) (k0_pay5 (iblk m c 0 t) (iblk m c 2 t) (iblk m c 3 t) (iblk m c 1 t) (iblk m c 4 t)) := by
    unfold out0_7
    rw [View.canon_unit_zero (by decide)]
    simp only [r0_0, r0_1, r0_2, r0_3, r0_4, r0_5]
    rw [View.ld_unit_zero (by decide), View.ld_unit_zero (by decide), View.ld_unit_zero (by decide), View.ld_unit_zero (by decide), View.ld_unit_zero (by decide), View.ld_unit_zero (by decide), View.ld_unit_zero (by decide)]
  rw [e]
  unfold k0_pay1 k0_pay2 k0_pay3 k0_pay4 k0_pay5 k0_pay2 Cert.GatedOut.res Cert.GatedOut.prod
  pointwise []
  simp only [x0_apply, x1_apply, x2_apply, x3_apply, x4_apply, x5_apply, x6_apply]

/-- The final array. -/
theorem arr_out : (dats m 0 c).arrAt 7 cfg0.N
    = fun y => Cert.GatedOut.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine Dat.arrAt_eq_of_covers (dats m 0 c) 7 _ (by decide +kernel) fun t hf y => ?_
  blk_simp
  rw [after0_7]
  obtain ⟨r, q, rfl⟩ : ∃ (r : Fin 256) (q : Fin 1024), y = ix2 r q := ⟨y 0, y 1, by funext d; fin_cases d <;> rfl⟩
  have hy : (win0_7.blk t).view.emb (ix2 r q) = ix2 (row256 t r) q := by blk_ext [index_7]
  rw [hy]
  exact out_apply m c t r q

/-- The result, by batch and position. -/
def val : FVec Ideal ⟨3, ![16, 2048, 1024]⟩ .f32 := fun y => Cert.GatedOut.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Cert.GatedOut.pos (y 0) (y 1)) (y 2)

theorem res_val : afterTail₀ cfgs (dats m) 0 (V0 m) [hostOps1] c main_v8 = val m c := by
  have hW := withArrays_arr (cfgs 0).spec launch0.win.arr_inj c (V0 m c) (fun w => (dats m 0 c).arrAt w (cfgs 0).N) 7
  rw [arr_out] at hW
  unfold afterTail₀
  generalize withArrays (cfgs 0).spec c (V0 m c) (fun w => (dats m 0 c).arrAt w (cfgs 0).N) = W at hW ⊢
  replace hW : W (Proc.devRef .tc main_v6) = _ := hW
  funext y
  obtain ⟨i, j, q, rfl⟩ : ∃ (i : Fin 16) (j : Fin 2048) (q : Fin 1024), y = ix3 i j q := ⟨y 0, y 1, y 2, by funext d; fin_cases d <;> rfl⟩
  show StableHlo.after hostOps1 W (Proc.devRef .tc main_v8) (ix3 i j q) = _
  after_reads_at
  rw [hW]
  rfl

/-- The run: the result and the arguments. -/
theorem run (g : Dev nD → PrngReg) : θ_run defs (onTc (τ := τ) (main (F := Ideal))) ⟨m, fun _ => 0, g⟩ (fun r => ∀ c : Dev nD,
    r.2.mem ((c.tc : Thread nD τ).loc main_v8) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h.1 c).2 main_v8 (mem_restRefs_of main_v8 (by decide) (by decide))).trans (res_val m c), h.2 c⟩)
    (θ_run_and (run_main m g) (unchanged m g))

end Cert.Kernel5Ideal.Out

namespace Cert.Proof

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's order of the rows. -/
theorem swapped_apply (a : FVec Ideal ⟨2, ![32768, 2048]⟩ .bf16) (i : Fin 16) (j k : Fin 2048) :
    transpose Cert.Reference5Ideal.S16x2048x2048 [1, 0, 2]
        (shapeCast Cert.Reference5Ideal.S2048x16x2048 a Cert.Reference5Ideal.Gen.shapeCasts_S32768x2048_S2048x16x2048)
        Cert.Reference5Ideal.Gen.transposes_S2048x16x2048_S16x2048x2048_1_0_2 (ix3 i j k) = a (ix2 (Cert.GatedOut.pos i j) k) := by
  pointwise []

/-- Kernel and reference compute the same gated output. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨_, Cert.Kernel5Ideal.Out.run m g, ?_⟩
  refine (θ_run Cert.Reference5Ideal.defs _ _).mono (fun _ h c => ⟨(h c).1.trans ?_, (h c).2⟩)
    (Cert.Reference5Ideal.Value.run (F := Ideal) m' g')
  obtain ⟨h0, h1, h2, h3, h4, h5, h6⟩ := hagree c
  unfold Cert.Reference5Ideal.Value.res_main_v32
  rw [h0, h1, h2, h3, h4, h5, h6]
  funext y
  obtain ⟨i, j, q, rfl⟩ : ∃ (i : Fin 16) (j : Fin 2048) (q : Fin 1024), y = ix3 i j q := ⟨y 0, y 1, y 2, by funext d; fin_cases d <;> rfl⟩
  unfold Cert.Kernel5Ideal.Out.val Cert.GatedOut.res Cert.GatedOut.prod
  dsimp only [ix3]
  simp only [Cert.GatedOut.inp_pos]
  have hg := swapped_apply (m ((c.tc : Thread Cert.Kernel5Ideal.nD Cert.Kernel5Ideal.τ).loc Cert.Kernel5Ideal.main_arg0))
  have hs := swapped_apply (m ((c.tc : Thread Cert.Kernel5Ideal.nD Cert.Kernel5Ideal.τ).loc Cert.Kernel5Ideal.main_arg1))
  generalize transpose Cert.Reference5Ideal.S16x2048x2048 [1, 0, 2] (shapeCast Cert.Reference5Ideal.S2048x16x2048 (m ((c.tc : Thread Cert.Kernel5Ideal.nD Cert.Kernel5Ideal.τ).loc Cert.Kernel5Ideal.main_arg0)) _) _ = X at hg ⊢
  generalize transpose Cert.Reference5Ideal.S16x2048x2048 [1, 0, 2] (shapeCast Cert.Reference5Ideal.S2048x16x2048 (m ((c.tc : Thread Cert.Kernel5Ideal.nD Cert.Kernel5Ideal.τ).loc Cert.Kernel5Ideal.main_arg1)) _) _ = Y at hs ⊢
  simp only [← hg, ← hs]
  pointwise [zero_sub]

end Cert.Proof

end
-- ==== Proof.LatentIn.lean ====
/-
  The input projection of an attention layer: each row is normalised, scaled and multiplied by the weights. The first two
  groups of columns are normalised and scaled again, the next two are turned by the angle of the row's position, and the
  rest passes through the sigmoid-weighted unit. Each grid point does this for 256 rows. The columns to be turned are
  repeated four times beside each other, and so are the angles; the host keeps one copy of the outcome.
-/
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.StableHlo.ReadAt
public import Idealize.ShloMosaic.Lib.Quiescent
public import Idealize.ShloMosaic.Lib.Claim

@[expose] public section

noncomputable section

open Idealize.ShloMosaic Idealize.ShloMosaic.TcCoe Idealize.ShloMosaic.Pipeline Idealize.ShloMosaic.StableHlo Idealize.SL.Sem
open Idealize.ShloMosaic (ix1 ix2 ix3 ix4)

namespace Cert.LatentIn

variable (x : FVec Ideal ⟨3, ![16, 2048, 1024]⟩ .f32) (n : FVec Ideal ⟨1, ![1024]⟩ .f32) (w : FVec Ideal ⟨2, ![1024, 2752]⟩ .f32)
  (nq : FVec Ideal ⟨1, ![384]⟩ .f32) (nk : FVec Ideal ⟨1, ![256]⟩ .f32) (cs sn : FVec Ideal ⟨2, ![2048, 32]⟩ .f32)

/-- Row `r` of the input: position `r % 2048` of batch `r / 2048`. -/
def inp (r : Fin 32768) (k : Fin 1024) : EReal :=
  x (ix3 ⟨r.val / 2048, by have := r.isLt; omega⟩ ⟨r.val % 2048, by omega⟩ k)

/-- The normalised and scaled row. -/
def row (r : Fin 32768) (k : Fin 1024) : EReal :=
  inp x r k * Ideal.rsqrt (Ideal.div (∑ j : Fin 1024, inp x r j * inp x r j) (Ideal.ofBits .f32 0x44800000#32)
      + Ideal.ofBits .f32 0x358637BD#32) * n (ix1 k)

/-- Its product with a column of the weights. -/
def prod (r : Fin 32768) (j : Fin 2752) : EReal := ∑ k : Fin 1024, row x n r k * w (ix2 k j)

/-- The first result. -/
def cqn (r : Fin 32768) (q : Fin 384) : EReal :=
  prod x n w r ⟨q.val, by omega⟩ * Ideal.rsqrt (Ideal.div (∑ j : Fin 384, prod x n w r ⟨j.val, by omega⟩ * prod x n w r ⟨j.val, by omega⟩)
      (Ideal.ofBits .f32 0x43C00000#32) + Ideal.ofBits .f32 0x358637BD#32) * nq (ix1 q)

/-- The second result. -/
def ckv (r : Fin 32768) (q : Fin 256) : EReal :=
  prod x n w r ⟨384 + q.val, by omega⟩ * Ideal.rsqrt (Ideal.div (∑ j : Fin 256, prod x n w r ⟨384 + j.val, by omega⟩ * prod x n w r ⟨384 + j.val, by omega⟩)
      (Ideal.ofBits .f32 0x43800000#32) + Ideal.ofBits .f32 0x358637BD#32) * nk (ix1 q)

/-- An angle's entry for a row. -/
def ang (a : FVec Ideal ⟨2, ![2048, 32]⟩ .f32) (r : Fin 32768) (q : Fin 32) : EReal := a (ix2 ⟨r.val % 2048, by omega⟩ q)

/-- The first half of the third result. -/
def kr1 (r : Fin 32768) (q : Fin 32) : EReal :=
  prod x n w r ⟨640 + q.val, by omega⟩ * ang cs r q - prod x n w r ⟨672 + q.val, by omega⟩ * ang sn r q

/-- The second half of the third result. -/
def kr2 (r : Fin 32768) (q : Fin 32) : EReal :=
  prod x n w r ⟨640 + q.val, by omega⟩ * ang sn r q + prod x n w r ⟨672 + q.val, by omega⟩ * ang cs r q

/-- Thirty-two values repeated four times. -/
def four (f : Fin 32 → EReal) (q : Fin 128) : EReal := f ⟨q.val % 32, by omega⟩

/-- The fourth result. -/
def sz (r : Fin 32768) (q : Fin 2048) : EReal :=
  prod x n w r ⟨704 + q.val, by omega⟩ * Ideal.div 1 (1 + Ideal.exp (0 - prod x n w r ⟨704 + q.val, by omega⟩))

/-- Position `j` of batch `i` among the rows. -/
abbrev pos (i : Fin 16) (j : Fin 2048) : Fin 32768 := ⟨i.val * 2048 + j.val, by have := i.isLt; have := j.isLt; omega⟩

theorem inp_pos (i : Fin 16) (j : Fin 2048) (k : Fin 1024) : inp x (pos i j) k = x (ix3 i j k) := by
  unfold inp
  congr 2
  · exact Fin.ext (show (i.val * 2048 + j.val) / 2048 = i.val by omega)
  · exact Fin.ext (show (i.val * 2048 + j.val) % 2048 = j.val by omega)

theorem ang_pos (a : FVec Ideal ⟨2, ![2048, 32]⟩ .f32) (i : Fin 16) (j : Fin 2048) (q : Fin 32) : ang a (pos i j) q = a (ix2 j q) := by
  unfold ang
  congr 2
  exact Fin.ext (show (i.val * 2048 + j.val) % 2048 = j.val by omega)

end Cert.LatentIn

namespace Cert.Kernel6Ideal.Out

open Cert.Kernel6Ideal.Gen

variable (m : (ℓ : Loc nD τ sig) → Buf (Elt Ideal) ℓ) (c : Dev nD)

theorem host0_apply (r : Fin 32768) (k : Fin 1024) : V m c main_v13 (ix2 r k)
    = Cert.LatentIn.inp (m ((c : Thread nD τ).loc main_arg0)) r k := by
  unfold V Cert.LatentIn.inp
  after_reads_at

theorem host1_apply (k : Fin 1024) : V m c main_v14 (ix2 (0 : Fin 1) k) = m ((c : Thread nD τ).loc main_arg1) (ix1 k) := by
  unfold V
  after_reads_at

theorem host4_apply (k : Fin 384) : V m c main_v15 (ix2 (0 : Fin 1) k) = m ((c : Thread nD τ).loc main_arg3) (ix1 k) := by
  unfold V
  after_reads_at

theorem host5_apply (k : Fin 256) : V m c main_v16 (ix2 (0 : Fin 1) k) = m ((c : Thread nD τ).loc main_arg4) (ix1 k) := by
  unfold V
  after_reads_at

theorem host3_apply (k : Fin 1024) (q : Fin 2048) : V m c main_v12 (ix2 k q) = m ((c : Thread nD τ).loc main_arg2) (ix2 k ⟨704 + q.val, by omega⟩) := by
  unfold V
  after_reads_at

/-- A column of the prepared weights, the turned columns four times. -/
def wide (k : Fin 1024) (j : Fin 896) : EReal := V m c main_v10 (ix2 k j)

theorem host2_first (k : Fin 1024) (q : Fin 384) : wide m c k ⟨q.val, by omega⟩
    = m ((c : Thread nD τ).loc main_arg2) (ix2 k ⟨q.val, by omega⟩) := by
  unfold wide V
  after_reads_at
  rw [dif_pos (by omega)]
  unfold upto
  after_reads_at

theorem host2_second (k : Fin 1024) (q : Fin 256) : wide m c k ⟨384 + q.val, by omega⟩
    = m ((c : Thread nD τ).loc main_arg2) (ix2 k ⟨384 + q.val, by omega⟩) := by
  unfold wide V
  after_reads_at
  rw [dif_pos (by omega)]
  unfold upto
  after_reads_at

theorem host2_third (k : Fin 1024) (q : Fin 128) : wide m c k ⟨640 + q.val, by omega⟩
    = m ((c : Thread nD τ).loc main_arg2) (ix2 k ⟨640 + q.val % 32, by omega⟩) := by
  unfold wide V
  after_reads_at
  unfold upto
  after_reads_at

theorem host2_fourth (k : Fin 1024) (q : Fin 128) : wide m c k ⟨768 + q.val, by omega⟩
    = m ((c : Thread nD τ).loc main_arg2) (ix2 k ⟨672 + q.val % 32, by omega⟩) := by
  unfold wide V
  after_reads_at
  rw [dif_neg (by omega), dif_neg (by omega)]
  unfold upto
  after_reads_at
  refine congrArg (m ((c : Thread nD τ).loc main_arg2)) (congrArg (ix2 k) (Fin.ext ?_))
  show 672 + (768 + q.val - 640 - 128) % 32 = 672 + q.val % 32
  omega

theorem host6_apply (p : Fin 2048) (q : Fin 128) : V m c main_v19 (ix2 p q)
    = m ((c : Thread nD τ).loc main_arg5) (ix2 p ⟨q.val % 32, by omega⟩) := by
  unfold V
  after_reads_at

theorem host7_apply (p : Fin 2048) (q : Fin 128) : V m c main_v22 (ix2 p q)
    = m ((c : Thread nD τ).loc main_arg6) (ix2 p ⟨q.val % 32, by omega⟩) := by
  unfold V
  after_reads_at

theorem index_0 : ∀ t : Fin cfg0.N, win0_0.index t = ![t.val, 0] :=
  (by decide +kernel : ∀ t : Fin grid0.N, win0_0.index t = ![t.val, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![0, 0] :=
  (by decide +kernel : ∀ t : Fin grid0.N, win0_5.index t = ![0, 0])
theorem index_6 : ∀ t : Fin cfg0.N, win0_6.index t = ![t.val % 8, 0] :=
  (by decide +kernel : ∀ t : Fin grid0.N, win0_6.index t = ![t.val % 8, 0])
theorem index_7 : ∀ t : Fin cfg0.N, win0_7.index t = ![t.val % 8, 0] :=
  (by decide +kernel : ∀ t : Fin grid0.N, win0_7.index t = ![t.val % 8, 0])
theorem index_8 : ∀ t : Fin cfg0.N, win0_8.index t = ![t.val, 0] :=
  (by decide +kernel : ∀ t : Fin grid0.N, win0_8.index t = ![t.val, 0])
theorem index_9 : ∀ t : Fin cfg0.N, win0_9.index t = ![t.val, 0] :=
  (by decide +kernel : ∀ t : Fin grid0.N, win0_9.index t = ![t.val, 0])
theorem index_10 : ∀ t : Fin cfg0.N, win0_10.index t = ![t.val, 0] :=
  (by decide +kernel : ∀ t : Fin grid0.N, win0_10.index t = ![t.val, 0])
theorem index_11 : ∀ t : Fin cfg0.N, win0_11.index t = ![t.val, 0] :=
  (by decide +kernel : ∀ t : Fin grid0.N, win0_11.index t = ![t.val, 0])
theorem index_13 : ∀ t : Fin cfg0.N, win0_13.index t = ![t.val, 0] :=
  (by decide +kernel : ∀ t : Fin grid0.N, win0_13.index t = ![t.val, 0])

/-- Row `r` of point `t`'s block. -/
abbrev row256 (t : Fin cfg0.N) (r : Fin 256) : Fin 32768 := ⟨256 * t.val + r.val, by
  have h : t.val < 128 := Nat.lt_of_lt_of_eq t.isLt (by decide +kernel : cfg0.N = 128)
  have := r.isLt; omega⟩

variable (t : Fin cfg0.N)

theorem x0_apply (r : Fin 256) (k : Fin 1024) : iblk m c 0 t (ix2 r k)
    = Cert.LatentIn.inp (m ((c : Thread nD τ).loc main_arg0)) (row256 t r) k := by
  rw [← host0_apply m c]
  blk_simp [iblk]
  congr 1
  blk_ext [index_0]

theorem x1_apply (k : Fin 1024) : iblk m c 1 t (ix2 (0 : Fin 1) k)
    = m ((c : Thread nD τ).loc main_arg1) (ix1 k) := by
  rw [← host1_apply m c]
  blk_simp [iblk]
  congr 1
  blk_ext [index_1]

theorem x2_apply (k : Fin 1024) (j : Fin 896) : iblk m c 2 t (ix2 k j)
    = wide m c k j := by
  unfold wide
  blk_simp [iblk]
  congr 1
  blk_ext [index_2]

theorem x3_apply (k : Fin 1024) (q : Fin 2048) : iblk m c 3 t (ix2 k q)
    = m ((c : Thread nD τ).loc main_arg2) (ix2 k ⟨704 + q.val, by omega⟩) := by
  rw [← host3_apply m c]
  blk_simp [iblk]
  congr 1
  blk_ext [index_3]

theorem x4_apply (q : Fin 384) : iblk m c 4 t (ix2 (0 : Fin 1) q)
    = m ((c : Thread nD τ).loc main_arg3) (ix1 q) := by
  rw [← host4_apply m c]
  blk_simp [iblk]
  congr 1
  blk_ext [index_4]

theorem x5_apply (q : Fin 256) : iblk m c 5 t (ix2 (0 : Fin 1) q)
    = m ((c : Thread nD τ).loc main_arg4) (ix1 q) := by
  rw [← host5_apply m c]
  blk_simp [iblk]
  congr 1
  blk_ext [index_5]

theorem x6_apply (r : Fin 256) (q : Fin 128) : iblk m c 6 t (ix2 r q)
    = Cert.LatentIn.ang (m ((c : Thread nD τ).loc main_arg5)) (row256 t r) ⟨q.val % 32, by omega⟩ := by
  unfold Cert.LatentIn.ang
  rw [← host6_apply m c _ q]
  blk_simp [iblk]
  congr 1
  blk_ext [index_6]

theorem x7_apply (r : Fin 256) (q : Fin 128) : iblk m c 7 t (ix2 r q)
    = Cert.LatentIn.ang (m ((c : Thread nD τ).loc main_arg6)) (row256 t r) ⟨q.val % 32, by omega⟩ := by
  unfold Cert.LatentIn.ang
  rw [← host7_apply m c _ q]
  blk_simp [iblk]
  congr 1
  blk_ext [index_7]

theorem prod_apply (r : Fin 256) (j : Fin 896) : k0_pay3 (iblk m c 0 t) (iblk m c 1 t) (iblk m c 2 t) (ix2 r j)
    = ∑ k : Fin 1024, Cert.LatentIn.row (m ((c : Thread nD τ).loc main_arg0)) (m ((c : Thread nD τ).loc main_arg1)) (row256 t r) k * wide m c k j := by
  unfold k0_pay3 k0_pay2 Cert.LatentIn.row
  pointwise []
  simp only [x0_apply, x1_apply, x2_apply]

theorem prod_last_apply (r : Fin 256) (q : Fin 2048) : k0_pay4 (iblk m c 0 t) (iblk m c 1 t) (iblk m c 3 t) (ix2 r q)
    = Cert.LatentIn.prod (m ((c : Thread nD τ).loc main_arg0)) (m ((c : Thread nD τ).loc main_arg1)) (m ((c : Thread nD τ).loc main_arg2)) (row256 t r) ⟨704 + q.val, by omega⟩ := by
  unfold k0_pay4 k0_pay2 Cert.LatentIn.prod Cert.LatentIn.row
  pointwise []
  simp only [x0_apply, x1_apply, x3_apply]

theorem cqn_apply (r : Fin 256) (q : Fin 384) : out0_8 (iblk m c 0 t) (iblk m c 1 t) (iblk m c 2 t) (iblk m c 3 t) (iblk m c 4 t) (iblk m c 5 t) (iblk m c 6 t) (iblk m c 7 t) (ix2 r q)
    = Cert.LatentIn.cqn (m ((c : Thread nD τ).loc main_arg0)) (m ((c : Thread nD τ).loc main_arg1)) (m ((c : Thread nD τ).loc main_arg2)) (m ((c : Thread nD τ).loc main_arg3)) (row256 t r) q := by
  have e : out0_8 (iblk m c 0 t) (iblk m c 1 t) (iblk m c 2 t) (iblk m c 3 t) (iblk m c 4 t) (iblk m c 5 t) (iblk m c 6 t) (iblk m c 7 t)
      = k0_pay5 (iblk m c 0 t) (iblk m c 1 t) (iblk m c 2 t) (iblk m c 4 t) := by
    unfold out0_8
    rw [View.canon_unit_zero (by decide)]
    simp only [r0_0, r0_1, r0_2, r0_3, r0_4, r0_6, r0_7]
    repeat rw [View.ld_unit_zero (by decide)]
  rw [e]
  unfold k0_pay5 Cert.LatentIn.cqn Cert.LatentIn.prod
  pointwise []
  simp only [prod_apply, x4_apply, host2_first]

theorem ckv_apply (r : Fin 256) (q : Fin 256) : out0_9 (iblk m c 0 t) (iblk m c 1 t) (iblk m c 2 t) (iblk m c 3 t) (iblk m c 4 t) (iblk m c 5 t) (iblk m c 6 t) (iblk m c 7 t) (ix2 r q)
    = Cert.LatentIn.ckv (m ((c : Thread nD τ).loc main_arg0)) (m ((c : Thread nD τ).loc main_arg1)) (m ((c : Thread nD τ).loc main_arg2)) (m ((c : Thread nD τ).loc main_arg4)) (row256 t r) q := by
  have e : out0_9 (iblk m c 0 t) (iblk m c 1 t) (iblk m c 2 t) (iblk m c 3 t) (iblk m c 4 t) (iblk m c 5 t) (iblk m c 6 t) (iblk m c 7 t)
      = k0_pay6 (k0_pay3 (iblk m c 0 t) (iblk m c 1 t) (iblk m c 2 t)) (iblk m c 5 t) := by
    unfold out0_9 k0_pay14
    rw [View.canon_unit_zero (by decide)]
    simp only [r0_0, r0_1, r0_2, r0_3, r0_4, r0_6, r0_7]
    repeat rw [View.ld_unit_zero (by decide)]
  rw [e]
  unfold k0_pay6 Cert.LatentIn.ckv Cert.LatentIn.prod
  pointwise []
  simp only [prod_apply, x5_apply, host2_second]

theorem kr1_apply (r : Fin 256) (q : Fin 128) : out0_10 (iblk m c 0 t) (iblk m c 1 t) (iblk m c 2 t) (iblk m c 3 t) (iblk m c 4 t) (iblk m c 5 t) (iblk m c 6 t) (iblk m c 7 t) (ix2 r q)
    = Cert.LatentIn.kr1 (m ((c : Thread nD τ).loc main_arg0)) (m ((c : Thread nD τ).loc main_arg1)) (m ((c : Thread nD τ).loc main_arg2)) (m ((c : Thread nD τ).loc main_arg5)) (m ((c : Thread nD τ).loc main_arg6)) (row256 t r) ⟨q.val % 32, by omega⟩ := by
  have e : out0_10 (iblk m c 0 t) (iblk m c 1 t) (iblk m c 2 t) (iblk m c 3 t) (iblk m c 4 t) (iblk m c 5 t) (iblk m c 6 t) (iblk m c 7 t)
      = k0_pay9 (k0_pay3 (iblk m c 0 t) (iblk m c 1 t) (iblk m c 2 t)) (iblk m c 6 t) (iblk m c 7 t) := by
    unfold out0_10 k0_pay14
    rw [View.canon_unit_zero (by decide)]
    simp only [r0_0, r0_1, r0_2, r0_3, r0_4, r0_6, r0_7]
    repeat rw [View.ld_unit_zero (by decide)]
  rw [e]
  unfold k0_pay9 k0_pay7 k0_pay8 Cert.LatentIn.kr1 Cert.LatentIn.prod
  pointwise []
  simp only [prod_apply, x6_apply, x7_apply, host2_third, host2_fourth]

theorem kr2_apply (r : Fin 256) (q : Fin 128) : out0_11 (iblk m c 0 t) (iblk m c 1 t) (iblk m c 2 t) (iblk m c 3 t) (iblk m c 4 t) (iblk m c 5 t) (iblk m c 6 t) (iblk m c 7 t) (ix2 r q)
    = Cert.LatentIn.kr2 (m ((c : Thread nD τ).loc main_arg0)) (m ((c : Thread nD τ).loc main_arg1)) (m ((c : Thread nD τ).loc main_arg2)) (m ((c : Thread nD τ).loc main_arg5)) (m ((c : Thread nD τ).loc main_arg6)) (row256 t r) ⟨q.val % 32, by omega⟩ := by
  have e : out0_11 (iblk m c 0 t) (iblk m c 1 t) (iblk m c 2 t) (iblk m c 3 t) (iblk m c 4 t) (iblk m c 5 t) (iblk m c 6 t) (iblk m c 7 t)
      = k0_pay10 (k0_pay3 (iblk m c 0 t) (iblk m c 1 t) (iblk m c 2 t)) (iblk m c 6 t) (iblk m c 7 t) := by
    unfold out0_11 k0_pay14
    rw [View.canon_unit_zero (by decide)]
    simp only [r0_0, r0_1, r0_2, r0_3, r0_4, r0_6, r0_7]
    repeat rw [View.ld_unit_zero (by decide)]
  rw [e]
  unfold k0_pay10 k0_pay7 k0_pay8 Cert.LatentIn.kr2 Cert.LatentIn.prod
  pointwise []
  simp only [prod_apply, x6_apply, x7_apply, host2_third, host2_fourth]

theorem sz_apply (r : Fin 256) (q : Fin 2048) : out0_13 (iblk m c 0 t) (iblk m c 1 t) (iblk m c 2 t) (iblk m c 3 t) (iblk m c 4 t) (iblk m c 5 t) (iblk m c 6 t) (iblk m c 7 t) (ix2 r q)
    = Cert.LatentIn.sz (m ((c : Thread nD τ).loc main_arg0)) (m ((c : Thread nD τ).loc main_arg1)) (m ((c : Thread nD τ).loc main_arg2)) (row256 t r) q := by
  have e : out0_13 (iblk m c 0 t) (iblk m c 1 t) (iblk m c 2 t) (iblk m c 3 t) (iblk m c 4 t) (iblk m c 5 t) (iblk m c 6 t) (iblk m c 7 t)
      = k0_pay1 (k0_pay4 (iblk m c 0 t) (iblk m c 1 t) (iblk m c 3 t)) (k0_pay12 (k0_pay4 (iblk m c 0 t) (iblk m c 1 t) (iblk m c 3 t))) k0_pay13 := by
    unfold out0_13 k0_pay15
    rw [View.canon_unit_zero (by decide)]
    simp only [r0_0, r0_1, r0_2, r0_3, r0_4, r0_6, r0_7]
    repeat rw [View.ld_unit_zero (by decide)]
  rw [e]
  unfold k0_pay1 k0_pay12 k0_pay13 Cert.LatentIn.sz
  pointwise []
  simp only [prod_last_apply]

theorem arr_cqn : (dats m 0 c).arrAt 8 cfg0.N = fun y => Cert.LatentIn.cqn (m ((c : Thread nD τ).loc main_arg0)) (m ((c : Thread nD τ).loc main_arg1)) (m ((c : Thread nD τ).loc main_arg2)) (m ((c : Thread nD τ).loc main_arg3)) (y 0) (y 1) := by
  refine Dat.arrAt_eq_of_covers (dats m 0 c) 8 _ (by decide +kernel) fun t hf y => ?_
  blk_simp
  rw [after0_8]
  obtain ⟨r, q, rfl⟩ : ∃ (r : Fin 256) (q : Fin 384), y = ix2 r q := ⟨y 0, y 1, by funext d; fin_cases d <;> rfl⟩
  have hy : (win0_8.blk t).view.emb (ix2 r q) = ix2 (row256 t r) q := by blk_ext [index_8]
  rw [hy]
  exact cqn_apply m c t r q

theorem arr_ckv : (dats m 0 c).arrAt 9 cfg0.N = fun y => Cert.LatentIn.ckv (m ((c : Thread nD τ).loc main_arg0)) (m ((c : Thread nD τ).loc main_arg1)) (m ((c : Thread nD τ).loc main_arg2)) (m ((c : Thread nD τ).loc main_arg4)) (y 0) (y 1) := by
  refine Dat.arrAt_eq_of_covers (dats m 0 c) 9 _ (by decide +kernel) fun t hf y => ?_
  blk_simp
  rw [after0_9]
  obtain ⟨r, q, rfl⟩ : ∃ (r : Fin 256) (q : Fin 256), y = ix2 r q := ⟨y 0, y 1, by funext d; fin_cases d <;> rfl⟩
  have hy : (win0_9.blk t).view.emb (ix2 r q) = ix2 (row256 t r) q := by blk_ext [index_9]
  rw [hy]
  exact ckv_apply m c t r q

theorem arr_kr1 : (dats m 0 c).arrAt 10 cfg0.N = fun y => Cert.LatentIn.four (Cert.LatentIn.kr1 (m ((c : Thread nD τ).loc main_arg0)) (m ((c : Thread nD τ).loc main_arg1)) (m ((c : Thread nD τ).loc main_arg2)) (m ((c : Thread nD τ).loc main_arg5)) (m ((c : Thread nD τ).loc main_arg6)) (y 0)) (y 1) := by
  refine Dat.arrAt_eq_of_covers (dats m 0 c) 10 _ (by decide +kernel) fun t hf y => ?_
  blk_simp
  rw [after0_10]
  obtain ⟨r, q, rfl⟩ : ∃ (r : Fin 256) (q : Fin 128), y = ix2 r q := ⟨y 0, y 1, by funext d; fin_cases d <;> rfl⟩
  have hy : (win0_10.blk t).view.emb (ix2 r q) = ix2 (row256 t r) q := by blk_ext [index_10]
  rw [hy]
  exact kr1_apply m c t r q

theorem arr_kr2 : (dats m 0 c).arrAt 11 cfg0.N = fun y => Cert.LatentIn.four (Cert.LatentIn.kr2 (m ((c : Thread nD τ).loc main_arg0)) (m ((c : Thread nD τ).loc main_arg1)) (m ((c : Thread nD τ).loc main_arg2)) (m ((c : Thread nD τ).loc main_arg5)) (m ((c : Thread nD τ).loc main_arg6)) (y 0)) (y 1) := by
  refine Dat.arrAt_eq_of_covers (dats m 0 c) 11 _ (by decide +kernel) fun t hf y => ?_
  blk_simp
  rw [after0_11]
  obtain ⟨r, q, rfl⟩ : ∃ (r : Fin 256) (q : Fin 128), y = ix2 r q := ⟨y 0, y 1, by funext d; fin_cases d <;> rfl⟩
  have hy : (win0_11.blk t).view.emb (ix2 r q) = ix2 (row256 t r) q := by blk_ext [index_11]
  rw [hy]
  exact kr2_apply m c t r q

theorem arr_sz : (dats m 0 c).arrAt 13 cfg0.N = fun y => Cert.LatentIn.sz (m ((c : Thread nD τ).loc main_arg0)) (m ((c : Thread nD τ).loc main_arg1)) (m ((c : Thread nD τ).loc main_arg2)) (y 0) (y 1) := by
  refine Dat.arrAt_eq_of_covers (dats m 0 c) 13 _ (by decide +kernel) fun t hf y => ?_
  blk_simp
  rw [after0_13]
  obtain ⟨r, q, rfl⟩ : ∃ (r : Fin 256) (q : Fin 2048), y = ix2 r q := ⟨y 0, y 1, by funext d; fin_cases d <;> rfl⟩
  have hy : (win0_13.blk t).view.emb (ix2 r q) = ix2 (row256 t r) q := by blk_ext [index_13]
  rw [hy]
  exact sz_apply m c t r q

/-- The first result, by batch and position. -/
def val_cqn : FVec Ideal ⟨3, ![16, 2048, 384]⟩ .bf16 := fun y => Cert.LatentIn.cqn (m ((c : Thread nD τ).loc main_arg0)) (m ((c : Thread nD τ).loc main_arg1)) (m ((c : Thread nD τ).loc main_arg2)) (m ((c : Thread nD τ).loc main_arg3)) (Cert.LatentIn.pos (y 0) (y 1)) (y 2)

theorem res_cqn : afterTail₀ cfgs (dats m) 0 (V0 m) [hostOps1] c main_v27 = val_cqn m c := by
  have hW := withArrays_arr (cfgs 0).spec launch0.win.arr_inj c (V0 m c) (fun w => (dats m 0 c).arrAt w (cfgs 0).N) 8
  rw [arr_cqn] at hW
  unfold afterTail₀
  generalize withArrays (cfgs 0).spec c (V0 m c) (fun w => (dats m 0 c).arrAt w (cfgs 0).N) = W at hW ⊢
  replace hW : W (Proc.devRef .tc main_v23_0) = _ := hW
  funext y
  obtain ⟨i, j, q, rfl⟩ : ∃ (i : Fin 16) (j : Fin 2048) (q : Fin 384), y = ix3 i j q := ⟨y 0, y 1, y 2, by funext d; fin_cases d <;> rfl⟩
  show StableHlo.after hostOps1 W (Proc.devRef .tc main_v27) (ix3 i j q) = _
  after_reads_at
  rw [hW]
  rfl

/-- The second result, by batch and position. -/
def val_ckv : FVec Ideal ⟨3, ![16, 2048, 256]⟩ .f32 := fun y => Cert.LatentIn.ckv (m ((c : Thread nD τ).loc main_arg0)) (m ((c : Thread nD τ).loc main_arg1)) (m ((c : Thread nD τ).loc main_arg2)) (m ((c : Thread nD τ).loc main_arg4)) (Cert.LatentIn.pos (y 0) (y 1)) (y 2)

theorem res_ckv : afterTail₀ cfgs (dats m) 0 (V0 m) [hostOps1] c main_v28 = val_ckv m c := by
  have hW := withArrays_arr (cfgs 0).spec launch0.win.arr_inj c (V0 m c) (fun w => (dats m 0 c).arrAt w (cfgs 0).N) 9
  rw [arr_ckv] at hW
  unfold afterTail₀
  generalize withArrays (cfgs 0).spec c (V0 m c) (fun w => (dats m 0 c).arrAt w (cfgs 0).N) = W at hW ⊢
  replace hW : W (Proc.devRef .tc main_v23_1) = _ := hW
  funext y
  obtain ⟨i, j, q, rfl⟩ : ∃ (i : Fin 16) (j : Fin 2048) (q : Fin 256), y = ix3 i j q := ⟨y 0, y 1, y 2, by funext d; fin_cases d <;> rfl⟩
  show StableHlo.after hostOps1 W (Proc.devRef .tc main_v28) (ix3 i j q) = _
  after_reads_at
  rw [hW]
  rfl

/-- The fourth result, by batch and position. -/
def val_sz : FVec Ideal ⟨3, ![16, 2048, 2048]⟩ .bf16 := fun y => Cert.LatentIn.sz (m ((c : Thread nD τ).loc main_arg0)) (m ((c : Thread nD τ).loc main_arg1)) (m ((c : Thread nD τ).loc main_arg2)) (Cert.LatentIn.pos (y 0) (y 1)) (y 2)

theorem res_sz : afterTail₀ cfgs (dats m) 0 (V0 m) [hostOps1] c main_v30 = val_sz m c := by
  have hW := withArrays_arr (cfgs 0).spec launch0.win.arr_inj c (V0 m c) (fun w => (dats m 0 c).arrAt w (cfgs 0).N) 13
  rw [arr_sz] at hW
  unfold afterTail₀
  generalize withArrays (cfgs 0).spec c (V0 m c) (fun w => (dats m 0 c).arrAt w (cfgs 0).N) = W at hW ⊢
  replace hW : W (Proc.devRef .tc main_v23_5) = _ := hW
  funext y
  obtain ⟨i, j, q, rfl⟩ : ∃ (i : Fin 16) (j : Fin 2048) (q : Fin 2048), y = ix3 i j q := ⟨y 0, y 1, y 2, by funext d; fin_cases d <;> rfl⟩
  show StableHlo.after hostOps1 W (Proc.devRef .tc main_v30) (ix3 i j q) = _
  after_reads_at
  rw [hW]
  rfl

/-- The third result, by batch and position: its two halves side by side. -/
def val_kr : FVec Ideal ⟨3, ![16, 2048, 64]⟩ .f32 := fun y =>
  if h : (y 2).val < 32 then Cert.LatentIn.kr1 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos (y 0) (y 1)) ⟨(y 2).val, h⟩
  else Cert.LatentIn.kr2 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos (y 0) (y 1)) ⟨(y 2).val - 32, by have h2 : (y 2).val < 64 := (y 2).isLt; omega⟩

theorem tail_left (W : Valuation τ sig (Elt Ideal)) (i : Fin 16) (j : Fin 2048) (q : Fin 64) (h : q.val < 32) :
    StableHlo.after hostOps1 W (Proc.devRef .tc main_v29) (ix3 i j q)
      = W (Proc.devRef .tc main_v23_2) (ix2 (Cert.LatentIn.pos i j) (⟨q.val, by omega⟩ : Fin 128)) := by
  after_reads_at
  rw [dif_pos h]
  unfold upto
  after_reads_at

theorem tail_right (W : Valuation τ sig (Elt Ideal)) (i : Fin 16) (j : Fin 2048) (q : Fin 64) (h : ¬q.val < 32) :
    StableHlo.after hostOps1 W (Proc.devRef .tc main_v29) (ix3 i j q)
      = W (Proc.devRef .tc main_v23_3) (ix2 (Cert.LatentIn.pos i j) (⟨q.val - 32, by omega⟩ : Fin 128)) := by
  after_reads_at
  rw [dif_neg h]
  unfold upto
  after_reads_at

theorem res_kr : afterTail₀ cfgs (dats m) 0 (V0 m) [hostOps1] c main_v29 = val_kr m c := by
  have hW := withArrays_arr (cfgs 0).spec launch0.win.arr_inj c (V0 m c) (fun w => (dats m 0 c).arrAt w (cfgs 0).N) 10
  have hW' := withArrays_arr (cfgs 0).spec launch0.win.arr_inj c (V0 m c) (fun w => (dats m 0 c).arrAt w (cfgs 0).N) 11
  rw [arr_kr1] at hW
  rw [arr_kr2] at hW'
  unfold afterTail₀
  generalize withArrays (cfgs 0).spec c (V0 m c) (fun w => (dats m 0 c).arrAt w (cfgs 0).N) = W at hW hW' ⊢
  replace hW : W (Proc.devRef .tc main_v23_2) = _ := hW
  replace hW' : W (Proc.devRef .tc main_v23_3) = _ := hW'
  funext y
  obtain ⟨i, j, q, rfl⟩ : ∃ (i : Fin 16) (j : Fin 2048) (q : Fin 64), y = ix3 i j q := ⟨y 0, y 1, y 2, by funext d; fin_cases d <;> rfl⟩
  by_cases h : q.val < 32
  · refine (tail_left W i j q h).trans ?_
    rw [hW]
    have hv : val_kr m c (ix3 i j q) = Cert.LatentIn.kr1 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos i j) ⟨q.val, h⟩ := dif_pos h
    rw [hv]
    exact congrArg (Cert.LatentIn.kr1 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos i j)) (Fin.ext (Nat.mod_eq_of_lt h))
  · have h2 : q.val - 32 < 32 := by have := q.isLt; omega
    refine (tail_right W i j q h).trans ?_
    rw [hW']
    have hv : val_kr m c (ix3 i j q) = Cert.LatentIn.kr2 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos i j) ⟨q.val - 32, h2⟩ := dif_neg h
    rw [hv]
    exact congrArg (Cert.LatentIn.kr2 (m ((c : Thread nD τ).loc main_arg0)) (m ((c : Thread nD τ).loc main_arg1)) (m ((c : Thread nD τ).loc main_arg2)) (m ((c : Thread nD τ).loc main_arg5)) (m ((c : Thread nD τ).loc main_arg6)) (Cert.LatentIn.pos i j)) (Fin.ext (Nat.mod_eq_of_lt h2))

/-- The run: the four results and the arguments. -/
theorem run (g : Dev nD → PrngReg) : θ_run defs (onTc (τ := τ) (main (F := Ideal))) ⟨m, fun _ => 0, g⟩ (fun r => ∀ c : Dev nD,
    r.2.mem ((c.tc : Thread nD τ).loc main_v27) = val_cqn m c
      ∧ r.2.mem ((c.tc : Thread nD τ).loc main_v28) = val_ckv m c
      ∧ r.2.mem ((c.tc : Thread nD τ).loc main_v29) = val_kr m c
      ∧ r.2.mem ((c.tc : Thread nD τ).loc main_v30) = val_sz m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h.1 c).2 main_v27 (mem_restRefs_of main_v27 (by decide) (by decide))).trans (res_cqn m c),
     ((h.1 c).2 main_v28 (mem_restRefs_of main_v28 (by decide) (by decide))).trans (res_ckv m c),
     ((h.1 c).2 main_v29 (mem_restRefs_of main_v29 (by decide) (by decide))).trans (res_kr m c),
     ((h.1 c).2 main_v30 (mem_restRefs_of main_v30 (by decide) (by decide))).trans (res_sz m c), h.2 c⟩)
    (θ_run_and (run_main m g) (unchanged m g))

end Cert.Kernel6Ideal.Out

namespace Cert.Proof

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Kernel and reference compute the same input projection. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨_, _, _, _, Cert.Kernel6Ideal.Out.run m g, ?_⟩
  refine (θ_run Cert.Reference6Ideal.defs _ _).mono (fun _ h c => ⟨(h c).1.trans ?_, (h c).2.1.trans ?_, (h c).2.2.1.trans ?_, (h c).2.2.2.1.trans ?_, (h c).2.2.2.2⟩)
    (Cert.Reference6Ideal.Value.run (F := Ideal) m' g')
  on_goal 3 => unfold Cert.Reference6Ideal.Value.res_main_v34
  all_goals
    obtain ⟨h0, h1, h2, h3, h4, h5, h6⟩ := hagree c
    simp only [h0, h1, h2, h3, h4, h5, h6]
  · funext y
    obtain ⟨i, j, q, rfl⟩ : ∃ (i : Fin 16) (j : Fin 2048) (q : Fin 384), y = ix3 i j q := ⟨y 0, y 1, y 2, by funext d; fin_cases d <;> rfl⟩
    unfold Cert.Kernel6Ideal.Out.val_cqn Cert.LatentIn.cqn Cert.LatentIn.prod Cert.LatentIn.row
    dsimp only [ix3]
    simp only [Cert.LatentIn.inp_pos, Cert.LatentIn.ang_pos]
    pointwise [zero_sub]
  · funext y
    obtain ⟨i, j, q, rfl⟩ : ∃ (i : Fin 16) (j : Fin 2048) (q : Fin 256), y = ix3 i j q := ⟨y 0, y 1, y 2, by funext d; fin_cases d <;> rfl⟩
    unfold Cert.Kernel6Ideal.Out.val_ckv Cert.LatentIn.ckv Cert.LatentIn.prod Cert.LatentIn.row
    dsimp only [ix3]
    simp only [Cert.LatentIn.inp_pos, Cert.LatentIn.ang_pos]
    pointwise [zero_sub]
  · funext y
    obtain ⟨i, j, q, rfl⟩ : ∃ (i : Fin 16) (j : Fin 2048) (q : Fin 64), y = ix3 i j q := ⟨y 0, y 1, y 2, by funext d; fin_cases d <;> rfl⟩
    unfold Cert.Kernel6Ideal.Out.val_kr Cert.LatentIn.kr1 Cert.LatentIn.kr2 Cert.LatentIn.prod Cert.LatentIn.row
    dsimp only [ix3]
    simp only [Cert.LatentIn.inp_pos, Cert.LatentIn.ang_pos]
    pointwise [zero_sub]
    simp only [h0, h1, h2, h5, h6, ← Nat.add_assoc, Nat.reduceAdd]
  · funext y
    obtain ⟨i, j, q, rfl⟩ : ∃ (i : Fin 16) (j : Fin 2048) (q : Fin 2048), y = ix3 i j q := ⟨y 0, y 1, y 2, by funext d; fin_cases d <;> rfl⟩
    unfold Cert.Kernel6Ideal.Out.val_sz Cert.LatentIn.sz Cert.LatentIn.prod Cert.LatentIn.row
    dsimp only [ix3]
    simp only [Cert.LatentIn.inp_pos, Cert.LatentIn.ang_pos]
    pointwise [zero_sub]

end Cert.Proof

end
-- ==== Proof.lean ====
/-
  The certificate: each call, its idealization and its reference run to the end and leave their arguments alone, the one
  named constant is the attention's mask, and over exact numbers each call and its reference compute the same.
-/
module

public import proofs.«01_k».proof.Defs
public import proofs.«01_k».proof.Proof.Frames
public import proofs.«01_k».proof.Proof.Value
public import proofs.«01_k».proof.Proof.GluProj
public import proofs.«01_k».proof.Proof.OutProj
public import proofs.«01_k».proof.Proof.InProj
public import proofs.«01_k».proof.Proof.GatedOut
public import proofs.«01_k».proof.Proof.LatentIn

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    pre_facts, frame_kernel, frame_ideal, fun m g _ => frame_ideal m g trivial, frame_reference,
    fun m g _ => frame_reference m g trivial,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    preserves, algebraic, trivial, algebraic2, trivial, algebraic3, trivial, algebraic4, trivial, algebraic5, trivial, algebraic6⟩

end Cert.Proof

end
